-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x4096 .f32) (main_arg2 : FVec F S1x1024x8x128 .f32) (main_arg3 : FVec F S1x1024x8x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S1024x1024 : Shape := ⟨2, ![1024, 1024]⟩
abbrev S4x256x1024 : Shape := ⟨3, ![4, 256, 1024]⟩
abbrev S3x256x512 : Shape := ⟨3, ![3, 256, 512]⟩
abbrev S256x512 : Shape := ⟨2, ![256, 512]⟩
abbrev S256x1024 : Shape := ⟨2, ![256, 1024]⟩
abbrev S3 : Shape := ⟨1, ![3]⟩
abbrev S6 : Shape := ⟨1, ![6]⟩
abbrev S_ : Shape := ⟨0, ![]⟩
abbrev S2 : Shape := ⟨1, ![2]⟩
abbrev S1 : Shape := ⟨1, ![1]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1x256x1024 : Shape := ⟨3, ![1, 256, 1024]⟩
abbrev S1x256x512 : Shape := ⟨3, ![1, 256, 512]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x8x128, .f32⟩
  | .hbm, ⟨3, _⟩ => ⟨S1x1024x8x128, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1x1024x1024, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S4x256x1024, .bf16⟩
  | .local _ .vmem, ⟨4, _⟩ => ⟨S3x256x512, .bf16⟩
  | .local _ .vmem, ⟨5, _⟩ => ⟨S3x256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  ![0, v8.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_5 : BitVec 32 := 1024#32
  let v9 : BitVec 32 := Scalar.muli v2 c1024_i32_5
  let c0_i32_8 : BitVec 32 := 0#32
  ![v9.toNat, 0]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_10 : BitVec 32 := 1#32
  let v17 : BitVec 32 := Scalar.muli v5 c1_i32_10
  let v18 : BitVec 32 := Scalar.addi c0_i32_11 v17
  v18.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v19 : BitVec 32 := Scalar.muli v7 c1_i32_13
  let v20 : BitVec 32 := Scalar.addi c0_i32_14 v19
  v20.toNat
def k0_off3 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.addi v2 c0_i32_26
  let c4_i32_27 : BitVec 32 := 4#32
  let v56 : BitVec 32 := Scalar.addi v55 c4_i32_27
  let c4_i32_28 : BitVec 32 := 4#32
  let v57 : BitVec 32 := Scalar.remsi v56 c4_i32_28
  let c256_i32 : BitVec 32 := 256#32
  let v58 : BitVec 32 := Scalar.muli v57 c256_i32
  let v59 : Index := Scalar.indexCast v58
  let c0_29 : Index := 0#32
  ![v59.toNat, 0]
def k0_off3_at (r : Fin 4) : BitVec 32 :=
  if r.val < 2 then
    if r.val < 1 then
      0#32
    else
      4294967295#32
  else
    if r.val < 3 then
      1#32
    else
      2#32
def k0_dev3 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_138 : BitVec 32 := 1#32
  let v285 : BitVec 32 := Scalar.muli v7 c1_i32_138
  let v286 : BitVec 32 := Scalar.addi c0_i32_139 v285
  v286.toNat
def k0_dev4 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_148 : BitVec 32 := 1#32
  let v295 : BitVec 32 := Scalar.muli v5 c1_i32_148
  let v296 : BitVec 32 := Scalar.addi c0_i32_149 v295
  v296.toNat
def k0_dev5 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_295 : BitVec 32 := 1#32
  let v552 : BitVec 32 := Scalar.muli v7 c1_i32_295
  let v553 : BitVec 32 := Scalar.addi c0_i32_296 v552
  v553.toNat
def k0_dev6 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_444 : BitVec 32 := 1#32
  let v809 : BitVec 32 := Scalar.muli v5 c1_i32_444
  let v810 : BitVec 32 := Scalar.addi c0_i32_445 v809
  v810.toNat
def k0_dev7 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_593 : BitVec 32 := 1#32
  let v1066 : BitVec 32 := Scalar.muli v7 c1_i32_593
  let v1067 : BitVec 32 := Scalar.addi c0_i32_594 v1066
  v1067.toNat
def k0_dev8 (d0 : Dev nD) : Nat :=
  let c0_i32_632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_631 : BitVec 32 := 1#32
  let v1101 : BitVec 32 := Scalar.muli v5 c1_i32_631
  let v1102 : BitVec 32 := Scalar.addi c0_i32_632 v1101
  v1102.toNat
def k0_dev9 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_696 : BitVec 32 := 1#32
  let v1161 : BitVec 32 := Scalar.muli v7 c1_i32_696
  let v1162 : BitVec 32 := Scalar.addi c0_i32_697 v1161
  v1162.toNat
def k0_dev10 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_703 : BitVec 32 := 1#32
  let v1169 : BitVec 32 := Scalar.muli v7 c1_i32_703
  let v1170 : BitVec 32 := Scalar.addi c0_i32_704 v1169
  v1170.toNat
def k0_dev11 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_710 : BitVec 32 := 1#32
  let v1177 : BitVec 32 := Scalar.muli v5 c1_i32_710
  let v1178 : BitVec 32 := Scalar.addi c0_i32_711 v1177
  v1178.toNat
def k0_dev12 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_717 : BitVec 32 := 1#32
  let v1185 : BitVec 32 := Scalar.muli v5 c1_i32_717
  let v1186 : BitVec 32 := Scalar.addi c0_i32_718 v1185
  v1186.toNat
def k0_off4 (d0 : Dev nD) (c1_i32_721 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1193 : BitVec 32 := Scalar.addi v2 c1_i32_721
  let c4_i32_722 : BitVec 32 := 4#32
  let v1194 : BitVec 32 := Scalar.remsi v1193 c4_i32_722
  let c256_i32_723 : BitVec 32 := 256#32
  let v1195 : BitVec 32 := Scalar.muli v1194 c256_i32_723
  let v1200 : Index := Scalar.indexCast v1195
  let c0_729 : Index := 0#32
  ![v1200.toNat, 0]
def k0_off5 (d0 : Dev nD) (c3_i32_730 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1204 : BitVec 32 := Scalar.addi v2 c3_i32_730
  let c4_i32_731 : BitVec 32 := 4#32
  let v1205 : BitVec 32 := Scalar.remsi v1204 c4_i32_731
  let c256_i32_732 : BitVec 32 := 256#32
  let v1206 : BitVec 32 := Scalar.muli v1205 c256_i32_732
  let v1211 : Index := Scalar.indexCast v1206
  let c512_738 : Index := 512#32
  ![v1211.toNat, 512]
def k0_dev13 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_793 : BitVec 32 := 1#32
  let v1255 : BitVec 32 := Scalar.muli v7 c1_i32_793
  let v1256 : BitVec 32 := Scalar.addi c0_i32_794 v1255
  v1256.toNat
def k0_dev14 (d0 : Dev nD) : Nat :=
  let c0_i32_797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_796 : BitVec 32 := 1#32
  let v1261 : BitVec 32 := Scalar.muli v5 c1_i32_796
  let v1262 : BitVec 32 := Scalar.addi c0_i32_797 v1261
  v1262.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_798 : BitVec 32 := 256#32
  let v1267 : BitVec 32 := Scalar.muli v2 c256_i32_798
  let v1270 : Index := Scalar.indexCast v1267
  let c0_801 : Index := 0#32
  ![v1270.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_798 : BitVec 32 := 256#32
  let v1267 : BitVec 32 := Scalar.muli v2 c256_i32_798
  let v1276 : Index := Scalar.indexCast v1267
  let c512_804 : Index := 512#32
  ![v1276.toNat, 512]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x32x1024x1024, .f32⟩
  | .hbm, ⟨85, _⟩ => ⟨S_, .f32⟩
  | .hbm, ⟨86, _⟩ => ⟨S1x32x1024x1024, .f32⟩
  | .hbm, ⟨87, _⟩ => ⟨S1x32x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x32x1024x1024, .i1⟩
  | .hbm, ⟨92, _⟩ => ⟨S1x32x1024x1024, .f32⟩
  | .hbm, ⟨93, _⟩ => ⟨S1x32x1024x1024, .f32⟩
  | .hbm, ⟨94, _⟩ => ⟨S_, .f32⟩
  | .hbm, ⟨95, _⟩ => ⟨S1x32x1024, .f32⟩
  | .hbm, ⟨96, _⟩ => ⟨S1x32x1024x1, .f32⟩
  | .hbm, ⟨97, _⟩ => ⟨S1x32x1024x1024, .f32⟩
  | .hbm, ⟨98, _⟩ => ⟨S1x32x1024x1024, .f32⟩
  | .hbm, ⟨99, _⟩ => ⟨S1x32x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x32x1024, .f32⟩
  | .hbm, ⟨105, _⟩ => ⟨S1x32x1024x1, .f32⟩
  | .hbm, ⟨106, _⟩ => ⟨S_, .f32⟩
  | .hbm, ⟨107, _⟩ => ⟨S_, .f32⟩
  | .hbm, ⟨108, _⟩ => ⟨S1x32x1024x1, .i1⟩
  | .hbm, ⟨109, _⟩ => ⟨S1x32x1024x1, .f32⟩
  | .hbm, ⟨110, _⟩ => ⟨S1x32x1024x1, .f32⟩
  | .hbm, ⟨111, _⟩ => ⟨S1x32x1024x1024, .f32⟩
  | .hbm, ⟨112, _⟩ => ⟨S1x32x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x32x1024x1024, .i1⟩
  | .hbm, ⟨117, _⟩ => ⟨S1x32x1024x1024, .f32⟩
  | .hbm, ⟨118, _⟩ => ⟨S1x32x1024x1024, .f32⟩
  | .hbm, ⟨119, _⟩ => ⟨S1x32x128x1024, .f32⟩
  | .hbm, ⟨120, _⟩ => ⟨S1x1024x32x128, .f32⟩
  | .hbm, ⟨121, _⟩ => ⟨S1x1024x4096, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Values.lean ====
/-
  What the kernel computes, as plain functions of what the devices hold at the start: the devices' places in the
  ring, one head of the attention, one device's partial product for one chunk of rows, the sums that travel round
  the ring in both directions, and the result.
-/
module

public import proofs.«01_k».proof.Proof.Gen.KernelIdeal.Skeleton
public import proofs.«01_k».proof.Proof.Gen.KernelIdeal.Launch

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The ring -/

/-- The device to the right. -/
def nxt (c : Dev nD) : Dev nD := ⟨(c.val + 1) % 4, Nat.mod_lt _ (by decide)⟩
/-- The device to the left. -/
def prv (c : Dev nD) : Dev nD := ⟨(c.val + 3) % 4, Nat.mod_lt _ (by decide)⟩

theorem nxt_prv (c : Dev nD) : nxt (prv c) = c := by revert c; decide
theorem prv_nxt (c : Dev nD) : prv (nxt c) = c := by revert c; decide
/-- The ring as a permutation of the devices. -/
def ring : Dev nD ≃ Dev nD := ⟨nxt, prv, prv_nxt, nxt_prv⟩

/-- The device each signal and each remote copy names, by its place in the ring. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = prv c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel

/-! ## The offsets of the kernel's accesses, in closed form -/

theorem off1_eq (c : Dev nD) : k0_off1 c = ![0, 1024 * c.val] := by revert c; decide +kernel
theorem off2_eq (c : Dev nD) : k0_off2 c = ![1024 * c.val, 0] := by revert c; decide +kernel

/-- The word with which slot `s` of the accumulator displaces a device's own place: 0, -1, 1, 2. -/
def slotWord : Fin 4 → BitVec 32 := fun s => match s with
  | 0 => 0#32 | 1 => 4294967295#32 | 2 => 1#32 | 3 => 2#32
/-- The chunk of rows whose partial product device `c` keeps in slot `s`. -/
def chunk (c : Dev nD) : Fin 4 → Dev nD := fun s => match s with
  | 0 => c | 1 => prv c | 2 => nxt c | 3 => nxt (nxt c)

theorem off3_eq (c : Dev nD) (s : Fin 4) : k0_off3 c (slotWord s) = ![256 * (chunk c s).val, 0] := by
  revert c s; decide +kernel
theorem off4_1 (c : Dev nD) : k0_off4 c 1#32 = ![256 * (nxt c).val, 0] := by revert c; decide +kernel
theorem off4_2 (c : Dev nD) : k0_off4 c 2#32 = ![256 * (nxt (nxt c)).val, 0] := by revert c; decide +kernel
theorem off4_3 (c : Dev nD) : k0_off4 c 3#32 = ![256 * (prv c).val, 0] := by revert c; decide +kernel
theorem off5_3 (c : Dev nD) : k0_off5 c 3#32 = ![256 * (prv c).val, 512] := by revert c; decide +kernel
theorem off5_2 (c : Dev nD) : k0_off5 c 2#32 = ![256 * (nxt (nxt c)).val, 512] := by revert c; decide +kernel
theorem off5_1 (c : Dev nD) : k0_off5 c 1#32 = ![256 * (nxt c).val, 512] := by revert c; decide +kernel
theorem off6_eq (c : Dev nD) : k0_off6 c = ![256 * c.val, 0] := by revert c; decide +kernel
theorem off7_eq (c : Dev nD) : k0_off7 c = ![256 * c.val, 512] := by revert c; decide +kernel

/-! ## Columns and rows -/

theorem inb_col (h : Fin 8) : ∀ a, (![0, 128 * h.val] : Fin 2 → Nat) a + S1024x128.size a ≤ S1024x1024.size a := by
  revert h; decide +kernel
theorem inb_ctx (h : Fin 8) : ∀ a, (![0, 128 * h.val] : Fin 2 → Nat) a + S256x128.size a ≤ S256x1024.size a := by
  revert h; decide +kernel
theorem slices_col (h : Fin 8) : S256x1024.Slices ![0, 128 * h.val] S256x128 := by revert h; decide +kernel

/-- The 128 columns of head `h`, all rows. -/
def colOf {α : Type} (h : Fin 8) (X : S1024x1024.Idx → α) : S1024x128.Idx → α :=
  fun i => X ((Rect.unit (s := S1024x1024) ![0, 128 * h.val] S1024x128.size (inb_col h)).emb i)

/-- The 256 rows of `x` that slot `s` of device `c` is about. -/
theorem inb_row (c : Dev nD) (s : Fin 4) : ∀ a, k0_off3 c (slotWord s) a + S256x1024.size a ≤ S1024x1024.size a := by
  revert c s; decide +kernel
def rowsOf {α : Type} (c : Dev nD) (s : Fin 4) (X : S1024x1024.Idx → α) : S256x1024.Idx → α :=
  fun i => X ((Rect.unit (s := S1024x1024) (k0_off3 c (slotWord s)) S256x1024.size (inb_row c s)).emb i)

/-! ## One head -/

/-- The words of the rows' mask for the chunk at displacement `w` from device `c`. -/
def rowBase (c : Dev nD) (w : BitVec 32) : IVec S256x1024 32 :=
  broadcast S256x1024 (Scalar.muli (Scalar.remsi (Scalar.addi (Scalar.addi (Scalar.remsi (Scalar.divsi (Dev.word c) 1#32) 4#32) w) 4#32) 4#32) 256#32)
/-- Row numbers inside a chunk. -/
def rowIota : IVec S256x1024 32 := iota .tc S256x1024 32 [0] iota_S256x1024_d0_w32
/-- Which keys each row of the chunk attends to. -/
def maskV (c : Dev nD) (s : Fin 4) : IVec S256x1024 1 :=
  k0_pay10 (k0_pay8 k0_pay4 rowIota (rowBase c (slotWord s))) (k0_pay9 k0_pay4 rowIota (rowBase c (slotWord s)))

/-- The columns of head `h` of the queries. -/
def qh (h : Fin 8) (qc : FVec F S256x1024 .bf16) : FVec F S256x128 .bf16 :=
  extractStridedSlice S256x128 ![0, 128 * h.val] qc (slices_col h)

/-- One head's attention on 256 rows: exponentials of the masked scores, their sums, the weighted values, the quotient. -/
def headV (q : FVec F S256x128 .bf16) (mk : IVec S256x1024 1) (k v : Vec F S1024x128 .bf16) : FVec F S256x128 .bf16 :=
  have kk : FVec F S1024x128 .bf16 := shapeCast S1024x128 k shapeCasts_S1024x128_S1024x128
  have z : FVec F S256x1024 .f32 := constant S256x1024 .f32 0x00000000#32
  have s : FVec F S256x1024 .f32 := matmul dot_S256x128_S1024x128_S256x1024_1_1_0_0_n_n none q kk z
  have neg : FVec F S256x1024 .f32 := broadcast S256x1024 (Scalar.ofBits .f32 0xCE6E6B28#32 : F .f32)
  have w : FVec F S256x1024 .f32 := exp (select mk s neg)
  have d : FVec F S256 .f32 := multiReduction .add [1] S256 w 0x00000000#32 reduces_S256x1024_S256 (.inl rfl) rfl
  have d1 : FVec F S256x1 .f32 := shapeCast S256x1 d shapeCasts_S256_S256x1
  have wb : FVec F S256x1024 .bf16 := truncf .bf16 w bitsLt_bf16_f32
  have vv : FVec F S1024x128 .bf16 := shapeCast S1024x128 v shapeCasts_S1024x128_S1024x128
  have z2 : FVec F S256x128 .f32 := constant S256x128 .f32 0x00000000#32
  have o : FVec F S256x128 .f32 := matmul dot_S256x1024_S1024x128_S256x128_1_0_0_1_n_n none wb vv z2
  have dd : FVec F S256x128 .f32 := broadcastTo S256x128 d1 broadcasts_S256x1_S256x128
  have r : FVec F S256x128 .f32 := divf o dd
  have rb : FVec F S256x128 .bf16 := truncf .bf16 r bitsLt_bf16_f32
  shapeCast S256x128 rb shapeCasts_S256x128_S256x128

/-! ## What the devices hold at the start -/

/-- What the kernel's operands hold on every device: the rows, the two weight matrices whole, the device's keys and values. -/
structure Inp (F : FTy → Type) where
  x : Dev nD → S1024x1024.Idx → F .f32
  k : Dev nD → S1024x1024.Idx → F .bf16
  v : Dev nD → S1024x1024.Idx → F .bf16
  wq : Dev nD → S1024x4096.Idx → F .f32
  wo : Dev nD → S4096x1024.Idx → F .f32

variable (D : Inp F)

/-- The device's columns of the query weights and rows of the output weights, and their roundings. -/
def wqf (c : Dev nD) : S1024x1024.Idx → F .f32 :=
  fun i => D.wq c ((Rect.unit (s := S1024x4096) (k0_off1 c) S1024x1024.size (k0_off1_inb c)).emb i)
def wof (c : Dev nD) : S1024x1024.Idx → F .f32 :=
  fun i => D.wo c ((Rect.unit (s := S4096x1024) (k0_off2 c) S1024x1024.size (k0_off2_inb c)).emb i)
def wqb (c : Dev nD) : FVec F S1024x1024 .bf16 := k0_pay3 (k0_pay2 (wqf D c))
def wob (c : Dev nD) : FVec F S1024x1024 .bf16 := k0_pay23 (wof D c)

/-- The scaled queries of slot `s`. -/
def qcV (c : Dev nD) (s : Fin 4) : FVec F S256x1024 .bf16 := k0_pay5 (rowsOf c s (D.x c)) (wqb D c)
/-- Head `h` of slot `s`. -/
def hd (c : Dev nD) (s : Fin 4) (h : Fin 8) : FVec F S256x128 .bf16 :=
  headV (qh h (qcV D c s)) (maskV c s) (colOf h (D.k c)) (colOf h (D.v c))

/-- The head a column of the context belongs to, and the column inside it. -/
def headOf (i : S256x1024.Idx) : Fin 8 := ⟨(i 1).val / 128, by have := (i 1).isLt; change (i 1).val < 1024 at this; omega⟩
def inHead (i : S256x1024.Idx) : S256x128.Idx := fun a => match a with
  | 0 => (i 0 : Fin 256)
  | 1 => (⟨(i 1).val % 128, Nat.mod_lt _ (by decide)⟩ : Fin 128)

/-- The heads side by side. -/
def ctxV (c : Dev nD) (s : Fin 4) : FVec F S256x1024 .bf16 := fun i => hd D c s (headOf i) (inHead i)

/-- The device's partial product for slot `s`. -/
def partV (c : Dev nD) (s : Fin 4) : FVec F S1x256x1024 .bf16 := k0_pay24 (ctxV D c s) (wob D c)

/-! ## The sums that go round -/

theorem inb_half (h : Fin 2) : ∀ a, (![0, 0, 512 * h.val] : Fin 3 → Nat) a + S1x256x512.size a ≤ S1x256x1024.size a := by
  revert h; decide +kernel
/-- The left (`0`) or right (`1`) half of the columns of a partial product. -/
def half (h : Fin 2) (W : S1x256x1024.Idx → F .bf16) : S1x256x512.Idx → F .bf16 :=
  fun i => W ((Rect.unit (s := S1x256x1024) ![0, 0, 512 * h.val] S1x256x512.size (inb_half h)).emb i)

/-- The sum of two halves, as the kernel takes it. -/
abbrev addV (a b : Vec F S1x256x512 .bf16) : FVec F S1x256x512 .bf16 := k0_pay51 a b

/-- Left halves go to the right: what device `c` sends at each of the three steps, and after the last one holds finished. -/
def a0 (c : Dev nD) : Vec F S1x256x512 .bf16 := half 0 (partV D c 0)
def a1 (c : Dev nD) : Vec F S1x256x512 .bf16 := addV (half 0 (partV D c 1)) (a0 D (prv c))
def a3 (c : Dev nD) : Vec F S1x256x512 .bf16 := addV (half 0 (partV D c 3)) (a1 D (prv c))
def a2 (c : Dev nD) : Vec F S1x256x512 .bf16 := addV (half 0 (partV D c 2)) (a3 D (prv c))
/-- Right halves go to the left. -/
def b0 (c : Dev nD) : Vec F S1x256x512 .bf16 := half 1 (partV D c 0)
def b2 (c : Dev nD) : Vec F S1x256x512 .bf16 := addV (half 1 (partV D c 2)) (b0 D (nxt c))
def b3 (c : Dev nD) : Vec F S1x256x512 .bf16 := addV (half 1 (partV D c 3)) (b2 D (nxt c))
def b1 (c : Dev nD) : Vec F S1x256x512 .bf16 := addV (half 1 (partV D c 1)) (b3 D (nxt c))

/-- A half without its leading axis of one. -/
def flat (X : S1x256x512.Idx → F .bf16) : Vec F S256x512 .bf16 := fun i => X (Shape.reshapeEquiv squeezes_S1x256x512_S256x512.numel_eq i)

/-! ## The result -/

/-- Left half of chunk `q`: finished on the device to the left of `q`; right half: on the device to the right of `q`. -/
def outL (q : Dev nD) : Vec F S256x512 .f32 := k0_pay110 (flat (a2 D (prv q)))
def outR (q : Dev nD) : Vec F S256x512 .f32 := k0_pay110 (flat (b1 D (nxt q)))

/-- The block of 256 by 512 an index of the result is in, and its place there. -/
def rowBlk (i : S1024x1024.Idx) : Dev nD := ⟨(i 0).val / 256, by have := (i 0).isLt; change (i 0).val < 1024 at this; change _ < 4; omega⟩
def inBlk (i : S1024x1024.Idx) : S256x512.Idx := fun a => match a with
  | 0 => (⟨(i 0).val % 256, Nat.mod_lt _ (by decide)⟩ : Fin 256)
  | 1 => (⟨(i 1).val % 512, Nat.mod_lt _ (by decide)⟩ : Fin 512)
/-- What the kernel leaves in its result, the same on every device. -/
def outV : S1024x1024.Idx → F .f32 :=
  fun i => if (i 1).val < 512 then outL D (rowBlk i) (inBlk i) else outR D (rowBlk i) (inBlk i)

end Cert.KernelIdeal.Hand

end
-- ==== Proof.Proto.lean ====
/-
  The devices' agreement. Every semaphore cell has one round. The barrier cell of a device is paid once by each
  neighbour, and each payment hands over the neighbour's buffers this device will write. Every transfer's send cell
  gives the lent source back, every receive cell hands over the landed block with its contents named, and the three
  local copies hand over their destination and their source. The remote payments of a device come in one fixed order,
  and a cell's level is the place of its payment in that order, so a device only ever waits below what it still owes.
-/
module

public import proofs.«01_k».proof.Proof.Values
public import Idealize.ShloMosaic.Lib.Pipeline.Kit
public import Idealize.ShloMosaic.Lib.Pipeline.RegionTalk
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The agreement's own resources: one copy for the staging of the operands, one for the cells of this kernel. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and what is held of them -/

/-- A buffer of device `c`, whole, at share `q`, holding `f`. -/
abbrev pt (c : Dev nD) (b : Ref sig .tc) (q : PosShare TreeShare) (f : b.ty.Contents (Elt F)) : sProp 𝕄 :=
  (Memref.whole b).view.loc (c : Thread nD τ) ↦{q} f
/-- The elements under a view, at share `q`, reading `X`. -/
def ow {sp : Space} {s : Shape} {e : EltTy} (c : Dev nD) (v : View sig .tc sp s e) (q : PosShare TreeShare) (X : s.Idx → Elt F e) : sProp 𝕄 :=
  iprop(∃ f : Buf (Elt F) (v.loc (c : Thread nD τ)), ⌜v.read (Elt F) f = X⌝ ∗ v.loc (c : Thread nD τ) ↦[v.set]{q} f)
/-- The elements under a view, owned outright, holding anything. -/
def av {sp : Space} {s : Shape} {e : EltTy} (c : Dev nD) (v : View sig .tc sp s e) : sProp 𝕄 :=
  iprop(∃ f : Buf (Elt F) (v.loc (c : Thread nD τ)), v.loc (c : Thread nD τ) ↦[v.set]{fullShare} f)

instance ow_storable {sp : Space} {s : Shape} {e : EltTy} (c : Dev nD) (v : View sig .tc sp s e) (q) (X : s.Idx → Elt F e) :
    BI.Storable (upEmb : UEmb _ 𝕄) (ow c v q X) := by unfold ow; infer_instance
instance av_storable {sp : Space} {s : Shape} {e : EltTy} (c : Dev nD) (v : View sig .tc sp s e) :
    BI.Storable (upEmb : UEmb _ 𝕄) (av (F := F) c v) := by unfold av; infer_instance

/-- A half of a slot of the accumulator, a slot of either landing buffer. -/
abbrev accV (o : Fin 3 → Nat) (h : ∀ a, o a + S1x256x512.size a ≤ S4x256x1024.size a) : View sig .tc .vmem S1x256x512 .bf16 :=
  (Memref.whole cc0_scratch0).access (Rect.unit (s := S4x256x1024) o S1x256x512.size h)
abbrev rvaV (o : Fin 3 → Nat) (h : ∀ a, o a + S1x256x512.size a ≤ S3x256x512.size a) : View sig .tc .vmem S1x256x512 .bf16 :=
  (Memref.whole cc0_scratch1).access (Rect.unit (s := S3x256x512) o S1x256x512.size h)
abbrev rvbV (o : Fin 3 → Nat) (h : ∀ a, o a + S1x256x512.size a ≤ S3x256x512.size a) : View sig .tc .vmem S1x256x512 .bf16 :=
  (Memref.whole cc0_scratch2).access (Rect.unit (s := S3x256x512) o S1x256x512.size h)

abbrev acc00 := accV ![0, 0, 0] inb_S4x256x1024_S1x256x512_0_0_0
abbrev acc01 := accV ![0, 0, 512] inb_S4x256x1024_S1x256x512_0_0_512
abbrev acc10 := accV ![1, 0, 0] inb_S4x256x1024_S1x256x512_1_0_0
abbrev acc11 := accV ![1, 0, 512] inb_S4x256x1024_S1x256x512_1_0_512
abbrev acc20 := accV ![2, 0, 0] inb_S4x256x1024_S1x256x512_2_0_0
abbrev acc21 := accV ![2, 0, 512] inb_S4x256x1024_S1x256x512_2_0_512
abbrev acc30 := accV ![3, 0, 0] inb_S4x256x1024_S1x256x512_3_0_0
abbrev acc31 := accV ![3, 0, 512] inb_S4x256x1024_S1x256x512_3_0_512
abbrev rva0 := rvaV ![0, 0, 0] inb_S3x256x512_S1x256x512_0_0_0
abbrev rva1 := rvaV ![1, 0, 0] inb_S3x256x512_S1x256x512_1_0_0
abbrev rva2 := rvaV ![2, 0, 0] inb_S3x256x512_S1x256x512_2_0_0
abbrev rvb0 := rvbV ![0, 0, 0] inb_S3x256x512_S1x256x512_0_0_0
abbrev rvb1 := rvbV ![1, 0, 0] inb_S3x256x512_S1x256x512_1_0_0
abbrev rvb2 := rvbV ![2, 0, 0] inb_S3x256x512_S1x256x512_2_0_0
/-- The six buffers finished halves land in. -/
abbrev agla : View sig .tc .vmem S256x512 .bf16 := View.whole cc0_scratch3
abbrev aglb : View sig .tc .vmem S256x512 .bf16 := View.whole cc0_scratch4
abbrev agra : View sig .tc .vmem S256x512 .bf16 := View.whole cc0_scratch5
abbrev agrb : View sig .tc .vmem S256x512 .bf16 := View.whole cc0_scratch6
abbrev dg2a : View sig .tc .vmem S256x512 .bf16 := View.whole cc0_scratch7
abbrev dg2b : View sig .tc .vmem S256x512 .bf16 := View.whole cc0_scratch8
/-- The device's columns of the query weights and rows of the output weights, in the large matrices. -/
abbrev wqS (c : Dev nD) : View sig .tc .hbm S1024x1024 .f32 :=
  (Memref.whole main_arg1).access (Rect.unit (s := S1024x4096) (k0_off1 c) S1024x1024.size (k0_off1_inb c))
abbrev woS (c : Dev nD) : View sig .tc .hbm S1024x1024 .f32 :=
  (Memref.whole main_arg4).access (Rect.unit (s := S4096x1024) (k0_off2 c) S1024x1024.size (k0_off2_inb c))

/-- A finished half is lent twice while it is read a third time; a landed half once while it is read. -/
abbrev sh1 : PosShare TreeShare := fullShare.left
abbrev sh2 : PosShare TreeShare := fullShare.right.left
abbrev sh3 : PosShare TreeShare := fullShare.right.right

/-! ## Cells -/

/-- The barrier cell of device `c`, and its cell number `n` among the scoped semaphores. -/
abbrev barCell (c : Dev nD) : GSem nD τ sig := ((c : Thread nD τ), .reg barrier0)
abbrev cell (c : Dev nD) (n : DmaSem sig) : GSem nD τ sig := ((c : Thread nD τ), .dma n)

/-- The credit of a block of 256 by 512, and of a whole matrix of 1024 by 1024. -/
def N : ℕ := (View.whole cc0_scratch3 : View sig .tc .vmem S256x512 .bf16).dmaCredit
def N32 : ℕ := (View.whole cc0_scratch11 : View sig .tc .vmem S1024x1024 .f32).dmaCredit
theorem N_pos : 0 < N := View.dmaCredit_pos _ (by decide)
theorem N32_pos : 0 < N32 := View.dmaCredit_pos _ (by decide)

/-- How much a cell of number `n` gets. -/
def amtD (n : ℕ) : ℕ := if n < 27 then N else N32
theorem amtD_pos (n : ℕ) : 0 < amtD n := by unfold amtD; split; exacts [N_pos, N32_pos]

variable (D : Inp F)

/-! ## What is handed over -/

/-- Device `p`'s buffers that its right neighbour writes, with their receive cells open. -/
def giveR (p : Dev nD) : sProp 𝕄 :=
  iprop(av p rvb0 ∗ av p rvb1 ∗ av p rvb2 ∗ av p agra ∗ av p agrb ∗ av p dg2b
    ∗ reached ER (cell p 12) 0 ∗ reached ER (cell p 13) 0 ∗ reached ER (cell p 14) 0
    ∗ reached ER (cell p 23) 0 ∗ reached ER (cell p 24) 0 ∗ reached ER (cell p 26) 0)
/-- Device `p`'s buffers that its left neighbour writes, with their receive cells open. -/
def giveL (p : Dev nD) : sProp 𝕄 :=
  iprop(av p rva0 ∗ av p rva1 ∗ av p rva2 ∗ av p agla ∗ av p aglb ∗ av p dg2a
    ∗ reached ER (cell p 6) 0 ∗ reached ER (cell p 7) 0 ∗ reached ER (cell p 8) 0
    ∗ reached ER (cell p 21) 0 ∗ reached ER (cell p 22) 0 ∗ reached ER (cell p 25) 0)

/-- What the completion of cell `n` hands device `c`. -/
def payD (c : Dev nD) (n : ℕ) : sProp 𝕄 :=
  match n with
  | 3 => ow c acc00 fullShare (a0 D c)
  | 4 => ow c acc10 fullShare (a1 D c)
  | 5 => ow c acc30 fullShare (a3 D c)
  | 6 => ow c rva0 fullShare (a0 D (prv c))
  | 7 => ow c rva1 fullShare (a1 D (prv c))
  | 8 => ow c rva2 fullShare (a3 D (prv c))
  | 9 => ow c acc01 fullShare (b0 D c)
  | 10 => ow c acc21 fullShare (b2 D c)
  | 11 => ow c acc31 fullShare (b3 D c)
  | 12 => ow c rvb0 fullShare (b0 D (nxt c))
  | 13 => ow c rvb1 fullShare (b2 D (nxt c))
  | 14 => ow c rvb2 fullShare (b3 D (nxt c))
  | 15 => ow c acc20 sh1 (a2 D c)
  | 16 => ow c acc11 sh1 (b1 D c)
  | 17 => ow c acc20 sh2 (a2 D c)
  | 18 => ow c acc11 sh2 (b1 D c)
  | 19 => ow c agla sh1 (flat (a2 D (prv c)))
  | 20 => ow c agrb sh1 (flat (b1 D (nxt c)))
  | 21 => ow c agla fullShare (flat (a2 D (prv c)))
  | 22 => ow c aglb fullShare (flat (b1 D (prv c)))
  | 23 => ow c agra fullShare (flat (a2 D (nxt c)))
  | 24 => ow c agrb fullShare (flat (b1 D (nxt c)))
  | 25 => ow c dg2a fullShare (flat (a2 D (prv (prv c))))
  | 26 => ow c dg2b fullShare (flat (b1 D (nxt (nxt c))))
  | 27 => iprop(pt c main_v6 fullShare (outV D) ∗ pt c cc0_scratch10 fullShare (outV D))
  | 28 => iprop(pt c cc0_scratch11 fullShare (wqf D c) ∗ (wqS c).loc (c : Thread nD τ) ↦[(wqS c).set]{fullShare} D.wq c)
  | 29 => iprop(pt c cc0_scratch12 fullShare (wof D c) ∗ (woS c).loc (c : Thread nD τ) ↦[(woS c).set]{fullShare} D.wo c)
  | _ => iprop(emp)

instance payD_storable (c : Dev nD) (n : ℕ) : BI.Storable (upEmb : UEmb _ 𝕄) (payD D c n) := by
  unfold payD
  split <;> infer_instance

/-- What the barrier hands device `c`: by its left neighbour (`true`) and by its right neighbour (`false`). -/
def barPay (c : Dev nD) (d : Bool) : sProp 𝕄 := if d then giveR (prv c) else giveL (nxt c)
instance barPay_storable (c : Dev nD) (d : Bool) : BI.Storable (upEmb : UEmb _ 𝕄) (barPay (F := F) c d) := by
  unfold barPay giveR giveL
  split <;> infer_instance

/-! ## The schedule -/

def dutS : SemLoc sig → Finset Bool
  | .reg _ => Finset.univ
  | .dma n => if 3 ≤ n.val then {false} else ∅
def amtS : SemLoc sig → ℕ
  | .reg _ => 1
  | .dma n => amtD n.val
def payS (c : Dev nD) (d : Bool) : SemLoc sig → sProp 𝕄
  | .reg _ => barPay c d
  | .dma n => payD D c n.val

/-- One round on every cell. -/
def Rd : Rounds.Schedule (GSem nD τ sig) Bool 𝕄 where
  duties g r := if r = 0 ∧ g.1.2 = .tc then dutS g.2 else ∅
  unitless _ := False
  amount g _ _ := amtS g.2
  payload g _ d := payS D g.1.1 d g.2
  amount_pos g _ _ _ := by
    rcases g with ⟨t, s⟩
    cases s with
    | reg _ => exact Nat.one_pos
    | dma n => exact amtD_pos _

instance Rd_payload_storable (g : GSem nD τ sig) (r : ℕ) (d : Bool) :
    BI.Storable (upEmb : UEmb _ 𝕄) ((Rd D).payload g r d) := by
  rcases g with ⟨t, s⟩
  cases s with
  | reg _ => exact barPay_storable t.1 d
  | dma n => exact payD_storable D t.1 n.val

section Sched

variable (c : Dev nD)

theorem duties_bar : (Rd D).duties (barCell c) 0 = Finset.univ := by dsimp only [Rd]; exact if_pos ⟨rfl, rfl⟩
theorem duties_cell {n : DmaSem sig} (h : 3 ≤ n.val) : (Rd D).duties (cell c n) 0 = {false} := by
  dsimp only [Rd]; rw [if_pos ⟨rfl, rfl⟩]; exact if_pos h
theorem duties_later (g : GSem nD τ sig) : ∀ r, 1 ≤ r → (Rd D).duties g r = ∅ :=
  fun r hr => if_neg fun h => by omega

theorem expect_bar : (Rd D).expect (barCell c) 0 = 2 := by
  unfold Schedule.expect Schedule.amountOf
  rw [duties_bar]
  rfl
theorem expect_cell {n : DmaSem sig} (h : 3 ≤ n.val) : (Rd D).expect (cell c n) 0 = amtD n.val := by
  unfold Schedule.expect Schedule.amountOf
  rw [duties_cell D c h, Finset.sum_singleton]
  rfl

theorem rest_bar : bigSep ((Rd D).duties (barCell c) 0 \ ∅) (fun d => (Rd D).payload (barCell c) 0 d)
    = iprop(giveL (nxt c) ∗ giveR (prv c)) := by
  rw [Finset.sdiff_empty, duties_bar, bigSep_univ_eq_bigSepL [false, true] (by decide) (by decide), bigSepL_cons_cons, bigSepL_singleton]
  rfl
theorem rest_cell {n : DmaSem sig} (h : 3 ≤ n.val) :
    bigSep ((Rd D).duties (cell c n) 0 \ ∅) (fun d => (Rd D).payload (cell c n) 0 d) = payD D c n.val := by
  rw [Finset.sdiff_empty, duties_cell D c h, bigSep_singleton]
  rfl

end Sched

/-! ## What a device owes, in the order it pays, and the levels -/

/-- The cell of the `k`-th payment, which neighbour has it (`true`: the right one), and its amount. -/
def tgtS : Fin 14 → SemLoc sig := fun k => match k with
  | 0 => .reg barrier0 | 1 => .reg barrier0
  | 2 => .dma 6 | 3 => .dma 12 | 4 => .dma 7 | 5 => .dma 13 | 6 => .dma 8 | 7 => .dma 14
  | 8 => .dma 21 | 9 => .dma 22 | 10 => .dma 23 | 11 => .dma 24 | 12 => .dma 25 | 13 => .dma 26
def tgtR : Fin 14 → Bool := fun k => match k with
  | 0 => false | 1 => true | 2 => true | 3 => false | 4 => true | 5 => false | 6 => true | 7 => false
  | 8 => true | 9 => true | 10 => false | 11 => false | 12 => true | 13 => false
def nb (c : Dev nD) : Bool → Dev nD := fun r => match r with | true => nxt c | false => prv c
def tgt (c : Dev nD) (k : Fin 14) : GSem nD τ sig := ((nb c (tgtR k) : Thread nD τ), tgtS k)

/-- What is owed when the payments of the list are still to come, its head first. -/
def owedL (c : Dev nD) : List (Fin 14) → CellTallies nD τ sig Unit
  | [] => 0
  | k :: l => owedL c l + tallyAt (tgt c k) () (amtS (tgtS k))
/-- What a device owes at the start. -/
def O₀ (c : Dev nD) : CellTallies nD τ sig Unit := owedL c [0, 1, 2, 3, 4, 5, 6, 7, 8, 9, 10, 11, 12, 13]

def L (g : GSem nD τ sig) : Finset Unit := if g.1.2 = .tc then {()} else ∅
def lvS : SemLoc sig → ℕ
  | .reg _ => 1
  | .dma n => match n.val with
    | 6 => 3 | 12 => 4 | 7 => 5 | 13 => 6 | 8 => 7 | 14 => 8 | 21 => 9 | 22 => 10 | 23 => 11 | 24 => 12 | 25 => 13 | 26 => 14
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos (c : Dev nD) {g : GSem nD τ sig} {u : Unit} : ∀ {l : List (Fin 14)}, 0 < owedL c l g u → ∃ k ∈ l, g = tgt c k
  | [], h => absurd h (Nat.lt_irrefl 0)
  | k :: l, h => by
    unfold owedL at h
    rw [Pi.add_apply, Finsupp.add_apply, tallyAt_apply] at h
    by_cases hk : g = tgt c k
    · exact ⟨k, List.mem_cons_self, hk⟩
    · rw [if_neg (fun h' => hk h'.1)] at h
      obtain ⟨k', hk', e⟩ := owedL_pos c (l := l) (by omega)
      exact ⟨k', List.mem_cons_of_mem _ hk', e⟩

/-- A wait below everything still owed may be entered. -/
theorem mayWait (c : Dev nD) (sm : SemLoc sig) (l : List (Fin 14)) (h : ∀ k ∈ l, lvS sm < lvS (tgtS k)) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨k, -, rfl⟩ := owedL_pos c hg; exact Finset.mem_singleton_self _)
    (fun p hp => by rw [Finset.mem_singleton.mp hp]; exact le_refl _)
    (fun g u hg => by obtain ⟨k, hk, rfl⟩ := owedL_pos c hg; exact h k hk)

end Cert.KernelIdeal.Hand

end
-- ==== Proof.Rules.lean ====
/-
  One step of the kernel at a time: what a load, a store, a signal, a wait, a remote copy and a local copy need and
  leave, in the terms of the agreement between the devices.
-/
module

public import proofs.«01_k».proof.Proof.Proto

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- What must hold before `p` runs on device `c` for `Q` to hold after it. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Held elements -/

section Held
variable {sp : Space} {s s' : Shape} {e : EltTy} (c : Dev nD)

theorem av_of_ow (v : View sig .tc sp s e) (X : s.Idx → Elt F e) : ow c v fullShare X ⊢ (av c v : sProp 𝕄) := by
  unfold ow av; iintro ⟨%f, -, H⟩; iexists f; iexact H

theorem ow_of_av (v : View sig .tc sp s e) : (av c v : sProp 𝕄) ⊢ iprop(∃ X, ow c v fullShare X) := by
  unfold ow av; iintro ⟨%f, H⟩; iexists v.read (Elt F) f; iexists f
  isplitr; · ipureintro; rfl
  iexact H

theorem ow_whole (b : Ref sig .tc) (q : PosShare TreeShare) (X : b.ty.Contents (Elt F)) :
    (ow c (View.whole b) q X : sProp 𝕄) = pt c b q X := by
  refine BI.equiv_iff.mp ⟨(?_ : ow c (View.whole b) q X ⊢ (pt c b q X : sProp 𝕄)), (?_ : (pt c b q X : sProp 𝕄) ⊢ ow c (View.whole b) q X)⟩
  · unfold ow
    iintro ⟨%f, %hf, H⟩
    rw [View.read_whole] at hf
    subst hf
    rw [View.set_whole]
    iexact H
  · unfold ow
    iintro H
    iexists X
    isplitr; · ipureintro; rfl
    rw [View.set_whole]
    iexact H

theorem av_whole (b : Ref sig .tc) : (av c (View.whole b) : sProp 𝕄) = iprop(∃ f, pt c b fullShare f) := by
  unfold av; rw [View.set_whole]

/-- A view and the same view under another shape of the same count hold the same, read along the correspondence. -/
theorem ow_reshape (v : View sig .tc sp s e) (h : s'.numel = s.numel) (q : PosShare TreeShare) (X : s.Idx → Elt F e) :
    (ow c (v.reshape s' h) q (fun i => X (Shape.reshapeEquiv h i)) : sProp 𝕄) = ow c v q X := by
  refine BI.equiv_iff.mp ⟨(?_ : ow c (v.reshape s' h) q (fun i => X (Shape.reshapeEquiv h i)) ⊢ (ow c v q X : sProp 𝕄)),
    (?_ : ow c v q X ⊢ (ow c (v.reshape s' h) q (fun i => X (Shape.reshapeEquiv h i)) : sProp 𝕄))⟩ <;> unfold ow <;> rw [View.set_reshape]
  · iintro ⟨%f, %hf, H⟩
    iexists f
    isplitr
    · ipureintro
      funext i
      have := congrFun hf ((Shape.reshapeEquiv h).symm i)
      rw [Equiv.apply_symm_apply] at this
      rw [← this]
      show _ = _root_.cast _ (f (v.emb (Shape.reshapeEquiv h ((Shape.reshapeEquiv h).symm i))))
      rw [Equiv.apply_symm_apply]; rfl
    · iexact H
  · iintro ⟨%f, %hf, H⟩
    iexists f
    isplitr
    · ipureintro
      funext i
      exact congrFun hf (Shape.reshapeEquiv h i)
    · iexact H

theorem av_reshape (v : View sig .tc sp s e) (h : s'.numel = s.numel) :
    (av c (v.reshape s' h) : sProp 𝕄) = av c v := by
  unfold av; rw [View.set_reshape]

/-- A held half splits along the share, and joins. -/
theorem ow_share (v : View sig .tc sp s e) (q q₁ q₂ : PosShare TreeShare) (hq : q ∈ q₁ ·? q₂) (X : s.Idx → Elt F e) :
    ow c v q X ⊢ (iprop(ow c v q₁ X ∗ ow c v q₂ X) : sProp 𝕄) := by
  unfold ow
  iintro ⟨%f, %hf, H⟩
  ihave H2 := (pointsTo_share hq).1 $$ H
  icases H2 with ⟨H1, H2⟩
  isplitl [H1]
  · iexists f
    isplitr; · ipureintro; exact hf
    iexact H1
  · iexists f
    isplitr; · ipureintro; exact hf
    iexact H2

theorem ow_unshare (v : View sig .tc sp s e) (q q₁ q₂ : PosShare TreeShare) (hq : q ∈ q₁ ·? q₂) (X : s.Idx → Elt F e) :
    (iprop(ow c v q₁ X ∗ ow c v q₂ X) : sProp 𝕄) ⊢ ow c v q X := by
  unfold ow
  iintro ⟨⟨%f, %hf, H1⟩, %g, %hg, H2⟩
  iexists f
  isplitr; · ipureintro; exact hf
  have he : ∀ i ∈ v.set, g i = f i := by
    intro i hi
    obtain ⟨x, -, rfl⟩ := Finset.mem_map.mp hi
    have := congrFun (hf.trans hg.symm) x
    rw [View.read_apply, View.read_apply] at this
    exact (cast_inj _).mp this.symm
  ihave H2 := (Entails.of_eq (pointsTo_congr (ℓ := v.loc (c : Thread nD τ)) (q := q₂) he)) $$ H2
  iapply (pointsTo_share hq).2
  isplitl [H1]
  · iexact H1
  · iexact H2

end Held

/-! ## Loads and stores -/

section Mem
variable (c : Dev nD) {cs : CoreSpace} {s : Shape} {e : EltTy} {α : Type} {Q : α → sProp (MT nD τ sig Unit (Elt F) ℕ UU ℕ)}

/-- A load of what is held under the same rectangle. -/
theorem ld_ow {m : Memref sig .tc cs s e} {r : Rect s} {hl : m.view.LoadsAt r} {k : (r.shape.Idx → Elt F e) → Prog (TpuEff nD τ sig (Elt F) Λ₀ .tc) α}
    {q : PosShare TreeShare} {X : r.shape.Idx → Elt F e} :
    ow c (m.access r) q X ⊢ iprop((ow c (m.access r) q X -∗ run c (k X) Q) -∗ run c (.op (.load m r hl) k) Q) := by
  unfold ow
  iintro ⟨%f, %hf, H⟩ Hk
  iapply (wp_load_rect 𝒱₀ (c : Thread nD τ) none Set.univ (m := m) (r := r) (hl := hl) (subset_refl _)) $$ H
  iintro H
  rw [hf]
  iapply Hk
  iexists f
  isplitr; · ipureintro; exact hf
  iexact H

/-- A load of what is held, whose value the program does not use. -/
theorem ld_av {m : Memref sig .tc cs s e} {r : Rect s} {hl : m.view.LoadsAt r} {k : Prog (TpuEff nD τ sig (Elt F) Λ₀ .tc) α} :
    av c (m.access r) ⊢ iprop((av c (m.access r) -∗ run c k Q) -∗ run c (.op (.load m r hl) (fun _ => k)) Q) := by
  unfold av
  iintro ⟨%f, H⟩ Hk
  iapply (wp_load_rect 𝒱₀ (c : Thread nD τ) none Set.univ (m := m) (r := r) (hl := hl) (subset_refl _)) $$ H
  iintro H
  iapply Hk
  iexists f
  iexact H

/-- A store over what is held under the same rectangle. -/
theorem st_av {m : Memref sig .tc cs s e} {r : Rect s} {w : r.shape.Idx → Elt F e} {hx : (m.access r).Stores Finset.univ}
    {hm : Finset.univ = Finset.univ ∨ ∀ a, r.stride a = 1} {k : PUnit → Prog (TpuEff nD τ sig (Elt F) Λ₀ .tc) α} :
    av c (m.access r) ⊢ iprop((ow c (m.access r) fullShare w -∗ run c (k ⟨⟩) Q) -∗ run c (.op (.store m r w Finset.univ hx hm) k) Q) := by
  unfold av ow
  iintro ⟨%f, H⟩ Hk
  iapply (wp_store 𝒱₀ (c : Thread nD τ) none Set.univ (m := m) (r := r) (w := w) (Mk := Finset.univ) (hx := hx) (hm := hm)
    (by rw [View.setOn_univ])) $$ H
  iintro H
  iapply Hk
  iexists _
  isplitr
  · ipureintro; exact View.read_write_univ f w
  iexact H

/-- A load from a buffer held whole. -/
theorem ld_pt {m : Memref sig .tc cs s e} {r : Rect s} {hl : m.view.LoadsAt r}
    {k : (r.shape.Idx → Elt F e) → Prog (TpuEff nD τ sig (Elt F) Λ₀ .tc) α}
    {q : PosShare TreeShare} {f : Buf (Elt F) (m.view.loc (c : Thread nD τ))} {X : r.shape.Idx → Elt F e}
    (hX : (m.access r).read (Elt F) f = X) :
    (m.view.loc (c : Thread nD τ) ↦{q} f : sProp 𝕄)
      ⊢ iprop(((m.view.loc (c : Thread nD τ) ↦{q} f) -∗ run c (k X) Q) -∗ run c (.op (.load m r hl) k) Q) := by
  subst hX
  exact wp_load_rect 𝒱₀ (c : Thread nD τ) none Set.univ (m := m) (r := r) (hl := hl) (Finset.subset_univ _)

/-- A store into a buffer held whole. -/
theorem st_pt {m : Memref sig .tc cs s e} {r : Rect s} {w : r.shape.Idx → Elt F e} {hx : (m.access r).Stores Finset.univ}
    {hm : Finset.univ = Finset.univ ∨ ∀ a, r.stride a = 1} {k : PUnit → Prog (TpuEff nD τ sig (Elt F) Λ₀ .tc) α}
    {f : Buf (Elt F) (m.view.loc (c : Thread nD τ))} :
    (m.view.loc (c : Thread nD τ) ↦{fullShare} f : sProp 𝕄)
      ⊢ iprop(((m.view.loc (c : Thread nD τ) ↦{fullShare} ((m.access r).write (Elt F) f w Finset.univ)) -∗ run c (k ⟨⟩) Q)
        -∗ run c (.op (.store m r w Finset.univ hx hm) k) Q) :=
  wp_store 𝒱₀ (c : Thread nD τ) none Set.univ (m := m) (r := r) (w := w) (Mk := Finset.univ) (hx := hx) (hm := hm) (Finset.subset_univ _)

end Mem

/-! ## The cells -/

variable (D : Inp F)

/-- The scoped cells of a device in one row, its barrier cell last. -/
def csem : Fin 28 → SemLoc sig := fun j => if h : j.val < 27 then .dma (⟨j.val + 3, by omega⟩ : Fin 30) else .reg barrier0
abbrev kc (p : Dev nD × Fin 28) : GSem nD τ sig := ((p.1 : Thread nD τ), csem p.2)

/-- Every cell's invariant, at the names the launch chose. -/
def invs (K : GSem nD τ sig → ℕ) : sProp 𝕄 :=
  bigSep Finset.univ fun p : Dev nD × Fin 28 => cellInv ER (Rd D) (K (kc p)) (kc p)
instance invs_persistent (K : GSem nD τ sig → ℕ) : BI.Persistent (invs D K) := by unfold invs; infer_instance

theorem csem_cell (n : DmaSem sig) (h : 3 ≤ n.val) : csem ⟨n.val - 3, by have := n.isLt; change n.val < 30 at this; omega⟩ = .dma n := by
  have hn : n.val < 30 := n.isLt
  unfold csem
  rw [dif_pos (by show n.val - 3 < 27; omega)]
  congr 1
  exact Fin.ext (by show n.val - 3 + 3 = n.val; omega)

theorem inv_cell (K : GSem nD τ sig → ℕ) (c : Dev nD) (n : DmaSem sig) (h : 3 ≤ n.val) :
    invs D K ⊢ (cellInv ER (Rd D) (K (cell c n)) (cell c n) : sProp 𝕄) := by
  have e := bigSep_elim (Φ := fun p : Dev nD × Fin 28 => (cellInv ER (Rd D) (K (kc p)) (kc p) : sProp 𝕄))
    (Finset.mem_univ (c, (⟨n.val - 3, by have := n.isLt; change n.val < 30 at this; omega⟩ : Fin 28)))
  have hk : kc (c, (⟨n.val - 3, by have := n.isLt; change n.val < 30 at this; omega⟩ : Fin 28)) = cell c n :=
    Prod.ext rfl (csem_cell n h)
  rw [hk] at e
  exact e

theorem inv_bar (K : GSem nD τ sig → ℕ) (c : Dev nD) :
    invs D K ⊢ (cellInv ER (Rd D) (K (barCell c)) (barCell c) : sProp 𝕄) :=
  bigSep_elim (Φ := fun p : Dev nD × Fin 28 => (cellInv ER (Rd D) (K (kc p)) (kc p) : sProp 𝕄)) (Finset.mem_univ (c, (27 : Fin 28)))

/-- What a device still owes, whatever it has waited for. -/
def OW (c : Dev nD) (l : List (Fin 14)) : sProp 𝕄 := iprop(∃ W, owes (c : Thread nD τ) (owedL c l) W)
/-- The position and the credit with which device `c` waits on its cell `n`. -/
def pend (c : Dev nD) (n : DmaSem sig) : sProp 𝕄 := iprop(atPos ER (cell c n) 0 ∅ 0 ∗ cred (tallyAt (cell c n) () (amtD n.val)))
/-- The cell's round is over. -/
def done (c : Dev nD) (n : DmaSem sig) : sProp 𝕄 := atPos ER (cell c n) (0 + 1) ∅ 0
/-- What a transfer from `c` to `p` needs of its two cells. -/
def chan (c : Dev nD) (n : DmaSem sig) (p : Dev nD) (n' : DmaSem sig) : sProp 𝕄 :=
  iprop(atPos ER (cell c n) 0 ∅ 0 ∗ dutyTok ER (cell c n) 0 false ∗ reached ER (cell c n) 0 ∗ dutyTok ER (cell p n') 0 false)
/-- What a local copy needs of its cell. -/
def lchan (c : Dev nD) (n : DmaSem sig) : sProp 𝕄 :=
  iprop(atPos ER (cell c n) 0 ∅ 0 ∗ dutyTok ER (cell c n) 0 false ∗ reached ER (cell c n) 0)

section Steps

variable (K : GSem nD τ sig → ℕ) (c : Dev nD) {α : Type} {Q : α → sProp (MT nD τ sig Unit (Elt F) ℕ UU ℕ)} {sp sp' : Space} {s : Shape} {e : EltTy}

/-- A wait on one of the device's own cells. -/
theorem step_wait (n : DmaSem sig) (l : List (Fin 14)) (h3 : 3 ≤ n.val) (hl : ∀ k ∈ l, lvS (.dma n) < lvS (tgtS k)) {s' : Shape} {e' : EltTy}
    {q : DmaSem sig} (hq : q = n)
    {src : Memref sig .tc sp' s' e'} {dst : Memref sig .tc sp s e} {h1 : src.view.WordExact} {h2 : dst.view.WordExact}
    (hN : dst.view.dmaCredit = amtD n.val) {k : PUnit → Prog (TpuEff nD τ sig (Elt F) Λ₀ .tc) α} :
    iprop(invs D K ∗ levAts L lv ∗ pend c n ∗ OW c l)
      ⊢ iprop(((OW c l ∗ done c n ∗ payD D c n.val) -∗ run c (k ⟨⟩) Q) -∗ run c (.op (.waitDma2 q src dst h1 h2) k) Q) := by
  subst hq
  unfold pend OW done
  iintro ⟨#HI, #Hlev, ⟨Hat, Hc⟩, %W, HO⟩ Hk
  iapply (Rounds.wp_wait_rest_token 𝒱₀ ER (Rd D) (c : Thread nD τ) none (κ := K (cell c q))
      (wpE_waitDma2_eq 𝒱₀ (c : Thread nD τ) none Set.univ) (Set.mem_univ _) () (O := owedL c l) (W := W) (R := 0) (m := 0) (T := ∅)
      ((Nat.zero_add _).trans (hN.trans (expect_cell D c h3).symm))) $$ [Hc HO Hat]
  · isplitr; · iapply (inv_cell D K c q h3); iexact HI
    isplitl [Hc]; · rw [hN]; iexact Hc
    isplitl [HO]; · iexact HO
    isplitr; · iapply (mayWait c (.dma q) l hl); iexact Hlev
    iexact Hat
  iintro ⟨HO, Hat, -, Hpay⟩
  ihave Hp := (Entails.of_eq (rest_cell D c h3)) $$ Hpay
  iapply Hk
  isplitl [HO]; · iexists _; iexact HO
  isplitl [Hat]; · iexact Hat
  iexact Hp

/-- The wait on the barrier for both neighbours. -/
theorem step_bar (l : List (Fin 14)) (hl : ∀ k ∈ l, lvS (.reg barrier0) < lvS (tgtS k)) {q : Sem sig} (hq : q = barrier0) {a : ℕ} (ha : a = 2)
    {k : PUnit → Prog (TpuEff nD τ sig (Elt F) Λ₀ .tc) α} :
    iprop(invs D K ∗ levAts L lv ∗ (atPos ER (barCell c) 0 ∅ 0 ∗ cred (tallyAt (barCell c) () 2)) ∗ OW c l)
      ⊢ iprop(((OW c l ∗ atPos ER (barCell c) (0 + 1) ∅ 0 ∗ giveL (nxt c) ∗ giveR (prv c)) -∗ run c (k ⟨⟩) Q)
        -∗ run c (.op (.semWait q a) k) Q) := by
  subst hq ha
  unfold OW
  iintro ⟨#HI, #Hlev, ⟨Hat, Hc⟩, %W, HO⟩ Hk
  iapply (Rounds.wp_wait_rest_token 𝒱₀ ER (Rd D) (c : Thread nD τ) none (κ := K (barCell c))
      (wpE_semWait_eq 𝒱₀ (c : Thread nD τ) none Set.univ) (Set.mem_univ _) () (O := owedL c l) (W := W) (R := 0) (m := 0) (T := ∅)
      ((Nat.zero_add _).trans (expect_bar D c).symm)) $$ [Hc HO Hat]
  · isplitr; · iapply (inv_bar D K c); iexact HI
    isplitl [Hc]; · iexact Hc
    isplitl [HO]; · iexact HO
    isplitr; · iapply (mayWait c (.reg barrier0) l hl); iexact Hlev
    iexact Hat
  iintro ⟨HO, Hat, -, Hpay⟩
  ihave Hp := (Entails.of_eq (rest_bar D c)) $$ Hpay
  iapply Hk
  isplitl [HO]; · iexists _; iexact HO
  isplitl [Hat]; · iexact Hat
  iexact Hp

/-- A signal to a neighbour's barrier cell. -/
theorem step_signal (i : Fin 14) (l : List (Fin 14)) (p : Dev nD) (d : Bool) (hi : tgt c i = barCell p) {p' : Dev nD} (hp : p' = p)
    {q : Sem sig} (hq : q = barrier0) {a : ℕ} (ha : a = 1) {k : PUnit → Prog (TpuEff nD τ sig (Elt F) Λ₀ .tc) α} :
    iprop(invs D K ∗ OW c (i :: l) ∗ dutyTok ER (barCell p) 0 d ∗ barPay p d ∗ reached ER (barCell p) 0)
      ⊢ iprop((OW c l -∗ run c (k ⟨⟩) Q) -∗ run c (.op (.semSignal (Dev.tc p') q a) k) Q) := by
  subst hq ha hp
  unfold OW
  iintro ⟨#HI, ⟨%W, HO⟩, Ht, Hp, Hr⟩ Hk
  iapply (Rounds.wp_signal 𝒱₀ ER (Rd D) (c : Thread nD τ) none (dst := (p' : Thread nD τ)) (sem := barrier0) (r := 0) (d := d) (κ := K (barCell p'))
      (by rw [duties_bar]; exact Finset.mem_univ _) rfl () (O₀ := owedL c (i :: l)) (owedL c l)
      (by rw [owedL, hi]; congr 2; have := congrArg Prod.snd hi; rw [show tgtS i = .reg barrier0 from this]; rfl) (W := W))
    $$ [HO Ht Hp Hr]
  · isplitr; · iapply (inv_bar D K p'); iexact HI
    isplitl [HO]; · iexact HO
    isplitl [Ht]; · iexact Ht
    isplitl [Hp]; · iapply (Entails.of_eq (show barPay p' d = (Rd D).payload (barCell p') 0 d from rfl)); iexact Hp
    iexact Hr
  iintro HO
  iapply Hk
  iexists W
  iexact HO

/-- A remote copy of a block to a neighbour. -/
theorem step_send (n n' : DmaSem sig) (i : Fin 14) (l : List (Fin 14)) (p : Dev nD) (X : s.Idx → Elt F e) (sh : PosShare TreeShare)
    (h3 : 3 ≤ n.val) (h3' : 3 ≤ n'.val) (h27 : n.val < 27) (h27' : n'.val < 27) (hi : tgt c i = cell p n')
    {p' : Dev nD} (hp : p' = p) {q q' : DmaSem sig} (hq : q = n) (hq' : q' = n')
    {src : Memref sig .tc sp s e} {dst : Memref sig .tc sp' s e} (hN : dst.view.dmaCredit = N)
    {hsc : dst.view.ref.isScScratch = false} {hsrc : src.view.WordExact} {hdst : dst.view.WordExact}
    {hsem : DmaTarget.Typed sp (.dma q') (.remote (Dev.tc p') dst (.dma q) hsc)}
    (hpay : ow c src.view sh X ⊢ (payD D c n.val : sProp 𝕄)) (hpay' : ow p dst.view fullShare X ⊢ (payD D p n'.val : sProp 𝕄))
    {k : PUnit → Prog (TpuEff nD τ sig (Elt F) Λ₀ .tc) α} :
    iprop(invs D K ∗ chan c n p n' ∗ OW c (i :: l) ∗ ow c src.view sh X ∗ av p dst.view ∗ reached ER (cell p n') 0)
      ⊢ iprop(((OW c l ∗ pend c n) -∗ run c (k ⟨⟩) Q)
        -∗ run c (.op (.enqueueDma src (.remote (Dev.tc p') dst (.dma q) hsc) (.dma q') hsrc hdst hsem) k) Q) := by
  subst hq hq' hp
  unfold OW chan pend
  unfold ow at hpay hpay' ⊢
  unfold av
  iintro ⟨#HI, ⟨Hat, Ht, Hr, Ht'⟩, ⟨%W, HO⟩, ⟨%fs, %hfs, Hs⟩, ⟨%fd, Hd⟩, Hr'⟩ Hk
  iapply (Rounds.wp_send_pointsTo 𝒱₀ ER (Rd D) (c : Thread nD τ) none (c' := (p' : Thread nD τ)) (src := src) (dst := dst)
      (sS := .dma q) (sem := .dma q') (q := sh) (fs := fs) (fd := fd) (κ₁ := K (cell c q)) (κ₂ := K (cell p' q'))
      (r₁ := 0) (r₂ := 0) (d₁ := false) (d₂ := false)
      (by rw [duties_cell D c h3]; exact Finset.mem_singleton_self _) (by rw [duties_cell D p' h3']; exact Finset.mem_singleton_self _)
      () () N hN (if_pos h27) (if_pos h27') (O₀ := owedL c (i :: l)) (owedL c l)
      (by rw [owedL, hi]; congr 2; have := congrArg Prod.snd hi; rw [show tgtS i = .dma q' from this]; exact if_pos h27') (W := W)
      ((by iintro H; iapply hpay; iexists fs; isplitr; (ipureintro; exact hfs); iexact H) :
        (src.view.loc (c : Thread nD τ) ↦[src.view.set]{sh} fs) ⊢ (payD D c q.val : sProp 𝕄))
      ((by iintro H; iapply hpay'; iexists dst.view.write (Elt F) fd (src.view.read (Elt F) fs) Finset.univ; isplitr; (ipureintro; exact (View.read_write_univ fd _).trans hfs); iexact H) :
        (dst.view.loc (p' : Thread nD τ) ↦[dst.view.set]{fullShare} (dst.view.write (Elt F) fd (src.view.read (Elt F) fs) Finset.univ)) ⊢ (payD D p' q'.val : sProp 𝕄)))
    $$ [Hs Hd HO Ht Hr Ht' Hr']
  · isplitr; · iapply (inv_cell D K c q h3); iexact HI
    isplitr; · iapply (inv_cell D K p' q' h3'); iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [HO]; · iexists W; iexact HO
  isplitl [Hat]; · iexact Hat
  rw [show amtD q.val = N from if_pos h27]
  iexact Hc

/-- A copy inside the device. -/
theorem step_copy (n : DmaSem sig) (h3 : 3 ≤ n.val) {q : DmaSem sig} (hq : q = n)
    {src : Memref sig .tc sp s e} {dst : Memref sig .tc sp' s e} (hN : dst.view.dmaCredit = amtD n.val)
    {hsrc : src.view.WordExact} {hdst : dst.view.WordExact} {hsem : DmaTarget.Typed (nD := nD) (τ := τ) (p := .tc) sp (.dma q) (.here dst)}
    (sh : PosShare TreeShare) (fs : Buf (Elt F) (src.view.loc (c : Thread nD τ)))
    (hpay : iprop(ow c dst.view fullShare (src.view.read (Elt F) fs) ∗ (src.view.loc (c : Thread nD τ) ↦[src.view.set]{sh} fs)) ⊢ (payD D c n.val : sProp 𝕄))
    {k : PUnit → Prog (TpuEff nD τ sig (Elt F) Λ₀ .tc) α} :
    iprop(invs D K ∗ lchan c n ∗ (src.view.loc (c : Thread nD τ) ↦[src.view.set]{sh} fs) ∗ av c dst.view)
      ⊢ iprop((pend c n -∗ run c (k ⟨⟩) Q)
        -∗ run c (.op (.enqueueDma src (.here dst) (.dma q) hsrc hdst hsem) k) Q) := by
  subst hq
  unfold lchan pend av
  unfold ow at hpay
  iintro ⟨#HI, ⟨Hat, Ht, Hr⟩, Hs, ⟨%fd, Hd⟩⟩ Hk
  iapply (Rounds.wp_copy_pointsTo 𝒱₀ ER (Rd D) (c : Thread nD τ) none (src := src) (dst := dst) (sem := .dma q) (q := sh)
      (fs := fs) (fd := fd) (r := 0) (d := false) (κ := K (cell c q))
      (by rw [duties_cell D c h3]; exact Finset.mem_singleton_self _) () (amtD q.val) hN rfl
      ((by
        iintro ⟨Hd, Hs⟩; iapply hpay
        isplitl [Hd]
        · iexists dst.view.write (Elt F) fd (src.view.read (Elt F) fs) Finset.univ; isplitr; (ipureintro; exact View.read_write_univ fd _); iexact Hd
        · iexact Hs) :
        iprop((dst.view.loc (c : Thread nD τ) ↦[dst.view.set]{fullShare} (dst.view.write (Elt F) fd (src.view.read (Elt F) fs) Finset.univ))
          ∗ (src.view.loc (c : Thread nD τ) ↦[src.view.set]{sh} fs)) ⊢ (payD D c q.val : sProp 𝕄)))
    $$ [Hs Hd Ht Hr]
  · isplitr; · iapply (inv_cell D K c q h3); iexact HI
    isplitl [Hs]; · iexact Hs
    isplitl [Hd]; · iexact Hd
    isplitl [Ht]; · iexact Ht
    iexact Hr
  iintro Hc
  iapply Hk
  isplitl [Hat]; · iexact Hat
  iexact Hc

end Steps

end Cert.KernelIdeal.Hand

end
-- ==== Proof.Geo.lean ====
/-
  Pieces of the buffers: a buffer and the rectangles that tile it, a slot of the accumulator and its halves, the context
  filled head by head, and the staging of the result filled block by block.
-/
module

public import proofs.«01_k».proof.Proof.Rules
public import Idealize.ShloMosaic.Lib.Writes
public import Idealize.ShloMosaic.Lib.ViewIndex

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A buffer and a tiling of it -/

section Tile
variable (c : Dev nD) (b : Ref sig .tc) {n : ℕ} (r : Fin n → Rect b.ty.shape)
  (hd : ∀ i j, i ≠ j → Disjoint (r i).set (r j).set) (hu : ∀ x, ∃ i, x ∈ (r i).set)

abbrev pieceV (j : Fin n) : View sig .tc b.space (r j).shape b.ty.elt := (Memref.whole b).access (r j)

theorem piece_set (j : Fin n) : (pieceV b r j).set = (r j).set := View.set_slice_whole b (r j)

include hd hu in
theorem piece_cover : (Finset.univ : Finset (Fin n)).biUnion (fun j => (r j).set) = Finset.univ := by
  refine Finset.eq_univ_iff_forall.mpr fun x => ?_
  obtain ⟨i, hi⟩ := hu x
  exact Finset.mem_biUnion.mpr ⟨i, Finset.mem_univ _, hi⟩

include hd hu in
/-- A buffer owned at anything is its pieces owned at anything, -/
theorem tile_split : (iprop(∃ f, pt c b fullShare f) : sProp 𝕄) ⊢ bigSep Finset.univ fun j => av c (pieceV b r j) := by
  iintro ⟨%f, H⟩
  have e : (pt c b fullShare f : sProp 𝕄) = bigSep Finset.univ fun j => (Memref.whole b).view.loc (c : Thread nD τ) ↦[(r j).set]{fullShare} f := by
    rw [← pointsTo_biUnion (ℓ := (Memref.whole b).view.loc (c : Thread nD τ)) Finset.univ (fun j => (r j).set)
      (fun i _ j _ h => hd i j h), piece_cover b r hd hu]
  ihave H := (Entails.of_eq e) $$ H
  have hm : ∀ j ∈ (Finset.univ : Finset (Fin n)), ((Memref.whole b).view.loc (c : Thread nD τ) ↦[(r j).set]{fullShare} f : sProp 𝕄) ⊢ av c (pieceV b r j) := by
    intro j _
    unfold av
    rw [piece_set]
    iintro H
    iexists f
    iexact H
  ihave H := (show (bigSep (Finset.univ : Finset (Fin n)) fun j => ((Memref.whole b).view.loc (c : Thread nD τ) ↦[(r j).set]{fullShare} f) : sProp 𝕄)
    ⊢ bigSep Finset.univ fun j => av c (pieceV b r j) from bigSep_mono hm) $$ H
  iexact H

include hd hu in
/-- and the pieces make the buffer again. -/
theorem tile_join [Nonempty (b.ty.Contents (Elt F))] :
    (bigSep Finset.univ fun j => av c (pieceV b r j) : sProp 𝕄) ⊢ iprop(∃ f, pt c b fullShare f) := by
  unfold av
  simp only [piece_set]
  iintro H
  haveI : Nonempty (Buf (Elt F) ((Memref.whole b).view.loc (c : Thread nD τ))) := ‹Nonempty (b.ty.Contents (Elt F))›
  ihave H := (bigSep_exists_pi (Y := fun _ : Fin n => Buf (Elt F) ((Memref.whole b).view.loc (c : Thread nD τ))) Finset.univ
    (fun j f => ((Memref.whole b).view.loc (c : Thread nD τ) ↦[(r j).set]{fullShare} f : sProp 𝕄))) $$ H
  icases H with ⟨%fs, H⟩
  ihave H := (pointsTo_biUnion_join (ℓ := (Memref.whole b).view.loc (c : Thread nD τ)) Finset.univ (fun j => (r j).set) fs
    (Classical.choice ‹_›) (fun i _ j _ h => hd i j h)) $$ H
  icases H with ⟨%g, -, H⟩
  iexists g
  iapply (Entails.of_eq (by rw [piece_cover b r hd hu])) $$ H

end Tile

/-- The halves of the accumulator's slots, in a row. -/
abbrev accOff (j : Fin 8) : Fin 3 → ℕ := ![j.val / 2, 0, 512 * (j.val % 2)]
theorem accOff_inb (j : Fin 8) : ∀ a, accOff j a + S1x256x512.size a ≤ S4x256x1024.size a := by revert j; decide
abbrev accR (j : Fin 8) : Rect S4x256x1024 := Rect.unit (s := S4x256x1024) (accOff j) S1x256x512.size (accOff_inb j)
theorem accR_disj (i j : Fin 8) (h : i ≠ j) : Disjoint (accR i).set (accR j).set := by
  by_cases h0 : i.val / 2 = j.val / 2
  · refine Rect.unit_disjoint (2 : Fin 3) ?_
    have : i.val % 2 ≠ j.val % 2 := fun h1 => h (Fin.ext (by omega))
    show 512 * (i.val % 2) + 512 ≤ 512 * (j.val % 2) ∨ 512 * (j.val % 2) + 512 ≤ 512 * (i.val % 2)
    omega
  · refine Rect.unit_disjoint (0 : Fin 3) ?_
    show i.val / 2 + 1 ≤ j.val / 2 ∨ j.val / 2 + 1 ≤ i.val / 2
    omega
theorem accR_cover (x : S4x256x1024.Idx) : ∃ i, x ∈ (accR i).set := by
  have h0 : (x 0).val < 4 := (x 0).isLt
  have h1 : (x 1).val < 256 := (x 1).isLt
  have h2 : (x 2).val < 1024 := (x 2).isLt
  refine ⟨⟨2 * (x 0).val + (x 2).val / 512, by omega⟩, Rect.mem_set_unit.mpr fun a => ?_⟩
  fin_cases a
  · show (2 * (x 0).val + (x 2).val / 512) / 2 ≤ (x 0).val ∧ (x 0).val < (2 * (x 0).val + (x 2).val / 512) / 2 + 1
    omega
  · show 0 ≤ (x 1).val ∧ (x 1).val < 0 + 256
    omega
  · show 512 * ((2 * (x 0).val + (x 2).val / 512) % 2) ≤ (x 2).val ∧ (x 2).val < 512 * ((2 * (x 0).val + (x 2).val / 512) % 2) + 512
    omega

/-- The slots of a landing buffer, in a row. -/
abbrev rvOff (j : Fin 3) : Fin 3 → ℕ := ![j.val, 0, 0]
theorem rvOff_inb (j : Fin 3) : ∀ a, rvOff j a + S1x256x512.size a ≤ S3x256x512.size a := by revert j; decide
abbrev rvR (j : Fin 3) : Rect S3x256x512 := Rect.unit (s := S3x256x512) (rvOff j) S1x256x512.size (rvOff_inb j)
theorem rvR_disj (i j : Fin 3) (h : i ≠ j) : Disjoint (rvR i).set (rvR j).set := by
  refine Rect.unit_disjoint (0 : Fin 3) ?_
  have : i.val ≠ j.val := fun h1 => h (Fin.ext h1)
  show i.val + 1 ≤ j.val ∨ j.val + 1 ≤ i.val
  omega
theorem rvR_cover (x : S3x256x512.Idx) : ∃ i, x ∈ (rvR i).set := by
  have h0 : (x 0).val < 3 := (x 0).isLt
  have h1 : (x 1).val < 256 := (x 1).isLt
  have h2 : (x 2).val < 512 := (x 2).isLt
  refine ⟨⟨(x 0).val, h0⟩, Rect.mem_set_unit.mpr fun a => ?_⟩
  fin_cases a
  · show (x 0).val ≤ (x 0).val ∧ (x 0).val < (x 0).val + 1
    omega
  · show 0 ≤ (x 1).val ∧ (x 1).val < 0 + 256
    omega
  · show 0 ≤ (x 2).val ∧ (x 2).val < 0 + 512
    omega

instance : Nonempty (F .bf16) := ⟨Scalar.ofBits .bf16 0#16⟩

theorem acc_split (c : Dev nD) : (iprop(∃ f, pt c cc0_scratch0 fullShare f) : sProp 𝕄)
    ⊢ iprop(av c acc00 ∗ av c acc01 ∗ av c acc10 ∗ av c acc11 ∗ av c acc20 ∗ av c acc21 ∗ av c acc30 ∗ av c acc31) := by
  refine (tile_split c cc0_scratch0 accR accR_disj accR_cover).trans (Entails.of_eq ?_)
  rw [bigSep_univ_eq_bigSepL [0, 1, 2, 3, 4, 5, 6, 7] (by decide) (by decide)]
  simp only [bigSepL_cons_cons, bigSepL_singleton]
  rfl
theorem acc_join (c : Dev nD) : (iprop(av c acc00 ∗ av c acc01 ∗ av c acc10 ∗ av c acc11 ∗ av c acc20 ∗ av c acc21 ∗ av c acc30 ∗ av c acc31) : sProp 𝕄)
    ⊢ iprop(∃ f, pt c cc0_scratch0 fullShare f) := by
  haveI : Nonempty ((cc0_scratch0 : Ref sig .tc).ty.Contents (Elt F)) := ⟨fun _ => (Classical.choice inferInstance : F .bf16)⟩
  refine (Entails.of_eq ?_).trans (tile_join c cc0_scratch0 accR accR_disj accR_cover)
  rw [bigSep_univ_eq_bigSepL [0, 1, 2, 3, 4, 5, 6, 7] (by decide) (by decide)]
  simp only [bigSepL_cons_cons, bigSepL_singleton]
  rfl
theorem rva_split (c : Dev nD) : (iprop(∃ f, pt c cc0_scratch1 fullShare f) : sProp 𝕄) ⊢ iprop(av c rva0 ∗ av c rva1 ∗ av c rva2) := by
  refine (tile_split c cc0_scratch1 rvR rvR_disj rvR_cover).trans (Entails.of_eq ?_)
  rw [bigSep_univ_eq_bigSepL [0, 1, 2] (by decide) (by decide)]
  simp only [bigSepL_cons_cons, bigSepL_singleton]
  rfl
theorem rva_join (c : Dev nD) : (iprop(av c rva0 ∗ av c rva1 ∗ av c rva2) : sProp 𝕄) ⊢ iprop(∃ f, pt c cc0_scratch1 fullShare f) := by
  haveI : Nonempty ((cc0_scratch1 : Ref sig .tc).ty.Contents (Elt F)) := ⟨fun _ => (Classical.choice inferInstance : F .bf16)⟩
  refine (Entails.of_eq ?_).trans (tile_join c cc0_scratch1 rvR rvR_disj rvR_cover)
  rw [bigSep_univ_eq_bigSepL [0, 1, 2] (by decide) (by decide)]
  simp only [bigSepL_cons_cons, bigSepL_singleton]
  rfl
theorem rvb_split (c : Dev nD) : (iprop(∃ f, pt c cc0_scratch2 fullShare f) : sProp 𝕄) ⊢ iprop(av c rvb0 ∗ av c rvb1 ∗ av c rvb2) := by
  refine (tile_split c cc0_scratch2 rvR rvR_disj rvR_cover).trans (Entails.of_eq ?_)
  rw [bigSep_univ_eq_bigSepL [0, 1, 2] (by decide) (by decide)]
  simp only [bigSepL_cons_cons, bigSepL_singleton]
  rfl
theorem rvb_join (c : Dev nD) : (iprop(av c rvb0 ∗ av c rvb1 ∗ av c rvb2) : sProp 𝕄) ⊢ iprop(∃ f, pt c cc0_scratch2 fullShare f) := by
  haveI : Nonempty ((cc0_scratch2 : Ref sig .tc).ty.Contents (Elt F)) := ⟨fun _ => (Classical.choice inferInstance : F .bf16)⟩
  refine (Entails.of_eq ?_).trans (tile_join c cc0_scratch2 rvR rvR_disj rvR_cover)
  rw [bigSep_univ_eq_bigSepL [0, 1, 2] (by decide) (by decide)]
  simp only [bigSepL_cons_cons, bigSepL_singleton]
  rfl

/-! ## A slot and its halves -/

abbrev slotV (o : Fin 3 → Nat) (h : ∀ a, o a + S1x256x1024.size a ≤ S4x256x1024.size a) : View sig .tc .vmem S1x256x1024 .bf16 :=
  (Memref.whole cc0_scratch0).access (Rect.unit (s := S4x256x1024) o S1x256x1024.size h)

section Slot
variable (c : Dev nD) (s : ℕ) {o o0 o1 : Fin 3 → ℕ} (ho : o = ![s, 0, 0]) (ho0 : o0 = ![s, 0, 0]) (ho1 : o1 = ![s, 0, 512])
  (h : ∀ a, o a + S1x256x1024.size a ≤ S4x256x1024.size a)
  (h0 : ∀ a, o0 a + S1x256x512.size a ≤ S4x256x1024.size a) (h1 : ∀ a, o1 a + S1x256x512.size a ≤ S4x256x1024.size a)

include ho ho0 ho1 in
theorem slot_set : (slotV o h).set = (accV o0 h0).set ∪ (accV o1 h1).set := by
  subst ho ho0 ho1
  refine (View.set_slice_whole cc0_scratch0 _).trans ?_
  refine Eq.trans ?_ (congrArg₂ _ (View.set_slice_whole cc0_scratch0 _).symm (View.set_slice_whole cc0_scratch0 _).symm)
  ext x
  rw [Finset.mem_union, Rect.mem_set_unit, Rect.mem_set_unit, Rect.mem_set_unit]
  have h1 : (x 1).val < 256 := (x 1).isLt
  have h2 : (x 2).val < 1024 := (x 2).isLt
  constructor
  · intro H
    have e := H (0 : Fin 3)
    change s ≤ (x 0).val ∧ (x 0).val < s + 1 at e
    by_cases hx : (x 2).val < 512
    · left; intro a; fin_cases a
      · exact e
      · show 0 ≤ (x 1).val ∧ (x 1).val < 0 + 256; omega
      · show 0 ≤ (x 2).val ∧ (x 2).val < 0 + 512; omega
    · right; intro a; fin_cases a
      · exact e
      · show 0 ≤ (x 1).val ∧ (x 1).val < 0 + 256; omega
      · show 512 ≤ (x 2).val ∧ (x 2).val < 512 + 512; omega
  · intro H
    have e : s ≤ (x 0).val ∧ (x 0).val < s + 1 := by rcases H with H | H <;> exact H (0 : Fin 3)
    intro a; fin_cases a
    · exact e
    · show 0 ≤ (x 1).val ∧ (x 1).val < 0 + 256; omega
    · show 0 ≤ (x 2).val ∧ (x 2).val < 0 + 1024; omega

include ho0 ho1 in
theorem slot_disj : Disjoint (accV o0 h0).set (accV o1 h1).set := by
  subst ho0 ho1
  rw [show (accV ![s, 0, 0] h0).set = _ from View.set_slice_whole cc0_scratch0 _, show (accV ![s, 0, 512] h1).set = _ from View.set_slice_whole cc0_scratch0 _]
  exact Rect.unit_disjoint (2 : Fin 3) (Or.inl (le_refl 512))

theorem half_coord (a : Fin 3) (i : S1x256x512.Idx) (s k : ℕ) (e1 : ∀ a, (![s, 0, k] : Fin 3 → ℕ) a + S1x256x512.size a ≤ S4x256x1024.size a)
    (e2 : ∀ a, (![s, 0, 0] : Fin 3 → ℕ) a + S1x256x1024.size a ≤ S4x256x1024.size a)
    (e3 : ∀ a, (![0, 0, k] : Fin 3 → ℕ) a + S1x256x512.size a ≤ S1x256x1024.size a) :
    ((Rect.unit (s := S4x256x1024) ![s, 0, k] S1x256x512.size e1).emb i a).val
      = ((Rect.unit (s := S4x256x1024) ![s, 0, 0] S1x256x1024.size e2).emb ((Rect.unit (s := S1x256x1024) ![0, 0, k] S1x256x512.size e3).emb i) a).val := by
  refine (Rect.emb_apply _ _ _).trans (Eq.symm ((Rect.emb_apply _ _ _).trans ?_))
  refine (congrArg _ (congrArg _ (Rect.emb_apply _ _ _))).trans ?_
  fin_cases a
  · show s + 1 * (0 + 1 * (i 0).val) = s + 1 * (i 0).val; omega
  · show 0 + 1 * (0 + 1 * (i 1).val) = 0 + 1 * (i 1).val; omega
  · show 0 + 1 * (k + 1 * (i 2).val) = k + 1 * (i 2).val; omega

include ho ho0 ho1 in
/-- A slot just stored is its two halves. -/
theorem slot_split (W : S1x256x1024.Idx → F .bf16) :
    ow c (slotV o h) fullShare W ⊢ (iprop(ow c (accV o0 h0) fullShare (half 0 W) ∗ ow c (accV o1 h1) fullShare (half 1 W)) : sProp 𝕄) := by
  unfold ow
  iintro ⟨%f, %hf, H⟩
  rw [slot_set s ho ho0 ho1 h h0 h1]
  ihave H := (pointsTo_union (slot_disj s ho0 ho1 h0 h1)).1 $$ H
  icases H with ⟨H0, H1⟩
  subst ho ho0 ho1
  isplitl [H0]
  · iexists f
    isplitr
    · ipureintro
      rw [← hf]
      funext i
      show f _ = f _
      congr 1
      funext a
      refine Fin.ext ?_
      exact half_coord a i s 0 _ _ _
    iexact H0
  · iexists f
    isplitr
    · ipureintro
      rw [← hf]
      funext i
      show f _ = f _
      congr 1
      funext a
      refine Fin.ext ?_
      exact half_coord a i s 512 _ _ _
    iexact H1

include ho ho0 ho1 in
/-- Two halves owned at anything are the slot owned at anything. -/
theorem slot_join : (iprop(av c (accV o0 h0) ∗ av c (accV o1 h1)) : sProp 𝕄) ⊢ av c (slotV o h) := by
  unfold av
  iintro ⟨⟨%f, H0⟩, %g, H1⟩
  rw [slot_set s ho ho0 ho1 h h0 h1]
  iexists ((accV o1 h1).set.piecewise g f)
  iapply (pointsTo_join (slot_disj s ho0 ho1 h0 h1))
  isplitl [H0]
  · iexact H0
  · iexact H1

end Slot

/-! ## The context, filled head by head -/

/-- The context's buffer holds the first `n` columns of slot `s`'s context. -/
def ctxP (D : Inp F) (c : Dev nD) (s : Fin 4) (n : ℕ) : sProp 𝕄 :=
  iprop(∃ f : S256x1024.Idx → F .bf16, ⌜∀ i, (i 1).val < n → f i = ctxV D c s i⌝ ∗ pt c cc0_scratch9 fullShare f)

theorem ctx_start (D : Inp F) (c : Dev nD) (s : Fin 4) : (iprop(∃ f, pt c cc0_scratch9 fullShare f) : sProp 𝕄) ⊢ ctxP D c s 0 := by
  unfold ctxP
  iintro ⟨%f, H⟩
  iexists f
  isplitr; · ipureintro; intro i h; exact absurd h (Nat.not_lt_zero _)
  iexact H

theorem ctx_end (D : Inp F) (c : Dev nD) (s : Fin 4) : ctxP D c s 1024 ⊢ (pt c cc0_scratch9 fullShare (ctxV D c s) : sProp 𝕄) := by
  unfold ctxP
  iintro ⟨%f, %hf, H⟩
  have e : f = ctxV D c s := funext fun i => hf i (i 1).isLt
  subst e
  iexact H

theorem emb_val {s : Shape} (off size : Fin s.rank → ℕ) (inb : ∀ a, off a + size a ≤ s.size a) (j : (Rect.unit (s := s) off size inb).shape.Idx) (a : Fin s.rank) :
    ((Rect.unit (s := s) off size inb).emb j a).val = off a + (j a).val := by
  refine (Rect.emb_apply _ _ _).trans ?_
  show off a + 1 * (j a).val = _
  omega

section Ctx
variable (D : Inp F) (c : Dev nD) (s : Fin 4) (h : Fin 8) {α : Type} {Q : α → sProp (MT nD τ sig Unit (Elt F) ℕ UU ℕ)} {o : Fin 2 → ℕ}
  {inb : ∀ a, o a + S256x128.size a ≤ S256x1024.size a} {n : ℕ}

theorem ld_ctx {hl : (Memref.whole cc0_scratch9 : Memref sig .tc .vmem S256x1024 .bf16).view.LoadsAt (Rect.unit (s := S256x1024) o S256x128.size inb).toLoadRect}
    {k : Prog (TpuEff nD τ sig (Elt F) Λ₀ .tc) α} :
    ctxP D c s n ⊢ iprop((ctxP D c s n -∗ run c k Q)
      -∗ run c (.op (.load (Memref.whole cc0_scratch9) (Rect.unit (s := S256x1024) o S256x128.size inb).toLoadRect hl) (fun _ => k)) Q) := by
  unfold ctxP
  iintro ⟨%f, %hf, H⟩ Hk
  iapply (ld_pt c rfl) $$ H
  iintro H
  iapply Hk
  iexists f
  isplitr; · ipureintro; exact hf
  iexact H

theorem st_ctx {w : S256x128.Idx → F .bf16} {hx : ((Memref.whole cc0_scratch9 : Memref sig .tc .vmem S256x1024 .bf16).access (Rect.unit (s := S256x1024) o S256x128.size inb)).Stores Finset.univ}
    {hm : (Finset.univ : Finset (Rect.unit (s := S256x1024) o S256x128.size inb).shape.Idx) = Finset.univ ∨ ∀ a, (Rect.unit (s := S256x1024) o S256x128.size inb).stride a = 1}
    {k : PUnit → Prog (TpuEff nD τ sig (Elt F) Λ₀ .tc) α}
    (ho : o = ![0, 128 * h.val]) (hw : w = hd D c s h) (hn : n = 128 * h.val) :
    ctxP D c s n ⊢ iprop((ctxP D c s (128 * h.val + 128) -∗ run c (k ⟨⟩) Q)
      -∗ run c (.op (.store (Memref.whole cc0_scratch9) (Rect.unit (s := S256x1024) o S256x128.size inb) w Finset.univ hx hm) k) Q) := by
  subst hn ho hw
  unfold ctxP
  iintro ⟨%f, %hf, H⟩ Hk
  iapply (st_pt c) $$ H
  iintro H
  iapply Hk
  iexists _
  isplitr
  rotate_left
  · iexact H
  ipureintro
  intro i hi
  have hh := h.isLt
  have i0 : (i 0).val < 256 := (i 0).isLt
  have i1 : (i 1).val < 1024 := (i 1).isLt
  by_cases h1 : (i 1).val < 128 * h.val
  · rw [View.write_of_not_mem]
    · exact hf i h1
    · intro hm
      rw [View.setOn_univ] at hm
      have hm := (View.set_slice_whole cc0_scratch9 (Rect.unit (s := S256x1024) ![0, 128 * h.val] S256x128.size inb)) ▸ hm
      have := (Rect.mem_set_unit.mp hm (1 : Fin 2)).1
      change 128 * h.val ≤ (i 1).val at this
      omega
  · have hho : headOf i = h := Fin.ext (by show (i 1).val / 128 = h.val; omega)
    have he : (Rect.unit (s := S256x1024) ![0, 128 * h.val] S256x128.size inb).emb (inHead i) = i := by
      refine Rect.emb_eq_of_coords _ _ _ fun a => ?_
      fin_cases a
      · show (i 0).val = 0 + 1 * (i 0).val; omega
      · show (i 1).val = 128 * h.val + 1 * ((i 1).val % 128); omega
    have := View.write_emb_of_mem (v := (Memref.whole cc0_scratch9 : Memref sig .tc .vmem S256x1024 .bf16).access (Rect.unit (s := S256x1024) ![0, 128 * h.val] S256x128.size inb))
      (Val := Elt F) f (hd D c s h) (Finset.mem_univ (inHead i))
    rw [show ((Memref.whole cc0_scratch9 : Memref sig .tc .vmem S256x1024 .bf16).access (Rect.unit (s := S256x1024) ![0, 128 * h.val] S256x128.size inb)).emb (inHead i) = i from he] at this
    unfold ctxV
    rw [hho]
    exact this

end Ctx

/-! ## The staging of the result, filled block by block -/

/-- The left or right half of the columns. -/
def colBlk (i : S1024x1024.Idx) : Fin 2 := ⟨(i 1).val / 512, by have := (i 1).isLt; change (i 1).val < 1024 at this; omega⟩
/-- The block at chunk `q` and half `h` of the result. -/
def outB (D : Inp F) (q : Dev nD) (h : Fin 2) : S256x512.Idx → F .f32 := match h with
  | 0 => outL D q
  | 1 => outR D q
theorem outV_eq (D : Inp F) (i : S1024x1024.Idx) : outV D i = outB D (rowBlk i) (colBlk i) (inBlk i) := by
  have i1 : (i 1).val < 1024 := (i 1).isLt
  unfold outV
  by_cases h : (i 1).val < 512
  · rw [if_pos h, show colBlk i = 0 from Fin.ext (by show (i 1).val / 512 = 0; omega)]; rfl
  · rw [if_neg h, show colBlk i = 1 from Fin.ext (by show (i 1).val / 512 = 1; omega)]; rfl

/-- The staging buffer holds the result on the blocks listed. -/
def stageP (D : Inp F) (c : Dev nD) (l : List (Dev nD × Fin 2)) : sProp 𝕄 :=
  iprop(∃ f : S1024x1024.Idx → F .f32, ⌜∀ i, (rowBlk i, colBlk i) ∈ l → f i = outV D i⌝ ∗ pt c cc0_scratch10 fullShare f)

theorem stage_start (D : Inp F) (c : Dev nD) : (iprop(∃ f, pt c cc0_scratch10 fullShare f) : sProp 𝕄) ⊢ stageP D c [] := by
  unfold stageP
  iintro ⟨%f, H⟩
  iexists f
  isplitr; · ipureintro; intro i h; exact absurd h List.not_mem_nil
  iexact H

theorem stage_end (D : Inp F) (c : Dev nD) (l : List (Dev nD × Fin 2)) (hl : ∀ q h, (q, h) ∈ l) :
    stageP D c l ⊢ (pt c cc0_scratch10 fullShare (outV D) : sProp 𝕄) := by
  unfold stageP
  iintro ⟨%f, %hf, H⟩
  have e : f = outV D := funext fun i => hf i (hl _ _)
  subst e
  iexact H

section Stage
variable (D : Inp F) (c : Dev nD) {α : Type} {Q : α → sProp (MT nD τ sig Unit (Elt F) ℕ UU ℕ)} {o : Fin 2 → ℕ}
  {inb : ∀ a, o a + S256x512.size a ≤ S1024x1024.size a} {l : List (Dev nD × Fin 2)}

theorem ld_stage {hl : (Memref.whole cc0_scratch10 : Memref sig .tc .vmem S1024x1024 .f32).view.LoadsAt (Rect.unit (s := S1024x1024) o S256x512.size inb).toLoadRect}
    {k : Prog (TpuEff nD τ sig (Elt F) Λ₀ .tc) α} :
    stageP D c l ⊢ iprop((stageP D c l -∗ run c k Q)
      -∗ run c (.op (.load (Memref.whole cc0_scratch10) (Rect.unit (s := S1024x1024) o S256x512.size inb).toLoadRect hl) (fun _ => k)) Q) := by
  unfold stageP
  iintro ⟨%f, %hf, H⟩ Hk
  iapply (ld_pt c rfl) $$ H
  iintro H
  iapply Hk
  iexists f
  isplitr; · ipureintro; exact hf
  iexact H

theorem st_stage (q : Dev nD) (h : Fin 2)
    {w : S256x512.Idx → F .f32} {hx : ((Memref.whole cc0_scratch10 : Memref sig .tc .vmem S1024x1024 .f32).access (Rect.unit (s := S1024x1024) o S256x512.size inb)).Stores Finset.univ}
    {hm : (Finset.univ : Finset (Rect.unit (s := S1024x1024) o S256x512.size inb).shape.Idx) = Finset.univ ∨ ∀ a, (Rect.unit (s := S1024x1024) o S256x512.size inb).stride a = 1}
    {k : PUnit → Prog (TpuEff nD τ sig (Elt F) Λ₀ .tc) α}
    (ho : o = ![256 * q.val, 512 * h.val]) (hw : w = outB D q h) :
    stageP D c l ⊢ iprop((stageP D c ((q, h) :: l) -∗ run c (k ⟨⟩) Q)
      -∗ run c (.op (.store (Memref.whole cc0_scratch10) (Rect.unit (s := S1024x1024) o S256x512.size inb) w Finset.univ hx hm) k) Q) := by
  subst ho hw
  unfold stageP
  iintro ⟨%f, %hf, H⟩ Hk
  iapply (st_pt c) $$ H
  iintro H
  iapply Hk
  iexists _
  isplitr
  rotate_left
  · iexact H
  ipureintro
  intro i hi
  have hq : q.val < 4 := q.isLt
  have hh := h.isLt
  have i0 : (i 0).val < 1024 := (i 0).isLt
  have i1 : (i 1).val < 1024 := (i 1).isLt
  by_cases hb : (rowBlk i, colBlk i) = (q, h)
  · have hb0 : (i 0).val / 256 = q.val := congrArg (fun p : Dev nD × Fin 2 => p.1.val) hb
    have hb1 : (i 1).val / 512 = h.val := congrArg (fun p : Dev nD × Fin 2 => p.2.val) hb
    have he : (Rect.unit (s := S1024x1024) ![256 * q.val, 512 * h.val] S256x512.size inb).emb (inBlk i) = i := by
      refine Rect.emb_eq_of_coords _ _ _ fun a => ?_
      fin_cases a
      · show (i 0).val = 256 * q.val + 1 * ((i 0).val % 256); omega
      · show (i 1).val = 512 * h.val + 1 * ((i 1).val % 512); omega
    have := View.write_emb_of_mem (v := (Memref.whole cc0_scratch10 : Memref sig .tc .vmem S1024x1024 .f32).access (Rect.unit (s := S1024x1024) ![256 * q.val, 512 * h.val] S256x512.size inb))
      (Val := Elt F) f (outB D q h) (Finset.mem_univ (inBlk i))
    rw [show ((Memref.whole cc0_scratch10 : Memref sig .tc .vmem S1024x1024 .f32).access (Rect.unit (s := S1024x1024) ![256 * q.val, 512 * h.val] S256x512.size inb)).emb (inBlk i) = i from he] at this
    rw [outV_eq, show rowBlk i = q from (congrArg Prod.fst hb), show colBlk i = h from (congrArg Prod.snd hb)]
    exact this
  · rw [View.write_of_not_mem]
    · exact hf i ((List.mem_cons.mp hi).resolve_left hb)
    · intro hm
      rw [View.setOn_univ] at hm
      have hm := (View.set_slice_whole cc0_scratch10 (Rect.unit (s := S1024x1024) ![256 * q.val, 512 * h.val] S256x512.size inb)) ▸ hm
      have e0 := Rect.mem_set_unit.mp hm (0 : Fin 2)
      have e1 := Rect.mem_set_unit.mp hm (1 : Fin 2)
      change 256 * q.val ≤ (i 0).val ∧ (i 0).val < 256 * q.val + 256 at e0
      change 512 * h.val ≤ (i 1).val ∧ (i 1).val < 512 * h.val + 512 at e1
      refine hb (Prod.ext (Fin.ext ?_) (Fin.ext ?_))
      · show (i 0).val / 256 = q.val; omega
      · show (i 1).val / 512 = h.val; omega

end Stage

/-! ## Loads and stores of all a buffer holds -/

theorem emb_full {s : Shape} {off : Fin s.rank → ℕ} (h0 : ∀ a, off a = 0) (inb : ∀ a, off a + s.size a ≤ s.size a) (j : s.Idx) :
    (Rect.unit (s := s) off s.size inb).emb j = j := by
  funext a
  refine Fin.ext ?_
  refine (emb_val off s.size inb j a).trans ?_
  rw [h0, Nat.zero_add]

section Full
variable (c : Dev nD) {α : Type} {Q : α → sProp (MT nD τ sig Unit (Elt F) ℕ UU ℕ)} {cs : CoreSpace} {s : Shape} {e : EltTy}

/-- A load of everything a held view shows. -/
theorem ld_full {m : Memref sig .tc cs s e} {off : Fin s.rank → ℕ} (h0 : ∀ a, off a = 0) {inb : ∀ a, off a + s.size a ≤ s.size a}
    {hl : m.view.LoadsAt (Rect.unit (s := s) off s.size inb).toLoadRect}
    {k : (s.Idx → Elt F e) → Prog (TpuEff nD τ sig (Elt F) Λ₀ .tc) α} {q : PosShare TreeShare} {X : s.Idx → Elt F e} :
    ow c m.view q X
      ⊢ iprop((ow c m.view q X -∗ run c (k X) Q)
        -∗ run c (.op (.load m (Rect.unit (s := s) off s.size inb).toLoadRect hl) k) Q) := by
  unfold ow
  iintro ⟨%f, %hf, H⟩ Hk
  have e : (m.access (Rect.unit (s := s) off s.size inb)).read (Elt F) f = X := by
    rw [← hf]
    funext j
    show _root_.cast _ (f (m.view.emb ((Rect.unit (s := s) off s.size inb).emb j))) = _root_.cast _ (f (m.view.emb j))
    rw [emb_full h0 inb j]
  iapply (wp_load_rect 𝒱₀ (c : Thread nD τ) none Set.univ (m := m) (r := Rect.unit (s := s) off s.size inb) (hl := hl) (by
    intro x hx; obtain ⟨y, -, rfl⟩ := Finset.mem_map.mp hx
    exact Finset.mem_map.mpr ⟨(Rect.unit (s := s) off s.size inb).emb y, Finset.mem_univ _, rfl⟩)) $$ H
  iintro H
  rw [e]
  iapply Hk
  iexists f
  isplitr; · ipureintro; exact hf
  iexact H

/-- A load of 128 columns of a whole buffer. -/
theorem ld_col (h : Fin 8) {m : Memref sig .tc cs S1024x1024 .bf16} {off : Fin 2 → ℕ} (ho : off = ![0, 128 * h.val])
    {inb : ∀ a, off a + S1024x128.size a ≤ S1024x1024.size a}
    {hl : m.view.LoadsAt (Rect.unit (s := S1024x1024) off S1024x128.size inb).toLoadRect}
    {k : (S1024x128.Idx → Elt F .bf16) → Prog (TpuEff nD τ sig (Elt F) Λ₀ .tc) α} {q : PosShare TreeShare} {X : S1024x1024.Idx → Elt F .bf16} :
    ow c m.view q X
      ⊢ iprop((ow c m.view q X -∗ run c (k (colOf h X)) Q)
        -∗ run c (.op (.load m (Rect.unit (s := S1024x1024) off S1024x128.size inb).toLoadRect hl) k) Q) := by
  subst ho
  unfold ow
  iintro ⟨%f, %hf, H⟩ Hk
  have e : (m.access (Rect.unit (s := S1024x1024) ![0, 128 * h.val] S1024x128.size inb)).read (Elt F) f = colOf h X := by
    rw [← hf]; rfl
  iapply (wp_load_rect 𝒱₀ (c : Thread nD τ) none Set.univ (m := m) (r := Rect.unit (s := S1024x1024) ![0, 128 * h.val] S1024x128.size inb) (hl := hl) (by
    intro x hx; obtain ⟨y, -, rfl⟩ := Finset.mem_map.mp hx
    exact Finset.mem_map.mpr ⟨(Rect.unit (s := S1024x1024) ![0, 128 * h.val] S1024x128.size inb).emb y, Finset.mem_univ _, rfl⟩)) $$ H
  iintro H
  rw [e]
  iapply Hk
  iexists f
  isplitr; · ipureintro; exact hf
  iexact H

/-- A load of the rows a slot is about. -/
theorem ld_rows (t : Fin 4) {m : Memref sig .tc cs S1024x1024 .f32} {off : Fin 2 → ℕ} (ho : off = k0_off3 c (slotWord t))
    {inb : ∀ a, off a + S256x1024.size a ≤ S1024x1024.size a}
    {hl : m.view.LoadsAt (Rect.unit (s := S1024x1024) off S256x1024.size inb).toLoadRect}
    {k : (S256x1024.Idx → Elt F .f32) → Prog (TpuEff nD τ sig (Elt F) Λ₀ .tc) α} {q : PosShare TreeShare} {X : S1024x1024.Idx → Elt F .f32} :
    ow c m.view q X
      ⊢ iprop((ow c m.view q X -∗ run c (k (rowsOf c t X)) Q)
        -∗ run c (.op (.load m (Rect.unit (s := S1024x1024) off S256x1024.size inb).toLoadRect hl) k) Q) := by
  subst ho
  unfold ow
  iintro ⟨%f, %hf, H⟩ Hk
  have e : (m.access (Rect.unit (s := S1024x1024) (k0_off3 c (slotWord t)) S256x1024.size inb)).read (Elt F) f = rowsOf c t X := by
    rw [← hf]; rfl
  iapply (wp_load_rect 𝒱₀ (c : Thread nD τ) none Set.univ (m := m) (r := Rect.unit (s := S1024x1024) (k0_off3 c (slotWord t)) S256x1024.size inb) (hl := hl) (by
    intro x hx; obtain ⟨y, -, rfl⟩ := Finset.mem_map.mp hx
    exact Finset.mem_map.mpr ⟨(Rect.unit (s := S1024x1024) (k0_off3 c (slotWord t)) S256x1024.size inb).emb y, Finset.mem_univ _, rfl⟩)) $$ H
  iintro H
  rw [e]
  iapply Hk
  iexists f
  isplitr; · ipureintro; exact hf
  iexact H

/-- A store over everything a whole view shows. -/
theorem st_full {m : Memref sig .tc cs s e} {off : Fin s.rank → ℕ} (h0 : ∀ a, off a = 0) {inb : ∀ a, off a + s.size a ≤ s.size a} {w : s.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    av c m.view ⊢ iprop((ow c m.view fullShare w -∗ run c (k ⟨⟩) Q)
        -∗ run c (.op (.store m (Rect.unit (s := s) off s.size inb) w Finset.univ hx hm) k) Q) := by
  unfold av ow
  iintro ⟨%f, H⟩ Hk
  iapply (wp_store 𝒱₀ (c : Thread nD τ) none Set.univ (m := m) (r := Rect.unit (s := s) off s.size inb) (w := w) (Mk := Finset.univ) (hx := hx) (hm := hm)
    (by rw [View.setOn_univ]; intro x hx; obtain ⟨y, -, rfl⟩ := Finset.mem_map.mp hx
        exact Finset.mem_map.mpr ⟨(Rect.unit (s := s) off s.size inb).emb y, Finset.mem_univ _, rfl⟩)) $$ H
  iintro H
  iapply Hk
  iexists _
  isplitr
  rotate_left
  · iexact H
  ipureintro
  refine Eq.trans ?_ (View.read_write_univ (v := m.access (Rect.unit (s := s) off s.size inb)) f w)
  generalize (m.access (Rect.unit (s := s) off s.size inb)).write (Elt F) f w Finset.univ = g
  funext j
  show _root_.cast _ (g (m.view.emb j)) = _root_.cast _ (g (m.view.emb ((Rect.unit (s := s) off s.size inb).emb j)))
  rw [emb_full h0 inb j]

/-- A load of everything whose value is not used. -/
theorem ld_fullav {m : Memref sig .tc cs s e} {off : Fin s.rank → ℕ} {inb : ∀ a, off a + s.size a ≤ s.size a}
    {hl : m.view.LoadsAt (Rect.unit (s := s) off s.size inb).toLoadRect}
    {k : Prog (TpuEff nD τ sig (Elt F) Λ₀ .tc) α} :
    av c m.view ⊢ iprop((av c m.view -∗ run c k Q)
        -∗ run c (.op (.load m (Rect.unit (s := s) off s.size inb).toLoadRect hl) (fun _ => k)) Q) := by
  unfold av
  iintro ⟨%f, H⟩ Hk
  iapply (wp_load_rect 𝒱₀ (c : Thread nD τ) none Set.univ (m := m) (r := Rect.unit (s := s) off s.size inb) (hl := hl) (by
    intro x hx; obtain ⟨y, -, rfl⟩ := Finset.mem_map.mp hx
    exact Finset.mem_map.mpr ⟨(Rect.unit (s := s) off s.size inb).emb y, Finset.mem_univ _, rfl⟩)) $$ H
  iintro H
  iapply Hk
  iexists f
  iexact H

end Full

end Cert.KernelIdeal.Hand

end
-- ==== Proof.Steps.lean ====
/-
  The same steps on the kernel's own buffers: the squeezed blocks the copies move, and the context and staging whole.
-/
module

public import proofs.«01_k».proof.Proof.Geo

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A memref owned with contents `X`. -/
abbrev wh (c : Dev nD) {sp : Space} {s : Shape} {e : EltTy} (m : Memref sig .tc sp s e) (X : s.Idx → Elt F e) : sProp 𝕄 := ow c m.view fullShare X
/-- A memref owned with any contents. -/
abbrev an (c : Dev nD) {sp : Space} {s : Shape} {e : EltTy} (m : Memref sig .tc sp s e) : sProp 𝕄 := av c m.view

abbrev mX : Memref sig .tc .vmem S1024x1024 .f32 := Memref.whole cc0_stg0_0
abbrev mK : Memref sig .tc .vmem S1024x1024 .bf16 := Memref.whole cc0_stg1_0
abbrev mV : Memref sig .tc .vmem S1024x1024 .bf16 := Memref.whole cc0_stg2_0
abbrev mO : Memref sig .tc .hbm S1024x1024 .f32 := Memref.whole main_v6
abbrev mAcc : Memref sig .tc .vmem S4x256x1024 .bf16 := Memref.whole cc0_scratch0
abbrev mRva : Memref sig .tc .vmem S3x256x512 .bf16 := Memref.whole cc0_scratch1
abbrev mRvb : Memref sig .tc .vmem S3x256x512 .bf16 := Memref.whole cc0_scratch2
abbrev mCtx : Memref sig .tc .vmem S256x1024 .bf16 := Memref.whole cc0_scratch9
abbrev mStage : Memref sig .tc .vmem S1024x1024 .f32 := Memref.whole cc0_scratch10
abbrev mWqf : Memref sig .tc .vmem S1024x1024 .f32 := Memref.whole cc0_scratch11
abbrev mWof : Memref sig .tc .vmem S1024x1024 .f32 := Memref.whole cc0_scratch12
abbrev mWqb : Memref sig .tc .vmem S1024x1024 .bf16 := Memref.whole cc0_scratch13
abbrev mWob : Memref sig .tc .vmem S1024x1024 .bf16 := Memref.whole cc0_scratch14
abbrev mWq : Memref sig .tc .hbm S1024x4096 .f32 := Memref.whole main_arg1
abbrev mWo : Memref sig .tc .hbm S4096x1024 .f32 := Memref.whole main_arg4

/-- A half of a slot, a slot of a landing buffer, without the axis of one. -/
abbrev accM (o : Fin 3 → ℕ) (h : ∀ a, o a + S1x256x512.size a ≤ S4x256x1024.size a) : Memref sig .tc .vmem S256x512 .bf16 :=
  (mAcc.slice (Rect.unit (s := S4x256x1024) o S1x256x512.size h) (fun _ => rfl)).squeeze S256x512 squeezes_S1x256x512_S256x512
abbrev rvaM (o : Fin 3 → ℕ) (h : ∀ a, o a + S1x256x512.size a ≤ S3x256x512.size a) : Memref sig .tc .vmem S256x512 .bf16 :=
  (mRva.slice (Rect.unit (s := S3x256x512) o S1x256x512.size h) (fun _ => rfl)).squeeze S256x512 squeezes_S1x256x512_S256x512
abbrev rvbM (o : Fin 3 → ℕ) (h : ∀ a, o a + S1x256x512.size a ≤ S3x256x512.size a) : Memref sig .tc .vmem S256x512 .bf16 :=
  (mRvb.slice (Rect.unit (s := S3x256x512) o S1x256x512.size h) (fun _ => rfl)).squeeze S256x512 squeezes_S1x256x512_S256x512

section Sq
variable (c : Dev nD) (o : Fin 3 → ℕ) (q : PosShare TreeShare) (X : Vec F S1x256x512 .bf16)

theorem accM_ow (h : ∀ a, o a + S1x256x512.size a ≤ S4x256x1024.size a) : (ow c (accM o h).view q (flat X) : sProp 𝕄) = ow c (accV o h) q X :=
  ow_reshape c (accV o h) squeezes_S1x256x512_S256x512.numel_eq q X
theorem rvaM_ow (h : ∀ a, o a + S1x256x512.size a ≤ S3x256x512.size a) : (ow c (rvaM o h).view q (flat X) : sProp 𝕄) = ow c (rvaV o h) q X :=
  ow_reshape c (rvaV o h) squeezes_S1x256x512_S256x512.numel_eq q X
theorem rvbM_ow (h : ∀ a, o a + S1x256x512.size a ≤ S3x256x512.size a) : (ow c (rvbM o h).view q (flat X) : sProp 𝕄) = ow c (rvbV o h) q X :=
  ow_reshape c (rvbV o h) squeezes_S1x256x512_S256x512.numel_eq q X
theorem rvaM_av (h : ∀ a, o a + S1x256x512.size a ≤ S3x256x512.size a) : (av c (rvaM o h).view : sProp 𝕄) = av c (rvaV o h) :=
  av_reshape c (rvaV o h) squeezes_S1x256x512_S256x512.numel_eq
theorem rvbM_av (h : ∀ a, o a + S1x256x512.size a ≤ S3x256x512.size a) : (av c (rvbM o h).view : sProp 𝕄) = av c (rvbV o h) :=
  av_reshape c (rvbV o h) squeezes_S1x256x512_S256x512.numel_eq

end Sq

theorem eqE {P R : sProp 𝕄} (h : P = R) : P ⊢ R := Entails.of_eq h

section Send
variable (D : Inp F) (K : GSem nD τ sig → ℕ) (c : Dev nD) {α : Type} {Q : α → sProp (MT nD τ sig Unit (Elt F) ℕ UU ℕ)}

/-- A half sent into a slot of the right neighbour's landing buffer. -/
theorem send_a (n n' : DmaSem sig) (i : Fin 14) (l : List (Fin 14)) (p : Dev nD) (X : Vec F S1x256x512 .bf16)
    (h3 : 3 ≤ n.val) (h3' : 3 ≤ n'.val) (h27 : n.val < 27) (h27' : n'.val < 27) (hi : tgt c i = cell p n')
    {o o' : Fin 3 → ℕ} {h : ∀ a, o a + S1x256x512.size a ≤ S4x256x1024.size a} {h' : ∀ a, o' a + S1x256x512.size a ≤ S3x256x512.size a}
    {p' : Dev nD} (hp : p' = p) {q q' : DmaSem sig} (hq : q = n) (hq' : q' = n')
    {hsc : (rvaM o' h').view.ref.isScScratch = false} {hsrc : (accM o h).view.WordExact} {hdst : (rvaM o' h').view.WordExact}
    {hsem : DmaTarget.Typed .vmem (.dma q') (.remote (Dev.tc p') (rvaM o' h') (.dma q) hsc)}
    (hpay : (payD D c n.val : sProp 𝕄) = ow c (accV o h) fullShare X) (hpay' : (payD D p n'.val : sProp 𝕄) = ow p (rvaV o' h') fullShare X)
    {k : PUnit → Prog (TpuEff nD τ sig (Elt F) Λ₀ .tc) α} :
    iprop(invs D K ∗ chan c n p n' ∗ OW c (i :: l) ∗ ow c (accV o h) fullShare X ∗ av p (rvaV o' h') ∗ reached ER (cell p n') 0)
      ⊢ iprop(((OW c l ∗ pend c n) -∗ run c (k ⟨⟩) Q)
        -∗ run c (.op (.enqueueDma (accM o h) (.remote (Dev.tc p') (rvaM o' h') (.dma q) hsc) (.dma q') hsrc hdst hsem) k) Q) := by
  rw [← accM_ow c o fullShare X h, ← rvaM_av p o' h']
  exact step_send D K c n n' i l p (flat X) fullShare h3 h3' h27 h27' hi hp hq hq' rfl
    (eqE (by rw [hpay, accM_ow])) (eqE (by rw [hpay', rvaM_ow]))

/-- A half sent into a slot of the left neighbour's landing buffer. -/
theorem send_b (n n' : DmaSem sig) (i : Fin 14) (l : List (Fin 14)) (p : Dev nD) (X : Vec F S1x256x512 .bf16)
    (h3 : 3 ≤ n.val) (h3' : 3 ≤ n'.val) (h27 : n.val < 27) (h27' : n'.val < 27) (hi : tgt c i = cell p n')
    {o o' : Fin 3 → ℕ} {h : ∀ a, o a + S1x256x512.size a ≤ S4x256x1024.size a} {h' : ∀ a, o' a + S1x256x512.size a ≤ S3x256x512.size a}
    {p' : Dev nD} (hp : p' = p) {q q' : DmaSem sig} (hq : q = n) (hq' : q' = n')
    {hsc : (rvbM o' h').view.ref.isScScratch = false} {hsrc : (accM o h).view.WordExact} {hdst : (rvbM o' h').view.WordExact}
    {hsem : DmaTarget.Typed .vmem (.dma q') (.remote (Dev.tc p') (rvbM o' h') (.dma q) hsc)}
    (hpay : (payD D c n.val : sProp 𝕄) = ow c (accV o h) fullShare X) (hpay' : (payD D p n'.val : sProp 𝕄) = ow p (rvbV o' h') fullShare X)
    {k : PUnit → Prog (TpuEff nD τ sig (Elt F) Λ₀ .tc) α} :
    iprop(invs D K ∗ chan c n p n' ∗ OW c (i :: l) ∗ ow c (accV o h) fullShare X ∗ av p (rvbV o' h') ∗ reached ER (cell p n') 0)
      ⊢ iprop(((OW c l ∗ pend c n) -∗ run c (k ⟨⟩) Q)
        -∗ run c (.op (.enqueueDma (accM o h) (.remote (Dev.tc p') (rvbM o' h') (.dma q) hsc) (.dma q') hsrc hdst hsem) k) Q) := by
  rw [← accM_ow c o fullShare X h, ← rvbM_av p o' h']
  exact step_send D K c n n' i l p (flat X) fullShare h3 h3' h27 h27' hi hp hq hq' rfl
    (eqE (by rw [hpay, accM_ow])) (eqE (by rw [hpay', rvbM_ow]))

/-- A finished half sent to a neighbour, part of the ownership kept. -/
theorem send_ag (n n' : DmaSem sig) (i : Fin 14) (l : List (Fin 14)) (p : Dev nD) (X : Vec F S1x256x512 .bf16) (sh : PosShare TreeShare)
    (dst : Memref sig .tc .vmem S256x512 .bf16) (hN : dst.view.dmaCredit = N)
    (h3 : 3 ≤ n.val) (h3' : 3 ≤ n'.val) (h27 : n.val < 27) (h27' : n'.val < 27) (hi : tgt c i = cell p n')
    {o : Fin 3 → ℕ} {h : ∀ a, o a + S1x256x512.size a ≤ S4x256x1024.size a}
    {p' : Dev nD} (hp : p' = p) {q q' : DmaSem sig} (hq : q = n) (hq' : q' = n')
    {hsc : dst.view.ref.isScScratch = false} {hsrc : (accM o h).view.WordExact} {hdst : dst.view.WordExact}
    {hsem : DmaTarget.Typed .vmem (.dma q') (.remote (Dev.tc p') dst (.dma q) hsc)}
    (hpay : (payD D c n.val : sProp 𝕄) = ow c (accV o h) sh X) (hpay' : (payD D p n'.val : sProp 𝕄) = ow p dst.view fullShare (flat X))
    {k : PUnit → Prog (TpuEff nD τ sig (Elt F) Λ₀ .tc) α} :
    iprop(invs D K ∗ chan c n p n' ∗ OW c (i :: l) ∗ ow c (accV o h) sh X ∗ av p dst.view ∗ reached ER (cell p n') 0)
      ⊢ iprop(((OW c l ∗ pend c n) -∗ run c (k ⟨⟩) Q)
        -∗ run c (.op (.enqueueDma (accM o h) (.remote (Dev.tc p') dst (.dma q) hsc) (.dma q') hsrc hdst hsem) k) Q) := by
  rw [← accM_ow c o sh X h]
  exact step_send D K c n n' i l p (flat X) sh h3 h3' h27 h27' hi hp hq hq' hN
    (eqE (by rw [hpay, accM_ow])) (eqE (by rw [hpay']))

/-- A landed half passed on, part of the ownership kept. -/
theorem send_dg (n n' : DmaSem sig) (i : Fin 14) (l : List (Fin 14)) (p : Dev nD) (X : Vec F S256x512 .bf16) (sh : PosShare TreeShare)
    (src dst : Memref sig .tc .vmem S256x512 .bf16) (hN : dst.view.dmaCredit = N)
    (h3 : 3 ≤ n.val) (h3' : 3 ≤ n'.val) (h27 : n.val < 27) (h27' : n'.val < 27) (hi : tgt c i = cell p n')
    {p' : Dev nD} (hp : p' = p) {q q' : DmaSem sig} (hq : q = n) (hq' : q' = n')
    {hsc : dst.view.ref.isScScratch = false} {hsrc : src.view.WordExact} {hdst : dst.view.WordExact}
    {hsem : DmaTarget.Typed .vmem (.dma q') (.remote (Dev.tc p') dst (.dma q) hsc)}
    (hpay : (payD D c n.val : sProp 𝕄) = ow c src.view sh X) (hpay' : (payD D p n'.val : sProp 𝕄) = ow p dst.view fullShare X)
    {k : PUnit → Prog (TpuEff nD τ sig (Elt F) Λ₀ .tc) α} :
    iprop(invs D K ∗ chan c n p n' ∗ OW c (i :: l) ∗ ow c src.view sh X ∗ av p dst.view ∗ reached ER (cell p n') 0)
      ⊢ iprop(((OW c l ∗ pend c n) -∗ run c (k ⟨⟩) Q)
        -∗ run c (.op (.enqueueDma src (.remote (Dev.tc p') dst (.dma q) hsc) (.dma q') hsrc hdst hsem) k) Q) :=
  step_send D K c n n' i l p X sh h3 h3' h27 h27' hi hp hq hq' hN (eqE hpay.symm) (eqE hpay'.symm)

theorem wq_pay : iprop(ow c mWqf.view fullShare ((wqS c).read (Elt F) (D.wq c)) ∗ ((wqS c).loc (c : Thread nD τ) ↦[(wqS c).set]{fullShare} D.wq c)) ⊢ (payD D c 28 : sProp 𝕄) := by
  show iprop(ow c (View.whole cc0_scratch11) fullShare (wqf D c) ∗ ((wqS c).loc (c : Thread nD τ) ↦[(wqS c).set]{fullShare} D.wq c))
    ⊢ iprop(pt c cc0_scratch11 fullShare (wqf D c) ∗ ((wqS c).loc (c : Thread nD τ) ↦[(wqS c).set]{fullShare} D.wq c))
  rw [ow_whole c cc0_scratch11 fullShare (wqf D c)]
theorem wo_pay : iprop(ow c mWof.view fullShare ((woS c).read (Elt F) (D.wo c)) ∗ ((woS c).loc (c : Thread nD τ) ↦[(woS c).set]{fullShare} D.wo c)) ⊢ (payD D c 29 : sProp 𝕄) := by
  show iprop(ow c (View.whole cc0_scratch12) fullShare (wof D c) ∗ ((woS c).loc (c : Thread nD τ) ↦[(woS c).set]{fullShare} D.wo c))
    ⊢ iprop(pt c cc0_scratch12 fullShare (wof D c) ∗ ((woS c).loc (c : Thread nD τ) ↦[(woS c).set]{fullShare} D.wo c))
  rw [ow_whole c cc0_scratch12 fullShare (wof D c)]
theorem wq_credit : mWqf.view.dmaCredit = amtD 28 := rfl
theorem wo_credit : mWof.view.dmaCredit = amtD 29 := rfl

/-- The fetch of the device's part of the query weights, of the output weights, and the copy of the result out. -/
theorem copy_wq {q : DmaSem sig} (hq : q = 28) {h : ∀ a, k0_off1 c a + S1024x1024.size a ≤ S1024x4096.size a}
    {hsrc : (mWq.slice (Rect.unit (s := S1024x4096) (k0_off1 c) S1024x1024.size h) (fun _ => rfl)).view.WordExact} {hdst : mWqf.view.WordExact}
    {hsem : DmaTarget.Typed (nD := nD) (τ := τ) (p := .tc) .hbm (.dma q) (.here mWqf)}
    {k : PUnit → Prog (TpuEff nD τ sig (Elt F) Λ₀ .tc) α} :
    iprop(invs D K ∗ lchan c 28 ∗ ((wqS c).loc (c : Thread nD τ) ↦[(wqS c).set]{fullShare} D.wq c) ∗ an c mWqf)
      ⊢ iprop((pend c 28 -∗ run c (k ⟨⟩) Q)
        -∗ run c (.op (.enqueueDma (mWq.slice (Rect.unit (s := S1024x4096) (k0_off1 c) S1024x1024.size h) (fun _ => rfl)) (.here mWqf) (.dma q) hsrc hdst hsem) k) Q) := by
  have h27 : 3 ≤ (28 : DmaSem sig).val := by decide
  have h := step_copy D K c (Q := Q) (src := (mWq.slice (Rect.unit (s := S1024x4096) (k0_off1 c) S1024x1024.size h) (fun _ => rfl))) (dst := mWqf) (hsrc := hsrc) (hdst := hdst) (hsem := hsem) (k := k) 28 h27 hq wq_credit fullShare (D.wq c)
  have hh := h (wq_pay D c)
  exact hh

theorem copy_wo {q : DmaSem sig} (hq : q = 29) {h : ∀ a, k0_off2 c a + S1024x1024.size a ≤ S4096x1024.size a}
    {hsrc : (mWo.slice (Rect.unit (s := S4096x1024) (k0_off2 c) S1024x1024.size h) (fun _ => rfl)).view.WordExact} {hdst : mWof.view.WordExact}
    {hsem : DmaTarget.Typed (nD := nD) (τ := τ) (p := .tc) .hbm (.dma q) (.here mWof)}
    {k : PUnit → Prog (TpuEff nD τ sig (Elt F) Λ₀ .tc) α} :
    iprop(invs D K ∗ lchan c 29 ∗ ((woS c).loc (c : Thread nD τ) ↦[(woS c).set]{fullShare} D.wo c) ∗ an c mWof)
      ⊢ iprop((pend c 29 -∗ run c (k ⟨⟩) Q)
        -∗ run c (.op (.enqueueDma (mWo.slice (Rect.unit (s := S4096x1024) (k0_off2 c) S1024x1024.size h) (fun _ => rfl)) (.here mWof) (.dma q) hsrc hdst hsem) k) Q) := by
  have h27 : 3 ≤ (29 : DmaSem sig).val := by decide
  have h := step_copy D K c (Q := Q) (src := (mWo.slice (Rect.unit (s := S4096x1024) (k0_off2 c) S1024x1024.size h) (fun _ => rfl))) (dst := mWof) (hsrc := hsrc) (hdst := hdst) (hsem := hsem) (k := k) 29 h27 hq wo_credit fullShare (D.wo c)
  have hh := h (wo_pay D c)
  exact hh

theorem copy_out {q : DmaSem sig} (hq : q = 27) {hsrc : mStage.view.WordExact} {hdst : mO.view.WordExact}
    {hsem : DmaTarget.Typed (nD := nD) (τ := τ) (p := .tc) .vmem (.dma q) (.here mO)}
    {k : PUnit → Prog (TpuEff nD τ sig (Elt F) Λ₀ .tc) α} :
    iprop(invs D K ∗ lchan c 27 ∗ pt c cc0_scratch10 fullShare (outV D) ∗ an c mO)
      ⊢ iprop((pend c 27 -∗ run c (k ⟨⟩) Q)
        -∗ run c (.op (.enqueueDma mStage (.here mO) (.dma q) hsrc hdst hsem) k) Q) := by
  have h := step_copy D K c (Q := Q) (src := mStage) (dst := mO) (q := q) (hsrc := hsrc) (hdst := hdst) (hsem := hsem) (k := k) 27 (by decide) hq rfl fullShare (outV D)
    (by
      rw [show (mStage.view).set = Finset.univ from View.set_whole cc0_scratch10]
      refine Entails.of_eq ?_
      have e := ow_whole (F := F) c main_v6 fullShare (outV D)
      exact congrArg (fun P : sProp 𝕄 => iprop(P ∗ pt c cc0_scratch10 fullShare (outV D))) e)
  rw [show (mStage.view).set = Finset.univ from View.set_whole cc0_scratch10] at h
  exact h

end Send

/-! ## The context and the staging -/

section Ctx
variable (D : Inp F) (c : Dev nD) (s : Fin 4)

theorem ctx_again : (an c mCtx : sProp 𝕄) ⊢ ctxP D c s 0 := (eqE (av_whole c cc0_scratch9)).trans (ctx_start D c s)
theorem ctx_full : ctxP D c s 1024 ⊢ (wh c mCtx (ctxV D c s) : sProp 𝕄) := (ctx_end D c s).trans (eqE (ow_whole c cc0_scratch9 fullShare (ctxV D c s)).symm)

variable {α : Type} {Q : α → sProp (MT nD τ sig Unit (Elt F) ℕ UU ℕ)} {o : Fin 2 → ℕ}
  {inb : ∀ a, o a + S256x512.size a ≤ S1024x1024.size a} {l : List (Dev nD × Fin 2)}

/-- A load of the staging whose value is passed on and not used. -/
theorem ld_stage_any {hl : mStage.view.LoadsAt (Rect.unit (s := S1024x1024) o S256x512.size inb).toLoadRect}
    {k : ((Rect.unit (s := S1024x1024) o S256x512.size inb).toLoadRect.shape.Idx → Elt F .f32) → Prog (TpuEff nD τ sig (Elt F) Λ₀ .tc) α} :
    stageP D c l ⊢ iprop((∀ v, stageP D c l -∗ run c (k v) Q)
      -∗ run c (.op (.load mStage (Rect.unit (s := S1024x1024) o S256x512.size inb).toLoadRect hl) k) Q) := by
  unfold stageP
  iintro ⟨%f, %hf, H⟩ Hk
  iapply (ld_pt c rfl) $$ H
  iintro H
  iapply Hk
  iexists f
  isplitr; · ipureintro; exact hf
  iexact H

end Ctx

end Cert.KernelIdeal.Hand

end
-- ==== Proof.Parts0.lean ====
/-
  The kernel's run, piece by piece: the first slot.
-/
module

public import proofs.«01_k».proof.Proof.Steps

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem z2 : ∀ a : Fin 2, (![0, 0] : Fin 2 → ℕ) a = 0 := by decide
theorem nxt3 (c : Dev nD) : nxt (nxt (nxt c)) = prv c := by revert c; decide

abbrev rv2 (D : Inp F) (c : Dev nD) : BitVec 32 := (Scalar.remsi (Scalar.divsi (Dev.word c) 1#32) 4#32)
abbrev rv5 (D : Inp F) (c : Dev nD) : BitVec 32 := (Scalar.remsi (Scalar.subi (Scalar.addi (Scalar.remsi (Scalar.divsi (Dev.word c) 1#32) 4#32) 4#32) 1#32) 4#32)
abbrev rv7 (D : Inp F) (c : Dev nD) : BitVec 32 := (Scalar.remsi (Scalar.addi (Scalar.remsi (Scalar.divsi (Dev.word c) 1#32) 4#32) 1#32) 4#32)
abbrev rv25 (D : Inp F) (c : Dev nD) : FVec F S1024x1024 .bf16 := k0_pay2 (wqf D c)
theorem p1 (D : Inp F) (K : GSem nD τ sig → ℕ) (c : Dev nD) {Q : (Σ' (d0 : Dev nD) (v2 : BitVec 32) (v5 : BitVec 32) (v7 : BitVec 32), FVec F S1024x1024 .bf16) → sProp 𝕄} :
    iprop(invs D K ∗ levAts L lv ∗ lchan c 28 ∗ ((wqS c).loc (c : Thread nD τ) ↦[(wqS c).set]{fullShare} D.wq c) ∗ an c mWqf ∗ lchan c 29 ∗ ((woS c).loc (c : Thread nD τ) ↦[(woS c).set]{fullShare} D.wo c) ∗ an c mWof ∗ OW c [0, 1, 2, 3, 4, 5, 6, 7, 8, 9, 10, 11, 12, 13] ∗ dutyTok ER (barCell (prv c)) 0 false ∗ giveL c ∗ reached ER (barCell (prv c)) 0 ∗ dutyTok ER (barCell (nxt c)) 0 true ∗ giveR c ∗ reached ER (barCell (nxt c)) 0 ∗ (atPos ER (barCell c) 0 ∅ 0 ∗ cred (tallyAt (barCell c) () 2)))
      ⊢ iprop(((OW c [2, 3, 4, 5, 6, 7, 8, 9, 10, 11, 12, 13] ∗ pend c 29 ∗ atPos ER (barCell c) (0 + 1) ∅ 0 ∗ av (nxt c) rva0 ∗ av (nxt c) rva1 ∗ av (nxt c) rva2 ∗ av (nxt c) agla ∗ av (nxt c) aglb ∗ av (nxt c) dg2a ∗ reached ER (cell (nxt c) 6) 0 ∗ reached ER (cell (nxt c) 7) 0 ∗ reached ER (cell (nxt c) 8) 0 ∗ reached ER (cell (nxt c) 21) 0 ∗ reached ER (cell (nxt c) 22) 0 ∗ reached ER (cell (nxt c) 25) 0 ∗ av (prv c) rvb0 ∗ av (prv c) rvb1 ∗ av (prv c) rvb2 ∗ av (prv c) agra ∗ av (prv c) agrb ∗ av (prv c) dg2b ∗ reached ER (cell (prv c) 12) 0 ∗ reached ER (cell (prv c) 13) 0 ∗ reached ER (cell (prv c) 14) 0 ∗ reached ER (cell (prv c) 23) 0 ∗ reached ER (cell (prv c) 24) 0 ∗ reached ER (cell (prv c) 26) 0 ∗ done c 28 ∗ wh c mWqf (wqf D c) ∗ ((wqS c).loc (c : Thread nD τ) ↦[(wqS c).set]{fullShare} D.wq c)) -∗ Q ⟨c, (rv2 D c), (rv5 D c), (rv7 D c), (rv25 D c)⟩)
        -∗ run c (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 ) Q) := by
  iintro ⟨#HI, #HL, C28, Hwq, Hwqf, C29, Hwo, Hwof, HO, TL, GL, RL, TR, GR, RR, BAR⟩ Hret
  rw [k0_part1_eq_skeleton]; unfold k0_part1_skel
  simp only [semSignalWord, semWaitWord, Prog.lift, Prog.bind_op, Prog.bind_ret, Prog.pure_eq_ret, Prog.bind_assoc, wp_deviceId]
  iapply (copy_wq D K c rfl) $$ [C28 Hwq Hwqf]
  · isplitr; · iexact HI
    isplitl [C28]; · iexact C28
    isplitl [Hwq]; · iexact Hwq
    iexact Hwqf
  iintro P28
  iapply (copy_wo D K c rfl) $$ [C29 Hwo Hwof]
  · isplitr; · iexact HI
    isplitl [C29]; · iexact C29
    isplitl [Hwo]; · iexact Hwo
    iexact Hwof
  iintro P29
  ihave GL := (eqE (show (giveL c : sProp 𝕄) = barPay (prv c) false by show _ = giveL (nxt (prv c)); rw [nxt_prv])) $$ GL
  iapply (step_signal D K c 0 [1, 2, 3, 4, 5, 6, 7, 8, 9, 10, 11, 12, 13] (prv c) false rfl (dev1_eq c) rfl rfl) $$ [HO TL GL RL]
  · isplitr; · iexact HI
    isplitl [HO]; · iexact HO
    isplitl [TL]; · iexact TL
    isplitl [GL]; · iexact GL
    iexact RL
  iintro HO
  ihave GR := (eqE (show (giveR c : sProp 𝕄) = barPay (nxt c) true by show _ = giveR (prv (nxt c)); rw [prv_nxt])) $$ GR
  iapply (step_signal D K c 1 [2, 3, 4, 5, 6, 7, 8, 9, 10, 11, 12, 13] (nxt c) true rfl (dev2_eq c) rfl rfl) $$ [HO TR GR RR]
  · isplitr; · iexact HI
    isplitl [HO]; · iexact HO
    isplitl [TR]; · iexact TR
    isplitl [GR]; · iexact GR
    iexact RR
  iintro HO
  iapply (step_bar D K c [2, 3, 4, 5, 6, 7, 8, 9, 10, 11, 12, 13] (by decide) rfl rfl) $$ [BAR HO]
  · isplitr; · iexact HI
    isplitr; · iexact HL
    isplitl [BAR]; · iexact BAR
    iexact HO
  iintro ⟨HO, BZ, Hl, Hr⟩
  unfold giveL giveR
  icases Hl with ⟨RA0, RA1, RA2, PG9, PG10, PG13, r6, r7, r8, r21, r22, r25⟩
  icases Hr with ⟨RB0, RB1, RB2, PG11, PG12, PG14, r12, r13, r14, r23, r24, r26⟩
  iapply (step_wait D K c 28 [2, 3, 4, 5, 6, 7, 8, 9, 10, 11, 12, 13] (by decide) (by decide) rfl rfl) $$ [P28 HO]
  · isplitr; · iexact HI
    isplitr; · iexact HL
    isplitl [P28]; · iexact P28
    iexact HO
  iintro ⟨HO, Z28, Hp⟩
  ihave Hp := (eqE (show (payD D c (28 : DmaSem sig).val : sProp 𝕄) = iprop(pt c cc0_scratch11 fullShare (wqf D c) ∗ (wqS c).loc (c : Thread nD τ) ↦[(wqS c).set]{fullShare} D.wq c) from rfl)) $$ Hp
  icases Hp with ⟨Hwqf, Hwq⟩
  ihave Hwqf := (eqE (show (pt c cc0_scratch11 fullShare (wqf D c) : sProp 𝕄) = wh c mWqf (wqf D c) from (ow_whole (F := F) c cc0_scratch11 fullShare (wqf D c)).symm)) $$ Hwqf
  iapply (ld_full c z2) $$ Hwqf
  iintro Hwqf
  rw [run, wp_ret]; imodintro
  iapply Hret
  isplitl [HO]; · iexact HO
  isplitl [P29]; · iexact P29
  isplitl [BZ]; · iexact BZ
  isplitl [RA0]; · iexact RA0
  isplitl [RA1]; · iexact RA1
  isplitl [RA2]; · iexact RA2
  isplitl [PG9]; · iexact PG9
  isplitl [PG10]; · iexact PG10
  isplitl [PG13]; · iexact PG13
  isplitl [r6]; · iexact r6
  isplitl [r7]; · iexact r7
  isplitl [r8]; · iexact r8
  isplitl [r21]; · iexact r21
  isplitl [r22]; · iexact r22
  isplitl [r25]; · iexact r25
  isplitl [RB0]; · iexact RB0
  isplitl [RB1]; · iexact RB1
  isplitl [RB2]; · iexact RB2
  isplitl [PG11]; · iexact PG11
  isplitl [PG12]; · iexact PG12
  isplitl [PG14]; · iexact PG14
  isplitl [r12]; · iexact r12
  isplitl [r13]; · iexact r13
  isplitl [r14]; · iexact r14
  isplitl [r23]; · iexact r23
  isplitl [r24]; · iexact r24
  isplitl [r26]; · iexact r26
  isplitl [Z28]; · iexact Z28
  isplitl [Hwqf]; · iexact Hwqf
  iexact Hwq

abbrev rv53 (D : Inp F) (c : Dev nD) : IVec S256x1024 32 := k0_pay4
abbrev rv54 (D : Inp F) (c : Dev nD) : IVec S256x1024 32 := (iota .tc S256x1024 32 [0] iota_S256x1024_d0_w32)
abbrev rv67 (D : Inp F) (c : Dev nD) : FVec F S256x1024 .bf16 := k0_pay5 (rowsOf c 0 (D.x c)) (wqb D c)
abbrev rv68 (D : Inp F) (c : Dev nD) : IVec S256x1024 32 := k0_pay6 (rv2 D c)
theorem p2 (D : Inp F) (K : GSem nD τ sig → ℕ) (c : Dev nD) {Q : (Σ' (v53 : IVec S256x1024 32) (v54 : IVec S256x1024 32) (v67 : FVec F S256x1024 .bf16), IVec S256x1024 32) → sProp 𝕄} :
    iprop(an c mWqb ∗ wh c mX (D.x c))
      ⊢ iprop(((wh c mX (D.x c) ∗ wh c mWqb (wqb D c)) -∗ Q ⟨(rv53 D c), (rv54 D c), (rv67 D c), (rv68 D c)⟩)
        -∗ run c (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv25 D c)) Q) := by
  iintro ⟨Hwqb, Hx⟩ Hret
  rw [k0_part2_eq_skeleton]; unfold k0_part2_skel
  simp only [semSignalWord, semWaitWord, Prog.lift, Prog.bind_op, Prog.bind_ret, Prog.pure_eq_ret, Prog.bind_assoc, wp_deviceId]
  iapply (ld_fullav c) $$ Hwqb
  iintro Hwqb
  iapply (st_full c z2) $$ Hwqb
  iintro Hwqb
  ihave Hwqb := (eqE (show (wh c mWqb ((k0_pay3 (rv25 D c))) : sProp 𝕄) = wh c mWqb (wqb D c) from rfl)) $$ Hwqb
  iapply (ld_rows c 0 rfl) $$ Hx
  iintro Hx
  iapply (ld_full c z2) $$ Hwqb
  iintro Hwqb
  rw [run, wp_ret]; imodintro
  iapply Hret
  isplitl [Hx]; · iexact Hx
  iexact Hwqb

abbrev rv97 (D : Inp F) (c : Dev nD) : IVec S256x1024 1 := k0_pay8 (rv53 D c) (rv54 D c) (rv68 D c)
abbrev rv114 (D : Inp F) (c : Dev nD) : IVec S256x1024 32 := k0_pay9 (rv53 D c) (rv54 D c) (rv68 D c)
theorem p3 (D : Inp F) (c : Dev nD) {Q : (Σ' (v97 : IVec S256x1024 1), IVec S256x1024 32) → sProp 𝕄} :
    Q ⟨(rv97 D c), (rv114 D c)⟩ ⊢ run c (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv53 D c) (rv54 D c) (rv68 D c)) Q := by
  rw [k0_part3_eq_skeleton]; unfold k0_part3_skel
  simp only [Prog.lift, Prog.bind_op, Prog.bind_ret, Prog.pure_eq_ret, Prog.bind_assoc]
  rw [run, wp_ret]
  iintro H; imodintro; iexact H

abbrev rv117 (D : Inp F) (c : Dev nD) : IVec S256x1024 1 := k0_pay10 (rv97 D c) (rv114 D c)
abbrev rv152 (D : Inp F) (c : Dev nD) : FVec F S256x128 .bf16 := k0_pay12 (rv67 D c) (rv97 D c) (rv114 D c) (colOf 1 (D.k c)) (colOf 1 (D.v c))
theorem p4 (D : Inp F) (K : GSem nD τ sig → ℕ) (c : Dev nD) {Q : (Σ' (v117 : IVec S256x1024 1), FVec F S256x128 .bf16) → sProp 𝕄} :
    iprop(wh c mK (D.k c) ∗ wh c mV (D.v c) ∗ an c mCtx)
      ⊢ iprop(((wh c mK (D.k c) ∗ wh c mV (D.v c) ∗ ctxP D c 0 128) -∗ Q ⟨(rv117 D c), (rv152 D c)⟩)
        -∗ run c (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv67 D c) (rv97 D c) (rv114 D c)) Q) := by
  iintro ⟨Hk, Hv, Hctx⟩ Hret
  rw [k0_part4_eq_skeleton]; unfold k0_part4_skel
  simp only [semSignalWord, semWaitWord, Prog.lift, Prog.bind_op, Prog.bind_ret, Prog.pure_eq_ret, Prog.bind_assoc, wp_deviceId]
  iapply (ld_col c 0 rfl) $$ Hk
  iintro Hk
  iapply (ld_col c 0 rfl) $$ Hv
  iintro Hv
  ihave Hctx := (ctx_again D c 0) $$ Hctx
  iapply (ld_ctx D c 0) $$ Hctx
  iintro Hctx
  iapply (st_ctx D c 0 0 rfl rfl rfl) $$ Hctx
  iintro Hctx
  iapply (ld_col c 1 rfl) $$ Hk
  iintro Hk
  iapply (ld_col c 1 rfl) $$ Hv
  iintro Hv
  rw [run, wp_ret]; imodintro
  iapply Hret
  isplitl [Hk]; · iexact Hk
  isplitl [Hv]; · iexact Hv
  iexact Hctx

abbrev rv190 (D : Inp F) (c : Dev nD) : FVec F S256x128 .bf16 := (k0_pay15 (rv67 D c) (rv117 D c) (colOf 3 (D.k c)) (colOf 3 (D.v c)))
theorem p5 (D : Inp F) (K : GSem nD τ sig → ℕ) (c : Dev nD) {Q : (FVec F S256x128 .bf16) → sProp 𝕄} :
    iprop(ctxP D c 0 128 ∗ wh c mK (D.k c) ∗ wh c mV (D.v c))
      ⊢ iprop(((wh c mK (D.k c) ∗ wh c mV (D.v c) ∗ ctxP D c 0 384) -∗ Q (rv190 D c))
        -∗ run c (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv67 D c) (rv117 D c) (rv152 D c)) Q) := by
  iintro ⟨Hctx, Hk, Hv⟩ Hret
  rw [k0_part5_eq_skeleton]; unfold k0_part5_skel
  simp only [semSignalWord, semWaitWord, Prog.lift, Prog.bind_op, Prog.bind_ret, Prog.pure_eq_ret, Prog.bind_assoc, wp_deviceId]
  iapply (ld_ctx D c 0) $$ Hctx
  iintro Hctx
  iapply (st_ctx D c 0 1 rfl rfl rfl) $$ Hctx
  iintro Hctx
  iapply (ld_col c 2 rfl) $$ Hk
  iintro Hk
  iapply (ld_col c 2 rfl) $$ Hv
  iintro Hv
  iapply (ld_ctx D c 0) $$ Hctx
  iintro Hctx
  iapply (st_ctx D c 0 2 rfl rfl rfl) $$ Hctx
  iintro Hctx
  iapply (ld_col c 3 rfl) $$ Hk
  iintro Hk
  iapply (ld_col c 3 rfl) $$ Hv
  iintro Hv
  rw [run, wp_ret]; imodintro
  iapply Hret
  isplitl [Hk]; · iexact Hk
  isplitl [Hv]; · iexact Hv
  iexact Hctx

abbrev rv228 (D : Inp F) (c : Dev nD) : FVec F S256x128 .bf16 := (k0_pay18 (rv67 D c) (rv117 D c) (colOf 5 (D.k c)) (colOf 5 (D.v c)))
theorem p6 (D : Inp F) (K : GSem nD τ sig → ℕ) (c : Dev nD) {Q : (FVec F S256x128 .bf16) → sProp 𝕄} :
    iprop(ctxP D c 0 384 ∗ wh c mK (D.k c) ∗ wh c mV (D.v c))
      ⊢ iprop(((wh c mK (D.k c) ∗ wh c mV (D.v c) ∗ ctxP D c 0 640) -∗ Q (rv228 D c))
        -∗ run c (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv67 D c) (rv117 D c) (rv190 D c)) Q) := by
  iintro ⟨Hctx, Hk, Hv⟩ Hret
  rw [k0_part6_eq_skeleton]; unfold k0_part6_skel
  simp only [semSignalWord, semWaitWord, Prog.lift, Prog.bind_op, Prog.bind_ret, Prog.pure_eq_ret, Prog.bind_assoc, wp_deviceId]
  iapply (ld_ctx D c 0) $$ Hctx
  iintro Hctx
  iapply (st_ctx D c 0 3 rfl rfl rfl) $$ Hctx
  iintro Hctx
  iapply (ld_col c 4 rfl) $$ Hk
  iintro Hk
  iapply (ld_col c 4 rfl) $$ Hv
  iintro Hv
  iapply (ld_ctx D c 0) $$ Hctx
  iintro Hctx
  iapply (st_ctx D c 0 4 rfl rfl rfl) $$ Hctx
  iintro Hctx
  iapply (ld_col c 5 rfl) $$ Hk
  iintro Hk
  iapply (ld_col c 5 rfl) $$ Hv
  iintro Hv
  rw [run, wp_ret]; imodintro
  iapply Hret
  isplitl [Hk]; · iexact Hk
  isplitl [Hv]; · iexact Hv
  iexact Hctx

abbrev rv266 (D : Inp F) (c : Dev nD) : FVec F S256x128 .bf16 := (k0_pay21 (rv67 D c) (rv117 D c) (colOf 7 (D.k c)) (colOf 7 (D.v c)))
theorem p7 (D : Inp F) (K : GSem nD τ sig → ℕ) (c : Dev nD) {Q : (FVec F S256x128 .bf16) → sProp 𝕄} :
    iprop(ctxP D c 0 640 ∗ wh c mK (D.k c) ∗ wh c mV (D.v c))
      ⊢ iprop(((wh c mK (D.k c) ∗ wh c mV (D.v c) ∗ ctxP D c 0 896) -∗ Q (rv266 D c))
        -∗ run c (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv67 D c) (rv117 D c) (rv228 D c)) Q) := by
  iintro ⟨Hctx, Hk, Hv⟩ Hret
  rw [k0_part7_eq_skeleton]; unfold k0_part7_skel
  simp only [semSignalWord, semWaitWord, Prog.lift, Prog.bind_op, Prog.bind_ret, Prog.pure_eq_ret, Prog.bind_assoc, wp_deviceId]
  iapply (ld_ctx D c 0) $$ Hctx
  iintro Hctx
  iapply (st_ctx D c 0 5 rfl rfl rfl) $$ Hctx
  iintro Hctx
  iapply (ld_col c 6 rfl) $$ Hk
  iintro Hk
  iapply (ld_col c 6 rfl) $$ Hv
  iintro Hv
  iapply (ld_ctx D c 0) $$ Hctx
  iintro Hctx
  iapply (st_ctx D c 0 6 rfl rfl rfl) $$ Hctx
  iintro Hctx
  iapply (ld_col c 7 rfl) $$ Hk
  iintro Hk
  iapply (ld_col c 7 rfl) $$ Hv
  iintro Hv
  rw [run, wp_ret]; imodintro
  iapply Hret
  isplitl [Hk]; · iexact Hk
  isplitl [Hv]; · iexact Hv
  iexact Hctx

theorem p8 (D : Inp F) (K : GSem nD τ sig → ℕ) (c : Dev nD) {Q : (PUnit) → sProp 𝕄} :
    iprop(invs D K ∗ levAts L lv ∗ ctxP D c 0 896 ∗ pend c 29 ∗ OW c [2, 3, 4, 5, 6, 7, 8, 9, 10, 11, 12, 13] ∗ an c mWob ∗ av c (slotV ![0, 0, 0] inb_S4x256x1024_S1x256x1024_0_0_0) ∗ chan c 3 (nxt c) 6 ∗ av (nxt c) rva0 ∗ reached ER (cell (nxt c) 6) 0)
      ⊢ iprop(((wh c mCtx (ctxV D c 0) ∗ wh c mWob (wob D c) ∗ OW c [3, 4, 5, 6, 7, 8, 9, 10, 11, 12, 13] ∗ done c 29 ∗ wh c mWof (wof D c) ∗ ((woS c).loc (c : Thread nD τ) ↦[(woS c).set]{fullShare} D.wo c) ∗ ow c acc01 fullShare (b0 D c) ∗ pend c 3) -∗ Q ⟨⟩)
        -∗ run c (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv7 D c) (rv266 D c)) Q) := by
  iintro ⟨#HI, #HL, Hctx, P29, HO, Hwob, S0, C3, RA0, r6⟩ Hret
  rw [k0_part8_eq_skeleton]; unfold k0_part8_skel
  simp only [semSignalWord, semWaitWord, Prog.lift, Prog.bind_op, Prog.bind_ret, Prog.pure_eq_ret, Prog.bind_assoc, wp_deviceId]
  iapply (ld_ctx D c 0) $$ Hctx
  iintro Hctx
  iapply (st_ctx D c 0 7 rfl rfl rfl) $$ Hctx
  iintro Hctx
  iapply (step_wait D K c 29 [2, 3, 4, 5, 6, 7, 8, 9, 10, 11, 12, 13] (by decide) (by decide) rfl rfl) $$ [P29 HO]
  · isplitr; · iexact HI
    isplitr; · iexact HL
    isplitl [P29]; · iexact P29
    iexact HO
  iintro ⟨HO, Z29, Hp⟩
  ihave Hp := (eqE (show (payD D c (29 : DmaSem sig).val : sProp 𝕄) = iprop(pt c cc0_scratch12 fullShare (wof D c) ∗ (woS c).loc (c : Thread nD τ) ↦[(woS c).set]{fullShare} D.wo c) from rfl)) $$ Hp
  icases Hp with ⟨Hwof, Hwo⟩
  ihave Hwof := (eqE (show (pt c cc0_scratch12 fullShare (wof D c) : sProp 𝕄) = wh c mWof (wof D c) from (ow_whole (F := F) c cc0_scratch12 fullShare (wof D c)).symm)) $$ Hwof
  iapply (ld_full c z2) $$ Hwof
  iintro Hwof
  iapply (ld_fullav c) $$ Hwob
  iintro Hwob
  iapply (st_full c z2) $$ Hwob
  iintro Hwob
  ihave Hwob := (eqE (show (wh c mWob ((k0_pay23 (wof D c))) : sProp 𝕄) = wh c mWob (wob D c) from rfl)) $$ Hwob
  ihave Hctx := (ctx_full D c 0) $$ Hctx
  iapply (ld_full c z2) $$ Hctx
  iintro Hctx
  iapply (ld_full c z2) $$ Hwob
  iintro Hwob
  iapply (ld_av c) $$ S0
  iintro S0
  iapply (st_av c) $$ S0
  iintro S0
  ihave S0 := (eqE (show (ow c (slotV ![0, 0, 0] inb_S4x256x1024_S1x256x1024_0_0_0) fullShare ((k0_pay24 (ctxV D c 0) (wob D c))) : sProp 𝕄) = ow c (slotV ![0, 0, 0] inb_S4x256x1024_S1x256x1024_0_0_0) fullShare (partV D c 0) from rfl)) $$ S0
  icases (slot_split c 0 rfl rfl rfl _ inb_S4x256x1024_S1x256x512_0_0_0 inb_S4x256x1024_S1x256x512_0_0_512 (partV D c 0)) $$ S0 with ⟨A00, A01⟩
  ihave A00 := (eqE (show (ow c acc00 fullShare (half 0 (partV D c 0)) : sProp 𝕄) = ow c acc00 fullShare (a0 D c) from rfl)) $$ A00
  ihave A01 := (eqE (show (ow c acc01 fullShare (half 1 (partV D c 0)) : sProp 𝕄) = ow c acc01 fullShare (b0 D c) from rfl)) $$ A01
  iapply (send_a D K c 3 6 2 [3, 4, 5, 6, 7, 8, 9, 10, 11, 12, 13] (nxt c) (a0 D c) (by decide) (by decide) (by decide) (by decide) rfl (dev3_eq c) rfl rfl rfl (by show (ow (nxt c) rva0 fullShare (a0 D (prv (nxt c))) : sProp 𝕄) = _; rw [prv_nxt])) $$ [C3 HO A00 RA0 r6]
  · isplitr; · iexact HI
    isplitl [C3]; · iexact C3
    isplitl [HO]; · iexact HO
    isplitl [A00]; · iexact A00
    isplitl [RA0]; · iexact RA0
    iexact r6
  iintro ⟨HO, P3⟩
  rw [run, wp_ret]; imodintro
  iapply Hret
  isplitl [Hctx]; · iexact Hctx
  isplitl [Hwob]; · iexact Hwob
  isplitl [HO]; · iexact HO
  isplitl [Z29]; · iexact Z29
  isplitl [Hwof]; · iexact Hwof
  isplitl [Hwo]; · iexact Hwo
  isplitl [A01]; · iexact A01
  iexact P3

end Cert.KernelIdeal.Hand

end
-- ==== Proof.Parts1.lean ====
/-
  The kernel's run, piece by piece: the second slot.
-/
module

public import proofs.«01_k».proof.Proof.Parts0

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev rv317 (D : Inp F) (c : Dev nD) : FVec F S256x1024 .bf16 := k0_pay25 (rowsOf c 1 (D.x c)) (wqb D c)
abbrev rv319 (D : Inp F) (c : Dev nD) : IVec S256x1024 32 := k0_pay26 (rv2 D c) (rv54 D c)
abbrev r_c64_i32_161 (D : Inp F) (c : Dev nD) : BitVec 32 := 64#32
abbrev rv321 (D : Inp F) (c : Dev nD) : IVec S256x1024 32 := k0_pay27 (rv2 D c) (rv54 D c)
abbrev rv328 (D : Inp F) (c : Dev nD) : IVec S256x1024 32 := k0_pay28 (rv2 D c) (rv54 D c)
abbrev rv330 (D : Inp F) (c : Dev nD) : BitVec 32 := (Scalar.extui (Scalar.cmpi .sgt 64#32 0#32))
abbrev rv332 (D : Inp F) (c : Dev nD) : BitVec 32 := (Scalar.extui (Scalar.cmpi .slt 64#32 0#32))
theorem p9 (D : Inp F) (K : GSem nD τ sig → ℕ) (c : Dev nD) {Q : (Σ' (v317 : FVec F S256x1024 .bf16) (v319 : IVec S256x1024 32) (c64_i32_161 : BitVec 32) (v321 : IVec S256x1024 32) (v328 : IVec S256x1024 32) (v330 : BitVec 32), BitVec 32) → sProp 𝕄} :
    iprop(invs D K ∗ levAts L lv ∗ chan c 9 (prv c) 12 ∗ OW c [3, 4, 5, 6, 7, 8, 9, 10, 11, 12, 13] ∗ ow c acc01 fullShare (b0 D c) ∗ av (prv c) rvb0 ∗ reached ER (cell (prv c) 12) 0 ∗ wh c mX (D.x c) ∗ wh c mWqb (wqb D c))
      ⊢ iprop(((wh c mX (D.x c) ∗ wh c mWqb (wqb D c) ∗ OW c [4, 5, 6, 7, 8, 9, 10, 11, 12, 13] ∗ pend c 9) -∗ Q ⟨(rv317 D c), (rv319 D c), (r_c64_i32_161 D c), (rv321 D c), (rv328 D c), (rv330 D c), (rv332 D c)⟩)
        -∗ run c (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv5 D c) (rv54 D c)) Q) := by
  iintro ⟨#HI, #HL, C9, HO, A01, RB0, r12, Hx, Hwqb⟩ Hret
  rw [k0_part9_eq_skeleton]; unfold k0_part9_skel
  simp only [semSignalWord, semWaitWord, Prog.lift, Prog.bind_op, Prog.bind_ret, Prog.pure_eq_ret, Prog.bind_assoc, wp_deviceId]
  iapply (send_b D K c 9 12 3 [4, 5, 6, 7, 8, 9, 10, 11, 12, 13] (prv c) (b0 D c) (by decide) (by decide) (by decide) (by decide) rfl (dev4_eq c) rfl rfl rfl (by show (ow (prv c) rvb0 fullShare (b0 D (nxt (prv c))) : sProp 𝕄) = _; rw [nxt_prv])) $$ [C9 HO A01 RB0 r12]
  · isplitr; · iexact HI
    isplitl [C9]; · iexact C9
    isplitl [HO]; · iexact HO
    isplitl [A01]; · iexact A01
    isplitl [RB0]; · iexact RB0
    iexact r12
  iintro ⟨HO, P9⟩
  iapply (ld_rows c 1 rfl) $$ Hx
  iintro Hx
  iapply (ld_full c z2) $$ Hwqb
  iintro Hwqb
  rw [run, wp_ret]; imodintro
  iapply Hret
  isplitl [Hx]; · iexact Hx
  isplitl [Hwqb]; · iexact Hwqb
  isplitl [HO]; · iexact HO
  iexact P9

abbrev rv367 (D : Inp F) (c : Dev nD) : IVec S256x1024 1 := k0_pay29 (rv53 D c) (rv319 D c) (r_c64_i32_161 D c) (rv321 D c) (rv328 D c) (rv330 D c) (rv332 D c)
abbrev rv376 (D : Inp F) (c : Dev nD) : FVec F S256x1 .f32 := k0_pay31 (rv53 D c) (rv317 D c) (rv319 D c) (r_c64_i32_161 D c) (rv321 D c) (rv328 D c) (rv330 D c) (rv332 D c) (colOf 0 (D.k c))
abbrev rv377 (D : Inp F) (c : Dev nD) : FVec F S256x1024 .bf16 := k0_pay32 (rv53 D c) (rv317 D c) (rv319 D c) (r_c64_i32_161 D c) (rv321 D c) (rv328 D c) (rv330 D c) (rv332 D c) (colOf 0 (D.k c))
theorem p10 (D : Inp F) (K : GSem nD τ sig → ℕ) (c : Dev nD) {Q : (Σ' (v367 : IVec S256x1024 1) (v376 : FVec F S256x1 .f32), FVec F S256x1024 .bf16) → sProp 𝕄} :
    iprop(wh c mK (D.k c))
      ⊢ iprop(((wh c mK (D.k c)) -∗ Q ⟨(rv367 D c), (rv376 D c), (rv377 D c)⟩)
        -∗ run c (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv53 D c) (rv317 D c) (rv319 D c) (r_c64_i32_161 D c) (rv321 D c) (rv328 D c) (rv330 D c) (rv332 D c)) Q) := by
  iintro Hk Hret
  rw [k0_part10_eq_skeleton]; unfold k0_part10_skel
  simp only [semSignalWord, semWaitWord, Prog.lift, Prog.bind_op, Prog.bind_ret, Prog.pure_eq_ret, Prog.bind_assoc, wp_deviceId]
  iapply (ld_col c 0 rfl) $$ Hk
  iintro Hk
  rw [run, wp_ret]; imodintro
  iapply Hret
  iexact Hk

abbrev rv414 (D : Inp F) (c : Dev nD) : FVec F S256x1 .f32 := k0_pay36 (rv317 D c) (rv367 D c) (colOf 2 (D.k c))
abbrev rv415 (D : Inp F) (c : Dev nD) : FVec F S256x1024 .bf16 := k0_pay37 (rv317 D c) (rv367 D c) (colOf 2 (D.k c))
theorem p11 (D : Inp F) (K : GSem nD τ sig → ℕ) (c : Dev nD) {Q : (Σ' (v414 : FVec F S256x1 .f32), FVec F S256x1024 .bf16) → sProp 𝕄} :
    iprop(wh c mV (D.v c) ∗ wh c mCtx (ctxV D c 0) ∗ wh c mK (D.k c))
      ⊢ iprop(((wh c mK (D.k c) ∗ wh c mV (D.v c) ∗ ctxP D c 1 256) -∗ Q ⟨(rv414 D c), (rv415 D c)⟩)
        -∗ run c (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv317 D c) (rv367 D c) (rv376 D c) (rv377 D c)) Q) := by
  iintro ⟨Hv, Hctx, Hk⟩ Hret
  rw [k0_part11_eq_skeleton]; unfold k0_part11_skel
  simp only [semSignalWord, semWaitWord, Prog.lift, Prog.bind_op, Prog.bind_ret, Prog.pure_eq_ret, Prog.bind_assoc, wp_deviceId]
  iapply (ld_col c 0 rfl) $$ Hv
  iintro Hv
  ihave Hctx := (av_of_ow c mCtx.view _) $$ Hctx
  ihave Hctx := (ctx_again D c 1) $$ Hctx
  iapply (ld_ctx D c 1) $$ Hctx
  iintro Hctx
  iapply (st_ctx D c 1 0 rfl rfl rfl) $$ Hctx
  iintro Hctx
  iapply (ld_col c 1 rfl) $$ Hk
  iintro Hk
  iapply (ld_col c 1 rfl) $$ Hv
  iintro Hv
  iapply (ld_ctx D c 1) $$ Hctx
  iintro Hctx
  iapply (st_ctx D c 1 1 rfl rfl rfl) $$ Hctx
  iintro Hctx
  iapply (ld_col c 2 rfl) $$ Hk
  iintro Hk
  rw [run, wp_ret]; imodintro
  iapply Hret
  isplitl [Hk]; · iexact Hk
  isplitl [Hv]; · iexact Hv
  iexact Hctx

abbrev rv452 (D : Inp F) (c : Dev nD) : FVec F S256x1 .f32 := k0_pay41 (rv317 D c) (rv367 D c) (colOf 4 (D.k c))
abbrev rv453 (D : Inp F) (c : Dev nD) : FVec F S256x1024 .bf16 := k0_pay42 (rv317 D c) (rv367 D c) (colOf 4 (D.k c))
theorem p12 (D : Inp F) (K : GSem nD τ sig → ℕ) (c : Dev nD) {Q : (Σ' (v452 : FVec F S256x1 .f32), FVec F S256x1024 .bf16) → sProp 𝕄} :
    iprop(wh c mV (D.v c) ∗ ctxP D c 1 256 ∗ wh c mK (D.k c))
      ⊢ iprop(((wh c mK (D.k c) ∗ wh c mV (D.v c) ∗ ctxP D c 1 512) -∗ Q ⟨(rv452 D c), (rv453 D c)⟩)
        -∗ run c (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv317 D c) (rv367 D c) (rv414 D c) (rv415 D c)) Q) := by
  iintro ⟨Hv, Hctx, Hk⟩ Hret
  rw [k0_part12_eq_skeleton]; unfold k0_part12_skel
  simp only [semSignalWord, semWaitWord, Prog.lift, Prog.bind_op, Prog.bind_ret, Prog.pure_eq_ret, Prog.bind_assoc, wp_deviceId]
  iapply (ld_col c 2 rfl) $$ Hv
  iintro Hv
  iapply (ld_ctx D c 1) $$ Hctx
  iintro Hctx
  iapply (st_ctx D c 1 2 rfl rfl rfl) $$ Hctx
  iintro Hctx
  iapply (ld_col c 3 rfl) $$ Hk
  iintro Hk
  iapply (ld_col c 3 rfl) $$ Hv
  iintro Hv
  iapply (ld_ctx D c 1) $$ Hctx
  iintro Hctx
  iapply (st_ctx D c 1 3 rfl rfl rfl) $$ Hctx
  iintro Hctx
  iapply (ld_col c 4 rfl) $$ Hk
  iintro Hk
  rw [run, wp_ret]; imodintro
  iapply Hret
  isplitl [Hk]; · iexact Hk
  isplitl [Hv]; · iexact Hv
  iexact Hctx

abbrev rv490 (D : Inp F) (c : Dev nD) : FVec F S256x1 .f32 := k0_pay46 (rv317 D c) (rv367 D c) (colOf 6 (D.k c))
abbrev rv491 (D : Inp F) (c : Dev nD) : FVec F S256x1024 .bf16 := k0_pay47 (rv317 D c) (rv367 D c) (colOf 6 (D.k c))
theorem p13 (D : Inp F) (K : GSem nD τ sig → ℕ) (c : Dev nD) {Q : (Σ' (v490 : FVec F S256x1 .f32), FVec F S256x1024 .bf16) → sProp 𝕄} :
    iprop(wh c mV (D.v c) ∗ ctxP D c 1 512 ∗ wh c mK (D.k c))
      ⊢ iprop(((wh c mK (D.k c) ∗ wh c mV (D.v c) ∗ ctxP D c 1 768) -∗ Q ⟨(rv490 D c), (rv491 D c)⟩)
        -∗ run c (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv317 D c) (rv367 D c) (rv452 D c) (rv453 D c)) Q) := by
  iintro ⟨Hv, Hctx, Hk⟩ Hret
  rw [k0_part13_eq_skeleton]; unfold k0_part13_skel
  simp only [semSignalWord, semWaitWord, Prog.lift, Prog.bind_op, Prog.bind_ret, Prog.pure_eq_ret, Prog.bind_assoc, wp_deviceId]
  iapply (ld_col c 4 rfl) $$ Hv
  iintro Hv
  iapply (ld_ctx D c 1) $$ Hctx
  iintro Hctx
  iapply (st_ctx D c 1 4 rfl rfl rfl) $$ Hctx
  iintro Hctx
  iapply (ld_col c 5 rfl) $$ Hk
  iintro Hk
  iapply (ld_col c 5 rfl) $$ Hv
  iintro Hv
  iapply (ld_ctx D c 1) $$ Hctx
  iintro Hctx
  iapply (st_ctx D c 1 5 rfl rfl rfl) $$ Hctx
  iintro Hctx
  iapply (ld_col c 6 rfl) $$ Hk
  iintro Hk
  rw [run, wp_ret]; imodintro
  iapply Hret
  isplitl [Hk]; · iexact Hk
  isplitl [Hv]; · iexact Hv
  iexact Hctx

abbrev rv526 (D : Inp F) (c : Dev nD) : FVec F S1x256x1024 .bf16 := (k0_pay50 (ctxV D c 1) (wob D c))
theorem p14 (D : Inp F) (K : GSem nD τ sig → ℕ) (c : Dev nD) {Q : (FVec F S1x256x1024 .bf16) → sProp 𝕄} :
    iprop(wh c mV (D.v c) ∗ ctxP D c 1 768 ∗ wh c mK (D.k c) ∗ wh c mWob (wob D c) ∗ av c (slotV ![1, 0, 0] inb_S4x256x1024_S1x256x1024_1_0_0))
      ⊢ iprop(((wh c mK (D.k c) ∗ wh c mV (D.v c) ∗ av c (slotV ![1, 0, 0] inb_S4x256x1024_S1x256x1024_1_0_0) ∗ wh c mCtx (ctxV D c 1) ∗ wh c mWob (wob D c)) -∗ Q (rv526 D c))
        -∗ run c (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv317 D c) (rv367 D c) (rv490 D c) (rv491 D c)) Q) := by
  iintro ⟨Hv, Hctx, Hk, Hwob, S1⟩ Hret
  rw [k0_part14_eq_skeleton]; unfold k0_part14_skel
  simp only [semSignalWord, semWaitWord, Prog.lift, Prog.bind_op, Prog.bind_ret, Prog.pure_eq_ret, Prog.bind_assoc, wp_deviceId]
  iapply (ld_col c 6 rfl) $$ Hv
  iintro Hv
  iapply (ld_ctx D c 1) $$ Hctx
  iintro Hctx
  iapply (st_ctx D c 1 6 rfl rfl rfl) $$ Hctx
  iintro Hctx
  iapply (ld_col c 7 rfl) $$ Hk
  iintro Hk
  iapply (ld_col c 7 rfl) $$ Hv
  iintro Hv
  iapply (ld_ctx D c 1) $$ Hctx
  iintro Hctx
  iapply (st_ctx D c 1 7 rfl rfl rfl) $$ Hctx
  iintro Hctx
  ihave Hctx := (ctx_full D c 1) $$ Hctx
  iapply (ld_full c z2) $$ Hctx
  iintro Hctx
  iapply (ld_full c z2) $$ Hwob
  iintro Hwob
  iapply (ld_av c) $$ S1
  iintro S1
  rw [run, wp_ret]; imodintro
  iapply Hret
  isplitl [Hk]; · iexact Hk
  isplitl [Hv]; · iexact Hv
  isplitl [S1]; · iexact S1
  isplitl [Hctx]; · iexact Hctx
  iexact Hwob

theorem p15 (D : Inp F) (K : GSem nD τ sig → ℕ) (c : Dev nD) {Q : (PUnit) → sProp 𝕄} :
    iprop(invs D K ∗ levAts L lv ∗ av c (slotV ![1, 0, 0] inb_S4x256x1024_S1x256x1024_1_0_0) ∗ pend c 3 ∗ OW c [4, 5, 6, 7, 8, 9, 10, 11, 12, 13] ∗ pend c 6)
      ⊢ iprop(((OW c [4, 5, 6, 7, 8, 9, 10, 11, 12, 13] ∗ ow c acc10 fullShare (a1 D c) ∗ ow c acc11 fullShare (half 1 (partV D c 1)) ∗ done c 3 ∗ ow c acc00 fullShare (a0 D c) ∗ done c 6 ∗ ow c rva0 fullShare (a0 D (prv c))) -∗ Q ⟨⟩)
        -∗ run c (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv7 D c) (rv526 D c)) Q) := by
  iintro ⟨#HI, #HL, S1, P3, HO, P6⟩ Hret
  rw [k0_part15_eq_skeleton]; unfold k0_part15_skel
  simp only [semSignalWord, semWaitWord, Prog.lift, Prog.bind_op, Prog.bind_ret, Prog.pure_eq_ret, Prog.bind_assoc, wp_deviceId]
  iapply (st_av c) $$ S1
  iintro S1
  ihave S1 := (eqE (show (ow c (slotV ![1, 0, 0] inb_S4x256x1024_S1x256x1024_1_0_0) fullShare ((rv526 D c)) : sProp 𝕄) = ow c (slotV ![1, 0, 0] inb_S4x256x1024_S1x256x1024_1_0_0) fullShare (partV D c 1) from rfl)) $$ S1
  icases (slot_split c 1 rfl rfl rfl _ inb_S4x256x1024_S1x256x512_1_0_0 inb_S4x256x1024_S1x256x512_1_0_512 (partV D c 1)) $$ S1 with ⟨A10, A11⟩
  iapply (step_wait D K c 3 [4, 5, 6, 7, 8, 9, 10, 11, 12, 13] (by decide) (by decide) rfl rfl) $$ [P3 HO]
  · isplitr; · iexact HI
    isplitr; · iexact HL
    isplitl [P3]; · iexact P3
    iexact HO
  iintro ⟨HO, Z3, A00⟩
  ihave A00 := (eqE (show (payD D c (3 : DmaSem sig).val : sProp 𝕄) = ow c acc00 fullShare (a0 D c) from rfl)) $$ A00
  iapply (step_wait D K c 6 [4, 5, 6, 7, 8, 9, 10, 11, 12, 13] (by decide) (by decide) rfl rfl) $$ [P6 HO]
  · isplitr; · iexact HI
    isplitr; · iexact HL
    isplitl [P6]; · iexact P6
    iexact HO
  iintro ⟨HO, Z6, V0⟩
  ihave V0 := (eqE (show (payD D c (6 : DmaSem sig).val : sProp 𝕄) = ow c rva0 fullShare (a0 D (prv c)) from rfl)) $$ V0
  iapply (ld_ow c) $$ A10
  iintro A10
  iapply (ld_ow c) $$ V0
  iintro V0
  iapply (ld_ow c) $$ A10
  iintro A10
  ihave A10 := (av_of_ow c acc10 _) $$ A10
  iapply (st_av c) $$ A10
  iintro A10
  ihave A10 := (eqE (show (ow c acc10 fullShare ((k0_pay51 (half 0 (partV D c 1)) (a0 D (prv c)))) : sProp 𝕄) = ow c acc10 fullShare (a1 D c) from rfl)) $$ A10
  rw [run, wp_ret]; imodintro
  iapply Hret
  isplitl [HO]; · iexact HO
  isplitl [A10]; · iexact A10
  isplitl [A11]; · iexact A11
  isplitl [Z3]; · iexact Z3
  isplitl [A00]; · iexact A00
  isplitl [Z6]; · iexact Z6
  iexact V0

end Cert.KernelIdeal.Hand

end
-- ==== Proof.Parts2.lean ====
/-
  The kernel's run, piece by piece: the third slot.
-/
module

public import proofs.«01_k».proof.Proof.Parts1

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev rv574 (D : Inp F) (c : Dev nD) : FVec F S256x1024 .bf16 := k0_pay52 (rowsOf c 2 (D.x c)) (wqb D c)
abbrev rv576 (D : Inp F) (c : Dev nD) : IVec S256x1024 32 := k0_pay53 (rv2 D c) (rv54 D c)
abbrev r_c64_i32_310 (D : Inp F) (c : Dev nD) : BitVec 32 := 64#32
abbrev rv578 (D : Inp F) (c : Dev nD) : IVec S256x1024 32 := k0_pay54 (rv2 D c) (rv54 D c)
abbrev rv585 (D : Inp F) (c : Dev nD) : IVec S256x1024 32 := k0_pay55 (rv2 D c) (rv54 D c)
abbrev rv587 (D : Inp F) (c : Dev nD) : BitVec 32 := (Scalar.extui (Scalar.cmpi .sgt 64#32 0#32))
abbrev rv589 (D : Inp F) (c : Dev nD) : BitVec 32 := (Scalar.extui (Scalar.cmpi .slt 64#32 0#32))
theorem p16 (D : Inp F) (K : GSem nD τ sig → ℕ) (c : Dev nD) {Q : (Σ' (v574 : FVec F S256x1024 .bf16) (v576 : IVec S256x1024 32) (c64_i32_310 : BitVec 32) (v578 : IVec S256x1024 32) (v585 : IVec S256x1024 32) (v587 : BitVec 32), BitVec 32) → sProp 𝕄} :
    iprop(invs D K ∗ levAts L lv ∗ chan c 4 (nxt c) 7 ∗ OW c [4, 5, 6, 7, 8, 9, 10, 11, 12, 13] ∗ ow c acc10 fullShare (a1 D c) ∗ av (nxt c) rva1 ∗ reached ER (cell (nxt c) 7) 0 ∗ wh c mX (D.x c) ∗ wh c mWqb (wqb D c))
      ⊢ iprop(((wh c mX (D.x c) ∗ wh c mWqb (wqb D c) ∗ OW c [5, 6, 7, 8, 9, 10, 11, 12, 13] ∗ pend c 4) -∗ Q ⟨(rv574 D c), (rv576 D c), (r_c64_i32_310 D c), (rv578 D c), (rv585 D c), (rv587 D c), (rv589 D c)⟩)
        -∗ run c (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv7 D c) (rv54 D c)) Q) := by
  iintro ⟨#HI, #HL, C4, HO, A10, RA1, r7, Hx, Hwqb⟩ Hret
  rw [k0_part16_eq_skeleton]; unfold k0_part16_skel
  simp only [semSignalWord, semWaitWord, Prog.lift, Prog.bind_op, Prog.bind_ret, Prog.pure_eq_ret, Prog.bind_assoc, wp_deviceId]
  iapply (send_a D K c 4 7 4 [5, 6, 7, 8, 9, 10, 11, 12, 13] (nxt c) (a1 D c) (by decide) (by decide) (by decide) (by decide) rfl (dev5_eq c) rfl rfl rfl (by show (ow (nxt c) rva1 fullShare (a1 D (prv (nxt c))) : sProp 𝕄) = _; rw [prv_nxt])) $$ [C4 HO A10 RA1 r7]
  · isplitr; · iexact HI
    isplitl [C4]; · iexact C4
    isplitl [HO]; · iexact HO
    isplitl [A10]; · iexact A10
    isplitl [RA1]; · iexact RA1
    iexact r7
  iintro ⟨HO, P4⟩
  iapply (ld_rows c 2 rfl) $$ Hx
  iintro Hx
  iapply (ld_full c z2) $$ Hwqb
  iintro Hwqb
  rw [run, wp_ret]; imodintro
  iapply Hret
  isplitl [Hx]; · iexact Hx
  isplitl [Hwqb]; · iexact Hwqb
  isplitl [HO]; · iexact HO
  iexact P4

abbrev rv624 (D : Inp F) (c : Dev nD) : IVec S256x1024 1 := k0_pay56 (rv53 D c) (rv576 D c) (r_c64_i32_310 D c) (rv578 D c) (rv585 D c) (rv587 D c) (rv589 D c)
abbrev rv633 (D : Inp F) (c : Dev nD) : FVec F S256x1 .f32 := k0_pay58 (rv53 D c) (rv574 D c) (rv576 D c) (r_c64_i32_310 D c) (rv578 D c) (rv585 D c) (rv587 D c) (rv589 D c) (colOf 0 (D.k c))
abbrev rv634 (D : Inp F) (c : Dev nD) : FVec F S256x1024 .bf16 := k0_pay59 (rv53 D c) (rv574 D c) (rv576 D c) (r_c64_i32_310 D c) (rv578 D c) (rv585 D c) (rv587 D c) (rv589 D c) (colOf 0 (D.k c))
theorem p17 (D : Inp F) (K : GSem nD τ sig → ℕ) (c : Dev nD) {Q : (Σ' (v624 : IVec S256x1024 1) (v633 : FVec F S256x1 .f32), FVec F S256x1024 .bf16) → sProp 𝕄} :
    iprop(wh c mK (D.k c))
      ⊢ iprop(((wh c mK (D.k c)) -∗ Q ⟨(rv624 D c), (rv633 D c), (rv634 D c)⟩)
        -∗ run c (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv53 D c) (rv574 D c) (rv576 D c) (r_c64_i32_310 D c) (rv578 D c) (rv585 D c) (rv587 D c) (rv589 D c)) Q) := by
  iintro Hk Hret
  rw [k0_part17_eq_skeleton]; unfold k0_part17_skel
  simp only [semSignalWord, semWaitWord, Prog.lift, Prog.bind_op, Prog.bind_ret, Prog.pure_eq_ret, Prog.bind_assoc, wp_deviceId]
  iapply (ld_col c 0 rfl) $$ Hk
  iintro Hk
  rw [run, wp_ret]; imodintro
  iapply Hret
  iexact Hk

abbrev rv671 (D : Inp F) (c : Dev nD) : FVec F S256x1 .f32 := k0_pay63 (rv574 D c) (rv624 D c) (colOf 2 (D.k c))
abbrev rv672 (D : Inp F) (c : Dev nD) : FVec F S256x1024 .bf16 := k0_pay64 (rv574 D c) (rv624 D c) (colOf 2 (D.k c))
theorem p18 (D : Inp F) (K : GSem nD τ sig → ℕ) (c : Dev nD) {Q : (Σ' (v671 : FVec F S256x1 .f32), FVec F S256x1024 .bf16) → sProp 𝕄} :
    iprop(wh c mV (D.v c) ∗ wh c mCtx (ctxV D c 1) ∗ wh c mK (D.k c))
      ⊢ iprop(((wh c mK (D.k c) ∗ wh c mV (D.v c) ∗ ctxP D c 2 256) -∗ Q ⟨(rv671 D c), (rv672 D c)⟩)
        -∗ run c (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv574 D c) (rv624 D c) (rv633 D c) (rv634 D c)) Q) := by
  iintro ⟨Hv, Hctx, Hk⟩ Hret
  rw [k0_part18_eq_skeleton]; unfold k0_part18_skel
  simp only [semSignalWord, semWaitWord, Prog.lift, Prog.bind_op, Prog.bind_ret, Prog.pure_eq_ret, Prog.bind_assoc, wp_deviceId]
  iapply (ld_col c 0 rfl) $$ Hv
  iintro Hv
  ihave Hctx := (av_of_ow c mCtx.view _) $$ Hctx
  ihave Hctx := (ctx_again D c 2) $$ Hctx
  iapply (ld_ctx D c 2) $$ Hctx
  iintro Hctx
  iapply (st_ctx D c 2 0 rfl rfl rfl) $$ Hctx
  iintro Hctx
  iapply (ld_col c 1 rfl) $$ Hk
  iintro Hk
  iapply (ld_col c 1 rfl) $$ Hv
  iintro Hv
  iapply (ld_ctx D c 2) $$ Hctx
  iintro Hctx
  iapply (st_ctx D c 2 1 rfl rfl rfl) $$ Hctx
  iintro Hctx
  iapply (ld_col c 2 rfl) $$ Hk
  iintro Hk
  rw [run, wp_ret]; imodintro
  iapply Hret
  isplitl [Hk]; · iexact Hk
  isplitl [Hv]; · iexact Hv
  iexact Hctx

abbrev rv709 (D : Inp F) (c : Dev nD) : FVec F S256x1 .f32 := k0_pay68 (rv574 D c) (rv624 D c) (colOf 4 (D.k c))
abbrev rv710 (D : Inp F) (c : Dev nD) : FVec F S256x1024 .bf16 := k0_pay69 (rv574 D c) (rv624 D c) (colOf 4 (D.k c))
theorem p19 (D : Inp F) (K : GSem nD τ sig → ℕ) (c : Dev nD) {Q : (Σ' (v709 : FVec F S256x1 .f32), FVec F S256x1024 .bf16) → sProp 𝕄} :
    iprop(wh c mV (D.v c) ∗ ctxP D c 2 256 ∗ wh c mK (D.k c))
      ⊢ iprop(((wh c mK (D.k c) ∗ wh c mV (D.v c) ∗ ctxP D c 2 512) -∗ Q ⟨(rv709 D c), (rv710 D c)⟩)
        -∗ run c (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv574 D c) (rv624 D c) (rv671 D c) (rv672 D c)) Q) := by
  iintro ⟨Hv, Hctx, Hk⟩ Hret
  rw [k0_part19_eq_skeleton]; unfold k0_part19_skel
  simp only [semSignalWord, semWaitWord, Prog.lift, Prog.bind_op, Prog.bind_ret, Prog.pure_eq_ret, Prog.bind_assoc, wp_deviceId]
  iapply (ld_col c 2 rfl) $$ Hv
  iintro Hv
  iapply (ld_ctx D c 2) $$ Hctx
  iintro Hctx
  iapply (st_ctx D c 2 2 rfl rfl rfl) $$ Hctx
  iintro Hctx
  iapply (ld_col c 3 rfl) $$ Hk
  iintro Hk
  iapply (ld_col c 3 rfl) $$ Hv
  iintro Hv
  iapply (ld_ctx D c 2) $$ Hctx
  iintro Hctx
  iapply (st_ctx D c 2 3 rfl rfl rfl) $$ Hctx
  iintro Hctx
  iapply (ld_col c 4 rfl) $$ Hk
  iintro Hk
  rw [run, wp_ret]; imodintro
  iapply Hret
  isplitl [Hk]; · iexact Hk
  isplitl [Hv]; · iexact Hv
  iexact Hctx

abbrev rv747 (D : Inp F) (c : Dev nD) : FVec F S256x1 .f32 := k0_pay73 (rv574 D c) (rv624 D c) (colOf 6 (D.k c))
abbrev rv748 (D : Inp F) (c : Dev nD) : FVec F S256x1024 .bf16 := k0_pay74 (rv574 D c) (rv624 D c) (colOf 6 (D.k c))
theorem p20 (D : Inp F) (K : GSem nD τ sig → ℕ) (c : Dev nD) {Q : (Σ' (v747 : FVec F S256x1 .f32), FVec F S256x1024 .bf16) → sProp 𝕄} :
    iprop(wh c mV (D.v c) ∗ ctxP D c 2 512 ∗ wh c mK (D.k c))
      ⊢ iprop(((wh c mK (D.k c) ∗ wh c mV (D.v c) ∗ ctxP D c 2 768) -∗ Q ⟨(rv747 D c), (rv748 D c)⟩)
        -∗ run c (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv574 D c) (rv624 D c) (rv709 D c) (rv710 D c)) Q) := by
  iintro ⟨Hv, Hctx, Hk⟩ Hret
  rw [k0_part20_eq_skeleton]; unfold k0_part20_skel
  simp only [semSignalWord, semWaitWord, Prog.lift, Prog.bind_op, Prog.bind_ret, Prog.pure_eq_ret, Prog.bind_assoc, wp_deviceId]
  iapply (ld_col c 4 rfl) $$ Hv
  iintro Hv
  iapply (ld_ctx D c 2) $$ Hctx
  iintro Hctx
  iapply (st_ctx D c 2 4 rfl rfl rfl) $$ Hctx
  iintro Hctx
  iapply (ld_col c 5 rfl) $$ Hk
  iintro Hk
  iapply (ld_col c 5 rfl) $$ Hv
  iintro Hv
  iapply (ld_ctx D c 2) $$ Hctx
  iintro Hctx
  iapply (st_ctx D c 2 5 rfl rfl rfl) $$ Hctx
  iintro Hctx
  iapply (ld_col c 6 rfl) $$ Hk
  iintro Hk
  rw [run, wp_ret]; imodintro
  iapply Hret
  isplitl [Hk]; · iexact Hk
  isplitl [Hv]; · iexact Hv
  iexact Hctx

abbrev rv783 (D : Inp F) (c : Dev nD) : FVec F S1x256x1024 .bf16 := (k0_pay77 (ctxV D c 2) (wob D c))
theorem p21 (D : Inp F) (K : GSem nD τ sig → ℕ) (c : Dev nD) {Q : (FVec F S1x256x1024 .bf16) → sProp 𝕄} :
    iprop(wh c mV (D.v c) ∗ ctxP D c 2 768 ∗ wh c mK (D.k c) ∗ wh c mWob (wob D c) ∗ av c (slotV ![2, 0, 0] inb_S4x256x1024_S1x256x1024_2_0_0))
      ⊢ iprop(((wh c mK (D.k c) ∗ wh c mV (D.v c) ∗ av c (slotV ![2, 0, 0] inb_S4x256x1024_S1x256x1024_2_0_0) ∗ wh c mCtx (ctxV D c 2) ∗ wh c mWob (wob D c)) -∗ Q (rv783 D c))
        -∗ run c (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv574 D c) (rv624 D c) (rv747 D c) (rv748 D c)) Q) := by
  iintro ⟨Hv, Hctx, Hk, Hwob, S2⟩ Hret
  rw [k0_part21_eq_skeleton]; unfold k0_part21_skel
  simp only [semSignalWord, semWaitWord, Prog.lift, Prog.bind_op, Prog.bind_ret, Prog.pure_eq_ret, Prog.bind_assoc, wp_deviceId]
  iapply (ld_col c 6 rfl) $$ Hv
  iintro Hv
  iapply (ld_ctx D c 2) $$ Hctx
  iintro Hctx
  iapply (st_ctx D c 2 6 rfl rfl rfl) $$ Hctx
  iintro Hctx
  iapply (ld_col c 7 rfl) $$ Hk
  iintro Hk
  iapply (ld_col c 7 rfl) $$ Hv
  iintro Hv
  iapply (ld_ctx D c 2) $$ Hctx
  iintro Hctx
  iapply (st_ctx D c 2 7 rfl rfl rfl) $$ Hctx
  iintro Hctx
  ihave Hctx := (ctx_full D c 2) $$ Hctx
  iapply (ld_full c z2) $$ Hctx
  iintro Hctx
  iapply (ld_full c z2) $$ Hwob
  iintro Hwob
  iapply (ld_av c) $$ S2
  iintro S2
  rw [run, wp_ret]; imodintro
  iapply Hret
  isplitl [Hk]; · iexact Hk
  isplitl [Hv]; · iexact Hv
  isplitl [S2]; · iexact S2
  isplitl [Hctx]; · iexact Hctx
  iexact Hwob

theorem p22 (D : Inp F) (K : GSem nD τ sig → ℕ) (c : Dev nD) {Q : (PUnit) → sProp 𝕄} :
    iprop(invs D K ∗ levAts L lv ∗ av c (slotV ![2, 0, 0] inb_S4x256x1024_S1x256x1024_2_0_0) ∗ pend c 9 ∗ OW c [5, 6, 7, 8, 9, 10, 11, 12, 13] ∗ pend c 12)
      ⊢ iprop(((OW c [5, 6, 7, 8, 9, 10, 11, 12, 13] ∗ ow c acc20 fullShare (half 0 (partV D c 2)) ∗ ow c acc21 fullShare (b2 D c) ∗ done c 9 ∗ ow c acc01 fullShare (b0 D c) ∗ done c 12 ∗ ow c rvb0 fullShare (b0 D (nxt c))) -∗ Q ⟨⟩)
        -∗ run c (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv5 D c) (rv783 D c)) Q) := by
  iintro ⟨#HI, #HL, S2, P9, HO, P12⟩ Hret
  rw [k0_part22_eq_skeleton]; unfold k0_part22_skel
  simp only [semSignalWord, semWaitWord, Prog.lift, Prog.bind_op, Prog.bind_ret, Prog.pure_eq_ret, Prog.bind_assoc, wp_deviceId]
  iapply (st_av c) $$ S2
  iintro S2
  ihave S2 := (eqE (show (ow c (slotV ![2, 0, 0] inb_S4x256x1024_S1x256x1024_2_0_0) fullShare ((rv783 D c)) : sProp 𝕄) = ow c (slotV ![2, 0, 0] inb_S4x256x1024_S1x256x1024_2_0_0) fullShare (partV D c 2) from rfl)) $$ S2
  icases (slot_split c 2 rfl rfl rfl _ inb_S4x256x1024_S1x256x512_2_0_0 inb_S4x256x1024_S1x256x512_2_0_512 (partV D c 2)) $$ S2 with ⟨A20, A21⟩
  iapply (step_wait D K c 9 [5, 6, 7, 8, 9, 10, 11, 12, 13] (by decide) (by decide) rfl rfl) $$ [P9 HO]
  · isplitr; · iexact HI
    isplitr; · iexact HL
    isplitl [P9]; · iexact P9
    iexact HO
  iintro ⟨HO, Z9, A01⟩
  ihave A01 := (eqE (show (payD D c (9 : DmaSem sig).val : sProp 𝕄) = ow c acc01 fullShare (b0 D c) from rfl)) $$ A01
  iapply (step_wait D K c 12 [5, 6, 7, 8, 9, 10, 11, 12, 13] (by decide) (by decide) rfl rfl) $$ [P12 HO]
  · isplitr; · iexact HI
    isplitr; · iexact HL
    isplitl [P12]; · iexact P12
    iexact HO
  iintro ⟨HO, Z12, W0⟩
  ihave W0 := (eqE (show (payD D c (12 : DmaSem sig).val : sProp 𝕄) = ow c rvb0 fullShare (b0 D (nxt c)) from rfl)) $$ W0
  iapply (ld_ow c) $$ A21
  iintro A21
  iapply (ld_ow c) $$ W0
  iintro W0
  iapply (ld_ow c) $$ A21
  iintro A21
  ihave A21 := (av_of_ow c acc21 _) $$ A21
  iapply (st_av c) $$ A21
  iintro A21
  ihave A21 := (eqE (show (ow c acc21 fullShare ((k0_pay78 (half 1 (partV D c 2)) (b0 D (nxt c)))) : sProp 𝕄) = ow c acc21 fullShare (b2 D c) from rfl)) $$ A21
  rw [run, wp_ret]; imodintro
  iapply Hret
  isplitl [HO]; · iexact HO
  isplitl [A20]; · iexact A20
  isplitl [A21]; · iexact A21
  isplitl [Z9]; · iexact Z9
  isplitl [A01]; · iexact A01
  isplitl [Z12]; · iexact Z12
  iexact W0

end Cert.KernelIdeal.Hand

end
-- ==== Proof.Parts3.lean ====
/-
  The kernel's run, piece by piece: the fourth slot.
-/
module

public import proofs.«01_k».proof.Proof.Parts2

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev rv831 (D : Inp F) (c : Dev nD) : FVec F S256x1024 .bf16 := k0_pay79 (rowsOf c 3 (D.x c)) (wqb D c)
abbrev rv833 (D : Inp F) (c : Dev nD) : IVec S256x1024 32 := k0_pay80 (rv2 D c) (rv54 D c)
abbrev r_c64_i32_459 (D : Inp F) (c : Dev nD) : BitVec 32 := 64#32
abbrev rv835 (D : Inp F) (c : Dev nD) : IVec S256x1024 32 := k0_pay81 (rv2 D c) (rv54 D c)
abbrev rv842 (D : Inp F) (c : Dev nD) : IVec S256x1024 32 := k0_pay82 (rv2 D c) (rv54 D c)
abbrev rv844 (D : Inp F) (c : Dev nD) : BitVec 32 := (Scalar.extui (Scalar.cmpi .sgt 64#32 0#32))
abbrev rv846 (D : Inp F) (c : Dev nD) : BitVec 32 := (Scalar.extui (Scalar.cmpi .slt 64#32 0#32))
theorem p23 (D : Inp F) (K : GSem nD τ sig → ℕ) (c : Dev nD) {Q : (Σ' (v831 : FVec F S256x1024 .bf16) (v833 : IVec S256x1024 32) (c64_i32_459 : BitVec 32) (v835 : IVec S256x1024 32) (v842 : IVec S256x1024 32) (v844 : BitVec 32), BitVec 32) → sProp 𝕄} :
    iprop(invs D K ∗ levAts L lv ∗ chan c 10 (prv c) 13 ∗ OW c [5, 6, 7, 8, 9, 10, 11, 12, 13] ∗ ow c acc21 fullShare (b2 D c) ∗ av (prv c) rvb1 ∗ reached ER (cell (prv c) 13) 0 ∗ wh c mX (D.x c) ∗ wh c mWqb (wqb D c))
      ⊢ iprop(((wh c mX (D.x c) ∗ wh c mWqb (wqb D c) ∗ OW c [6, 7, 8, 9, 10, 11, 12, 13] ∗ pend c 10) -∗ Q ⟨(rv831 D c), (rv833 D c), (r_c64_i32_459 D c), (rv835 D c), (rv842 D c), (rv844 D c), (rv846 D c)⟩)
        -∗ run c (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv5 D c) (rv54 D c)) Q) := by
  iintro ⟨#HI, #HL, C10, HO, A21, RB1, r13, Hx, Hwqb⟩ Hret
  rw [k0_part23_eq_skeleton]; unfold k0_part23_skel
  simp only [semSignalWord, semWaitWord, Prog.lift, Prog.bind_op, Prog.bind_ret, Prog.pure_eq_ret, Prog.bind_assoc, wp_deviceId]
  iapply (send_b D K c 10 13 5 [6, 7, 8, 9, 10, 11, 12, 13] (prv c) (b2 D c) (by decide) (by decide) (by decide) (by decide) rfl (dev6_eq c) rfl rfl rfl (by show (ow (prv c) rvb1 fullShare (b2 D (nxt (prv c))) : sProp 𝕄) = _; rw [nxt_prv])) $$ [C10 HO A21 RB1 r13]
  · isplitr; · iexact HI
    isplitl [C10]; · iexact C10
    isplitl [HO]; · iexact HO
    isplitl [A21]; · iexact A21
    isplitl [RB1]; · iexact RB1
    iexact r13
  iintro ⟨HO, P10⟩
  iapply (ld_rows c 3 rfl) $$ Hx
  iintro Hx
  iapply (ld_full c z2) $$ Hwqb
  iintro Hwqb
  rw [run, wp_ret]; imodintro
  iapply Hret
  isplitl [Hx]; · iexact Hx
  isplitl [Hwqb]; · iexact Hwqb
  isplitl [HO]; · iexact HO
  iexact P10

abbrev rv881 (D : Inp F) (c : Dev nD) : IVec S256x1024 1 := k0_pay83 (rv53 D c) (rv833 D c) (r_c64_i32_459 D c) (rv835 D c) (rv842 D c) (rv844 D c) (rv846 D c)
abbrev rv890 (D : Inp F) (c : Dev nD) : FVec F S256x1 .f32 := k0_pay85 (rv53 D c) (rv831 D c) (rv833 D c) (r_c64_i32_459 D c) (rv835 D c) (rv842 D c) (rv844 D c) (rv846 D c) (colOf 0 (D.k c))
abbrev rv891 (D : Inp F) (c : Dev nD) : FVec F S256x1024 .bf16 := k0_pay86 (rv53 D c) (rv831 D c) (rv833 D c) (r_c64_i32_459 D c) (rv835 D c) (rv842 D c) (rv844 D c) (rv846 D c) (colOf 0 (D.k c))
theorem p24 (D : Inp F) (K : GSem nD τ sig → ℕ) (c : Dev nD) {Q : (Σ' (v881 : IVec S256x1024 1) (v890 : FVec F S256x1 .f32), FVec F S256x1024 .bf16) → sProp 𝕄} :
    iprop(wh c mK (D.k c))
      ⊢ iprop(((wh c mK (D.k c)) -∗ Q ⟨(rv881 D c), (rv890 D c), (rv891 D c)⟩)
        -∗ run c (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv53 D c) (rv831 D c) (rv833 D c) (r_c64_i32_459 D c) (rv835 D c) (rv842 D c) (rv844 D c) (rv846 D c)) Q) := by
  iintro Hk Hret
  rw [k0_part24_eq_skeleton]; unfold k0_part24_skel
  simp only [semSignalWord, semWaitWord, Prog.lift, Prog.bind_op, Prog.bind_ret, Prog.pure_eq_ret, Prog.bind_assoc, wp_deviceId]
  iapply (ld_col c 0 rfl) $$ Hk
  iintro Hk
  rw [run, wp_ret]; imodintro
  iapply Hret
  iexact Hk

abbrev rv928 (D : Inp F) (c : Dev nD) : FVec F S256x1 .f32 := k0_pay90 (rv831 D c) (rv881 D c) (colOf 2 (D.k c))
abbrev rv929 (D : Inp F) (c : Dev nD) : FVec F S256x1024 .bf16 := k0_pay91 (rv831 D c) (rv881 D c) (colOf 2 (D.k c))
theorem p25 (D : Inp F) (K : GSem nD τ sig → ℕ) (c : Dev nD) {Q : (Σ' (v928 : FVec F S256x1 .f32), FVec F S256x1024 .bf16) → sProp 𝕄} :
    iprop(wh c mV (D.v c) ∗ wh c mCtx (ctxV D c 2) ∗ wh c mK (D.k c))
      ⊢ iprop(((wh c mK (D.k c) ∗ wh c mV (D.v c) ∗ ctxP D c 3 256) -∗ Q ⟨(rv928 D c), (rv929 D c)⟩)
        -∗ run c (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv831 D c) (rv881 D c) (rv890 D c) (rv891 D c)) Q) := by
  iintro ⟨Hv, Hctx, Hk⟩ Hret
  rw [k0_part25_eq_skeleton]; unfold k0_part25_skel
  simp only [semSignalWord, semWaitWord, Prog.lift, Prog.bind_op, Prog.bind_ret, Prog.pure_eq_ret, Prog.bind_assoc, wp_deviceId]
  iapply (ld_col c 0 rfl) $$ Hv
  iintro Hv
  ihave Hctx := (av_of_ow c mCtx.view _) $$ Hctx
  ihave Hctx := (ctx_again D c 3) $$ Hctx
  iapply (ld_ctx D c 3) $$ Hctx
  iintro Hctx
  iapply (st_ctx D c 3 0 rfl rfl rfl) $$ Hctx
  iintro Hctx
  iapply (ld_col c 1 rfl) $$ Hk
  iintro Hk
  iapply (ld_col c 1 rfl) $$ Hv
  iintro Hv
  iapply (ld_ctx D c 3) $$ Hctx
  iintro Hctx
  iapply (st_ctx D c 3 1 rfl rfl rfl) $$ Hctx
  iintro Hctx
  iapply (ld_col c 2 rfl) $$ Hk
  iintro Hk
  rw [run, wp_ret]; imodintro
  iapply Hret
  isplitl [Hk]; · iexact Hk
  isplitl [Hv]; · iexact Hv
  iexact Hctx

abbrev rv966 (D : Inp F) (c : Dev nD) : FVec F S256x1 .f32 := k0_pay95 (rv831 D c) (rv881 D c) (colOf 4 (D.k c))
abbrev rv967 (D : Inp F) (c : Dev nD) : FVec F S256x1024 .bf16 := k0_pay96 (rv831 D c) (rv881 D c) (colOf 4 (D.k c))
theorem p26 (D : Inp F) (K : GSem nD τ sig → ℕ) (c : Dev nD) {Q : (Σ' (v966 : FVec F S256x1 .f32), FVec F S256x1024 .bf16) → sProp 𝕄} :
    iprop(wh c mV (D.v c) ∗ ctxP D c 3 256 ∗ wh c mK (D.k c))
      ⊢ iprop(((wh c mK (D.k c) ∗ wh c mV (D.v c) ∗ ctxP D c 3 512) -∗ Q ⟨(rv966 D c), (rv967 D c)⟩)
        -∗ run c (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv831 D c) (rv881 D c) (rv928 D c) (rv929 D c)) Q) := by
  iintro ⟨Hv, Hctx, Hk⟩ Hret
  rw [k0_part26_eq_skeleton]; unfold k0_part26_skel
  simp only [semSignalWord, semWaitWord, Prog.lift, Prog.bind_op, Prog.bind_ret, Prog.pure_eq_ret, Prog.bind_assoc, wp_deviceId]
  iapply (ld_col c 2 rfl) $$ Hv
  iintro Hv
  iapply (ld_ctx D c 3) $$ Hctx
  iintro Hctx
  iapply (st_ctx D c 3 2 rfl rfl rfl) $$ Hctx
  iintro Hctx
  iapply (ld_col c 3 rfl) $$ Hk
  iintro Hk
  iapply (ld_col c 3 rfl) $$ Hv
  iintro Hv
  iapply (ld_ctx D c 3) $$ Hctx
  iintro Hctx
  iapply (st_ctx D c 3 3 rfl rfl rfl) $$ Hctx
  iintro Hctx
  iapply (ld_col c 4 rfl) $$ Hk
  iintro Hk
  rw [run, wp_ret]; imodintro
  iapply Hret
  isplitl [Hk]; · iexact Hk
  isplitl [Hv]; · iexact Hv
  iexact Hctx

abbrev rv1004 (D : Inp F) (c : Dev nD) : FVec F S256x1 .f32 := k0_pay100 (rv831 D c) (rv881 D c) (colOf 6 (D.k c))
abbrev rv1005 (D : Inp F) (c : Dev nD) : FVec F S256x1024 .bf16 := k0_pay101 (rv831 D c) (rv881 D c) (colOf 6 (D.k c))
theorem p27 (D : Inp F) (K : GSem nD τ sig → ℕ) (c : Dev nD) {Q : (Σ' (v1004 : FVec F S256x1 .f32), FVec F S256x1024 .bf16) → sProp 𝕄} :
    iprop(wh c mV (D.v c) ∗ ctxP D c 3 512 ∗ wh c mK (D.k c))
      ⊢ iprop(((wh c mK (D.k c) ∗ wh c mV (D.v c) ∗ ctxP D c 3 768) -∗ Q ⟨(rv1004 D c), (rv1005 D c)⟩)
        -∗ run c (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv831 D c) (rv881 D c) (rv966 D c) (rv967 D c)) Q) := by
  iintro ⟨Hv, Hctx, Hk⟩ Hret
  rw [k0_part27_eq_skeleton]; unfold k0_part27_skel
  simp only [semSignalWord, semWaitWord, Prog.lift, Prog.bind_op, Prog.bind_ret, Prog.pure_eq_ret, Prog.bind_assoc, wp_deviceId]
  iapply (ld_col c 4 rfl) $$ Hv
  iintro Hv
  iapply (ld_ctx D c 3) $$ Hctx
  iintro Hctx
  iapply (st_ctx D c 3 4 rfl rfl rfl) $$ Hctx
  iintro Hctx
  iapply (ld_col c 5 rfl) $$ Hk
  iintro Hk
  iapply (ld_col c 5 rfl) $$ Hv
  iintro Hv
  iapply (ld_ctx D c 3) $$ Hctx
  iintro Hctx
  iapply (st_ctx D c 3 5 rfl rfl rfl) $$ Hctx
  iintro Hctx
  iapply (ld_col c 6 rfl) $$ Hk
  iintro Hk
  rw [run, wp_ret]; imodintro
  iapply Hret
  isplitl [Hk]; · iexact Hk
  isplitl [Hv]; · iexact Hv
  iexact Hctx

abbrev rv1040 (D : Inp F) (c : Dev nD) : FVec F S1x256x1024 .bf16 := (k0_pay104 (ctxV D c 3) (wob D c))
theorem p28 (D : Inp F) (K : GSem nD τ sig → ℕ) (c : Dev nD) {Q : (FVec F S1x256x1024 .bf16) → sProp 𝕄} :
    iprop(wh c mV (D.v c) ∗ ctxP D c 3 768 ∗ wh c mK (D.k c) ∗ wh c mWob (wob D c) ∗ av c (slotV ![3, 0, 0] inb_S4x256x1024_S1x256x1024_3_0_0))
      ⊢ iprop(((wh c mK (D.k c) ∗ wh c mV (D.v c) ∗ av c (slotV ![3, 0, 0] inb_S4x256x1024_S1x256x1024_3_0_0) ∗ wh c mCtx (ctxV D c 3) ∗ wh c mWob (wob D c)) -∗ Q (rv1040 D c))
        -∗ run c (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv831 D c) (rv881 D c) (rv1004 D c) (rv1005 D c)) Q) := by
  iintro ⟨Hv, Hctx, Hk, Hwob, S3⟩ Hret
  rw [k0_part28_eq_skeleton]; unfold k0_part28_skel
  simp only [semSignalWord, semWaitWord, Prog.lift, Prog.bind_op, Prog.bind_ret, Prog.pure_eq_ret, Prog.bind_assoc, wp_deviceId]
  iapply (ld_col c 6 rfl) $$ Hv
  iintro Hv
  iapply (ld_ctx D c 3) $$ Hctx
  iintro Hctx
  iapply (st_ctx D c 3 6 rfl rfl rfl) $$ Hctx
  iintro Hctx
  iapply (ld_col c 7 rfl) $$ Hk
  iintro Hk
  iapply (ld_col c 7 rfl) $$ Hv
  iintro Hv
  iapply (ld_ctx D c 3) $$ Hctx
  iintro Hctx
  iapply (st_ctx D c 3 7 rfl rfl rfl) $$ Hctx
  iintro Hctx
  ihave Hctx := (ctx_full D c 3) $$ Hctx
  iapply (ld_full c z2) $$ Hctx
  iintro Hctx
  iapply (ld_full c z2) $$ Hwob
  iintro Hwob
  iapply (ld_av c) $$ S3
  iintro S3
  rw [run, wp_ret]; imodintro
  iapply Hret
  isplitl [Hk]; · iexact Hk
  isplitl [Hv]; · iexact Hv
  isplitl [S3]; · iexact S3
  isplitl [Hctx]; · iexact Hctx
  iexact Hwob

theorem p29 (D : Inp F) (K : GSem nD τ sig → ℕ) (c : Dev nD) {Q : (PUnit) → sProp 𝕄} :
    iprop(invs D K ∗ levAts L lv ∗ av c (slotV ![3, 0, 0] inb_S4x256x1024_S1x256x1024_3_0_0) ∗ pend c 4 ∗ OW c [6, 7, 8, 9, 10, 11, 12, 13] ∗ pend c 7)
      ⊢ iprop(((OW c [6, 7, 8, 9, 10, 11, 12, 13] ∗ ow c acc30 fullShare (a3 D c) ∗ ow c acc31 fullShare (half 1 (partV D c 3)) ∗ done c 4 ∗ ow c acc10 fullShare (a1 D c) ∗ done c 7 ∗ ow c rva1 fullShare (a1 D (prv c))) -∗ Q ⟨⟩)
        -∗ run c (k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv7 D c) (rv1040 D c)) Q) := by
  iintro ⟨#HI, #HL, S3, P4, HO, P7⟩ Hret
  rw [k0_part29_eq_skeleton]; unfold k0_part29_skel
  simp only [semSignalWord, semWaitWord, Prog.lift, Prog.bind_op, Prog.bind_ret, Prog.pure_eq_ret, Prog.bind_assoc, wp_deviceId]
  iapply (st_av c) $$ S3
  iintro S3
  ihave S3 := (eqE (show (ow c (slotV ![3, 0, 0] inb_S4x256x1024_S1x256x1024_3_0_0) fullShare ((rv1040 D c)) : sProp 𝕄) = ow c (slotV ![3, 0, 0] inb_S4x256x1024_S1x256x1024_3_0_0) fullShare (partV D c 3) from rfl)) $$ S3
  icases (slot_split c 3 rfl rfl rfl _ inb_S4x256x1024_S1x256x512_3_0_0 inb_S4x256x1024_S1x256x512_3_0_512 (partV D c 3)) $$ S3 with ⟨A30, A31⟩
  iapply (step_wait D K c 4 [6, 7, 8, 9, 10, 11, 12, 13] (by decide) (by decide) rfl rfl) $$ [P4 HO]
  · isplitr; · iexact HI
    isplitr; · iexact HL
    isplitl [P4]; · iexact P4
    iexact HO
  iintro ⟨HO, Z4, A10⟩
  ihave A10 := (eqE (show (payD D c (4 : DmaSem sig).val : sProp 𝕄) = ow c acc10 fullShare (a1 D c) from rfl)) $$ A10
  iapply (step_wait D K c 7 [6, 7, 8, 9, 10, 11, 12, 13] (by decide) (by decide) rfl rfl) $$ [P7 HO]
  · isplitr; · iexact HI
    isplitr; · iexact HL
    isplitl [P7]; · iexact P7
    iexact HO
  iintro ⟨HO, Z7, V1⟩
  ihave V1 := (eqE (show (payD D c (7 : DmaSem sig).val : sProp 𝕄) = ow c rva1 fullShare (a1 D (prv c)) from rfl)) $$ V1
  iapply (ld_ow c) $$ A30
  iintro A30
  iapply (ld_ow c) $$ V1
  iintro V1
  iapply (ld_ow c) $$ A30
  iintro A30
  ihave A30 := (av_of_ow c acc30 _) $$ A30
  iapply (st_av c) $$ A30
  iintro A30
  ihave A30 := (eqE (show (ow c acc30 fullShare ((k0_pay105 (half 0 (partV D c 3)) (a1 D (prv c)))) : sProp 𝕄) = ow c acc30 fullShare (a3 D c) from rfl)) $$ A30
  rw [run, wp_ret]; imodintro
  iapply Hret
  isplitl [HO]; · iexact HO
  isplitl [A30]; · iexact A30
  isplitl [A31]; · iexact A31
  isplitl [Z4]; · iexact Z4
  isplitl [A10]; · iexact A10
  isplitl [Z7]; · iexact Z7
  iexact V1

end Cert.KernelIdeal.Hand

end
-- ==== Proof.Parts4.lean ====
/-
  The kernel's run, piece by piece: the gathering.
-/
module

public import proofs.«01_k».proof.Proof.Parts3

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev rv1092 (D : Inp F) (c : Dev nD) : FVec F S256x512 .f32 := (k0_pay106 (half 1 (partV D c 3)))
theorem p30 (D : Inp F) (K : GSem nD τ sig → ℕ) (c : Dev nD) {Q : (FVec F S256x512 .f32) → sProp 𝕄} :
    iprop(invs D K ∗ levAts L lv ∗ chan c 5 (nxt c) 8 ∗ OW c [6, 7, 8, 9, 10, 11, 12, 13] ∗ ow c acc30 fullShare (a3 D c) ∗ av (nxt c) rva2 ∗ reached ER (cell (nxt c) 8) 0 ∗ pend c 10 ∗ pend c 13 ∗ ow c acc31 fullShare (half 1 (partV D c 3)))
      ⊢ iprop(((OW c [7, 8, 9, 10, 11, 12, 13] ∗ ow c acc31 fullShare (half 1 (partV D c 3)) ∗ pend c 5 ∗ done c 10 ∗ ow c acc21 fullShare (b2 D c) ∗ done c 13 ∗ ow c rvb1 fullShare (b2 D (nxt c))) -∗ Q (rv1092 D c))
        -∗ run c (k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv5 D c) (rv7 D c)) Q) := by
  iintro ⟨#HI, #HL, C5, HO, A30, RA2, r8, P10, P13, A31⟩ Hret
  rw [k0_part30_eq_skeleton]; unfold k0_part30_skel
  simp only [semSignalWord, semWaitWord, Prog.lift, Prog.bind_op, Prog.bind_ret, Prog.pure_eq_ret, Prog.bind_assoc, wp_deviceId]
  iapply (send_a D K c 5 8 6 [7, 8, 9, 10, 11, 12, 13] (nxt c) (a3 D c) (by decide) (by decide) (by decide) (by decide) rfl (dev7_eq c) rfl rfl rfl (by show (ow (nxt c) rva2 fullShare (a3 D (prv (nxt c))) : sProp 𝕄) = _; rw [prv_nxt])) $$ [C5 HO A30 RA2 r8]
  · isplitr; · iexact HI
    isplitl [C5]; · iexact C5
    isplitl [HO]; · iexact HO
    isplitl [A30]; · iexact A30
    isplitl [RA2]; · iexact RA2
    iexact r8
  iintro ⟨HO, P5⟩
  iapply (step_wait D K c 10 [7, 8, 9, 10, 11, 12, 13] (by decide) (by decide) rfl rfl) $$ [P10 HO]
  · isplitr; · iexact HI
    isplitr; · iexact HL
    isplitl [P10]; · iexact P10
    iexact HO
  iintro ⟨HO, Z10, A21⟩
  ihave A21 := (eqE (show (payD D c (10 : DmaSem sig).val : sProp 𝕄) = ow c acc21 fullShare (b2 D c) from rfl)) $$ A21
  iapply (step_wait D K c 13 [7, 8, 9, 10, 11, 12, 13] (by decide) (by decide) rfl rfl) $$ [P13 HO]
  · isplitr; · iexact HI
    isplitr; · iexact HL
    isplitl [P13]; · iexact P13
    iexact HO
  iintro ⟨HO, Z13, W1⟩
  ihave W1 := (eqE (show (payD D c (13 : DmaSem sig).val : sProp 𝕄) = ow c rvb1 fullShare (b2 D (nxt c)) from rfl)) $$ W1
  iapply (ld_ow c) $$ A31
  iintro A31
  rw [run, wp_ret]; imodintro
  iapply Hret
  isplitl [HO]; · iexact HO
  isplitl [A31]; · iexact A31
  isplitl [P5]; · iexact P5
  isplitl [Z10]; · iexact Z10
  isplitl [A21]; · iexact A21
  isplitl [Z13]; · iexact Z13
  iexact W1

theorem p31 (D : Inp F) (K : GSem nD τ sig → ℕ) (c : Dev nD) {Q : (PUnit) → sProp 𝕄} :
    iprop(invs D K ∗ levAts L lv ∗ ow c rvb1 fullShare (b2 D (nxt c)) ∗ ow c acc31 fullShare (half 1 (partV D c 3)) ∗ chan c 11 (prv c) 14 ∗ OW c [7, 8, 9, 10, 11, 12, 13] ∗ av (prv c) rvb2 ∗ reached ER (cell (prv c) 14) 0 ∗ pend c 5)
      ⊢ iprop(((OW c [8, 9, 10, 11, 12, 13] ∗ ow c rvb1 fullShare (b2 D (nxt c)) ∗ pend c 11 ∗ done c 5 ∗ ow c acc30 fullShare (a3 D c)) -∗ Q ⟨⟩)
        -∗ run c (k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv5 D c) (rv7 D c) (rv1092 D c)) Q) := by
  iintro ⟨#HI, #HL, W1, A31, C11, HO, RB2, r14, P5⟩ Hret
  rw [k0_part31_eq_skeleton]; unfold k0_part31_skel
  simp only [semSignalWord, semWaitWord, Prog.lift, Prog.bind_op, Prog.bind_ret, Prog.pure_eq_ret, Prog.bind_assoc, wp_deviceId]
  iapply (ld_ow c) $$ W1
  iintro W1
  iapply (ld_ow c) $$ A31
  iintro A31
  ihave A31 := (av_of_ow c acc31 _) $$ A31
  iapply (st_av c) $$ A31
  iintro A31
  ihave A31 := (eqE (show (ow c acc31 fullShare ((k0_pay107 (rv1092 D c) (b2 D (nxt c)))) : sProp 𝕄) = ow c acc31 fullShare (b3 D c) from rfl)) $$ A31
  iapply (send_b D K c 11 14 7 [8, 9, 10, 11, 12, 13] (prv c) (b3 D c) (by decide) (by decide) (by decide) (by decide) rfl (dev8_eq c) rfl rfl rfl (by show (ow (prv c) rvb2 fullShare (b3 D (nxt (prv c))) : sProp 𝕄) = _; rw [nxt_prv])) $$ [C11 HO A31 RB2 r14]
  · isplitr; · iexact HI
    isplitl [C11]; · iexact C11
    isplitl [HO]; · iexact HO
    isplitl [A31]; · iexact A31
    isplitl [RB2]; · iexact RB2
    iexact r14
  iintro ⟨HO, P11⟩
  iapply (step_wait D K c 5 [8, 9, 10, 11, 12, 13] (by decide) (by decide) rfl rfl) $$ [P5 HO]
  · isplitr; · iexact HI
    isplitr; · iexact HL
    isplitl [P5]; · iexact P5
    iexact HO
  iintro ⟨HO, Z5, A30⟩
  ihave A30 := (eqE (show (payD D c (5 : DmaSem sig).val : sProp 𝕄) = ow c acc30 fullShare (a3 D c) from rfl)) $$ A30
  rw [run, wp_ret]; imodintro
  iapply Hret
  isplitl [HO]; · iexact HO
  isplitl [W1]; · iexact W1
  isplitl [P11]; · iexact P11
  isplitl [Z5]; · iexact Z5
  iexact A30

theorem p32 (D : Inp F) (K : GSem nD τ sig → ℕ) (c : Dev nD) {Q : (PUnit) → sProp 𝕄} :
    iprop(invs D K ∗ levAts L lv ∗ pend c 8 ∗ OW c [8, 9, 10, 11, 12, 13] ∗ ow c acc20 fullShare (half 0 (partV D c 2)) ∗ pend c 11)
      ⊢ iprop(((OW c [8, 9, 10, 11, 12, 13] ∗ ow c acc20 fullShare (a2 D c) ∗ done c 8 ∗ ow c rva2 fullShare (a3 D (prv c)) ∗ done c 11 ∗ ow c acc31 fullShare (b3 D c)) -∗ Q ⟨⟩)
        -∗ run c (k0_part32 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv5 D c)) Q) := by
  iintro ⟨#HI, #HL, P8, HO, A20, P11⟩ Hret
  rw [k0_part32_eq_skeleton]; unfold k0_part32_skel
  simp only [semSignalWord, semWaitWord, Prog.lift, Prog.bind_op, Prog.bind_ret, Prog.pure_eq_ret, Prog.bind_assoc, wp_deviceId]
  iapply (step_wait D K c 8 [8, 9, 10, 11, 12, 13] (by decide) (by decide) rfl rfl) $$ [P8 HO]
  · isplitr; · iexact HI
    isplitr; · iexact HL
    isplitl [P8]; · iexact P8
    iexact HO
  iintro ⟨HO, Z8, V2⟩
  ihave V2 := (eqE (show (payD D c (8 : DmaSem sig).val : sProp 𝕄) = ow c rva2 fullShare (a3 D (prv c)) from rfl)) $$ V2
  iapply (ld_ow c) $$ A20
  iintro A20
  iapply (ld_ow c) $$ V2
  iintro V2
  iapply (ld_ow c) $$ A20
  iintro A20
  ihave A20 := (av_of_ow c acc20 _) $$ A20
  iapply (st_av c) $$ A20
  iintro A20
  ihave A20 := (eqE (show (ow c acc20 fullShare ((k0_pay108 (half 0 (partV D c 2)) (a3 D (prv c)))) : sProp 𝕄) = ow c acc20 fullShare (a2 D c) from rfl)) $$ A20
  iapply (step_wait D K c 11 [8, 9, 10, 11, 12, 13] (by decide) (by decide) rfl rfl) $$ [P11 HO]
  · isplitr; · iexact HI
    isplitr; · iexact HL
    isplitl [P11]; · iexact P11
    iexact HO
  iintro ⟨HO, Z11, A31⟩
  ihave A31 := (eqE (show (payD D c (11 : DmaSem sig).val : sProp 𝕄) = ow c acc31 fullShare (b3 D c) from rfl)) $$ A31
  rw [run, wp_ret]; imodintro
  iapply Hret
  isplitl [HO]; · iexact HO
  isplitl [A20]; · iexact A20
  isplitl [Z8]; · iexact Z8
  isplitl [V2]; · iexact V2
  isplitl [Z11]; · iexact Z11
  iexact A31

theorem p33 (D : Inp F) (K : GSem nD τ sig → ℕ) (c : Dev nD) {Q : (PUnit) → sProp 𝕄} :
    iprop(invs D K ∗ levAts L lv ∗ pend c 14 ∗ OW c [8, 9, 10, 11, 12, 13] ∗ ow c acc11 fullShare (half 1 (partV D c 1)) ∗ ow c acc20 fullShare (a2 D c) ∗ chan c 15 (nxt c) 21 ∗ av (nxt c) agla ∗ reached ER (cell (nxt c) 21) 0 ∗ chan c 16 (nxt c) 22 ∗ av (nxt c) aglb ∗ reached ER (cell (nxt c) 22) 0)
      ⊢ iprop(((OW c [10, 11, 12, 13] ∗ done c 14 ∗ ow c rvb2 fullShare (b3 D (nxt c)) ∗ ow c acc20 sh2 (a2 D c) ∗ ow c acc20 sh3 (a2 D c) ∗ pend c 15 ∗ ow c acc11 sh2 (b1 D c) ∗ ow c acc11 sh3 (b1 D c) ∗ pend c 16) -∗ Q ⟨⟩)
        -∗ run c (k0_part33 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv7 D c)) Q) := by
  iintro ⟨#HI, #HL, P14, HO, A11, A20, C15, PG9, r21, C16, PG10, r22⟩ Hret
  rw [k0_part33_eq_skeleton]; unfold k0_part33_skel
  simp only [semSignalWord, semWaitWord, Prog.lift, Prog.bind_op, Prog.bind_ret, Prog.pure_eq_ret, Prog.bind_assoc, wp_deviceId]
  iapply (step_wait D K c 14 [8, 9, 10, 11, 12, 13] (by decide) (by decide) rfl rfl) $$ [P14 HO]
  · isplitr; · iexact HI
    isplitr; · iexact HL
    isplitl [P14]; · iexact P14
    iexact HO
  iintro ⟨HO, Z14, W2⟩
  ihave W2 := (eqE (show (payD D c (14 : DmaSem sig).val : sProp 𝕄) = ow c rvb2 fullShare (b3 D (nxt c)) from rfl)) $$ W2
  iapply (ld_ow c) $$ A11
  iintro A11
  iapply (ld_ow c) $$ W2
  iintro W2
  iapply (ld_ow c) $$ A11
  iintro A11
  ihave A11 := (av_of_ow c acc11 _) $$ A11
  iapply (st_av c) $$ A11
  iintro A11
  ihave A11 := (eqE (show (ow c acc11 fullShare ((k0_pay109 (half 1 (partV D c 1)) (b3 D (nxt c)))) : sProp 𝕄) = ow c acc11 fullShare (b1 D c) from rfl)) $$ A11
  icases (ow_share c acc20 fullShare sh1 fullShare.right (PosShare.mem_left_op_right _) (a2 D c)) $$ A20 with ⟨A20l, Hr⟩
  icases (ow_share c acc20 fullShare.right sh2 sh3 (PosShare.mem_left_op_right _) (a2 D c)) $$ Hr with ⟨A20m, A20r⟩
  iapply (send_ag D K c 15 21 8 [9, 10, 11, 12, 13] (nxt c) (a2 D c) sh1 (Memref.whole cc0_scratch3) rfl (by decide) (by decide) (by decide) (by decide) rfl (dev9_eq c) rfl rfl rfl (by show (ow (nxt c) agla fullShare (flat (a2 D (prv (nxt c)))) : sProp 𝕄) = _; rw [prv_nxt])) $$ [C15 HO A20l PG9 r21]
  · isplitr; · iexact HI
    isplitl [C15]; · iexact C15
    isplitl [HO]; · iexact HO
    isplitl [A20l]; · iexact A20l
    isplitl [PG9]; · iexact PG9
    iexact r21
  iintro ⟨HO, P15⟩
  icases (ow_share c acc11 fullShare sh1 fullShare.right (PosShare.mem_left_op_right _) (b1 D c)) $$ A11 with ⟨A11l, Hr⟩
  icases (ow_share c acc11 fullShare.right sh2 sh3 (PosShare.mem_left_op_right _) (b1 D c)) $$ Hr with ⟨A11m, A11r⟩
  iapply (send_ag D K c 16 22 9 [10, 11, 12, 13] (nxt c) (b1 D c) sh1 (Memref.whole cc0_scratch4) rfl (by decide) (by decide) (by decide) (by decide) rfl (dev10_eq c) rfl rfl rfl (by show (ow (nxt c) aglb fullShare (flat (b1 D (prv (nxt c)))) : sProp 𝕄) = _; rw [prv_nxt])) $$ [C16 HO A11l PG10 r22]
  · isplitr; · iexact HI
    isplitl [C16]; · iexact C16
    isplitl [HO]; · iexact HO
    isplitl [A11l]; · iexact A11l
    isplitl [PG10]; · iexact PG10
    iexact r22
  iintro ⟨HO, P16⟩
  rw [run, wp_ret]; imodintro
  iapply Hret
  isplitl [HO]; · iexact HO
  isplitl [Z14]; · iexact Z14
  isplitl [W2]; · iexact W2
  isplitl [A20m]; · iexact A20m
  isplitl [A20r]; · iexact A20r
  isplitl [P15]; · iexact P15
  isplitl [A11m]; · iexact A11m
  isplitl [A11r]; · iexact A11r
  iexact P16

abbrev rv1206 (D : Inp F) (c : Dev nD) : BitVec 32 := (Scalar.muli (Scalar.remsi (Scalar.addi (rv2 D c) 3#32) 4#32) 256#32)
theorem p34 (D : Inp F) (K : GSem nD τ sig → ℕ) (c : Dev nD) {Q : (BitVec 32) → sProp 𝕄} :
    iprop(invs D K ∗ levAts L lv ∗ chan c 17 (prv c) 23 ∗ OW c [10, 11, 12, 13] ∗ ow c acc20 sh2 (a2 D c) ∗ av (prv c) agra ∗ reached ER (cell (prv c) 23) 0 ∗ chan c 18 (prv c) 24 ∗ ow c acc11 sh2 (b1 D c) ∗ av (prv c) agrb ∗ reached ER (cell (prv c) 24) 0 ∗ ow c acc20 sh3 (a2 D c) ∗ stageP D c [])
      ⊢ iprop(((stageP D c [(nxt c, 0)] ∗ OW c [12, 13] ∗ ow c acc20 sh3 (a2 D c) ∗ pend c 17 ∗ pend c 18) -∗ Q (rv1206 D c))
        -∗ run c (k0_part34 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv5 D c)) Q) := by
  iintro ⟨#HI, #HL, C17, HO, A20m, PG11, r23, C18, A11m, PG12, r24, A20r, Hst⟩ Hret
  rw [k0_part34_eq_skeleton]; unfold k0_part34_skel
  simp only [semSignalWord, semWaitWord, Prog.lift, Prog.bind_op, Prog.bind_ret, Prog.pure_eq_ret, Prog.bind_assoc, wp_deviceId]
  iapply (send_ag D K c 17 23 10 [11, 12, 13] (prv c) (a2 D c) sh2 (Memref.whole cc0_scratch5) rfl (by decide) (by decide) (by decide) (by decide) rfl (dev11_eq c) rfl rfl rfl (by show (ow (prv c) agra fullShare (flat (a2 D (nxt (prv c)))) : sProp 𝕄) = _; rw [nxt_prv])) $$ [C17 HO A20m PG11 r23]
  · isplitr; · iexact HI
    isplitl [C17]; · iexact C17
    isplitl [HO]; · iexact HO
    isplitl [A20m]; · iexact A20m
    isplitl [PG11]; · iexact PG11
    iexact r23
  iintro ⟨HO, P17⟩
  iapply (send_ag D K c 18 24 11 [12, 13] (prv c) (b1 D c) sh2 (Memref.whole cc0_scratch6) rfl (by decide) (by decide) (by decide) (by decide) rfl (dev12_eq c) rfl rfl rfl (by show (ow (prv c) agrb fullShare (flat (b1 D (nxt (prv c)))) : sProp 𝕄) = _; rw [nxt_prv])) $$ [C18 HO A11m PG12 r24]
  · isplitr; · iexact HI
    isplitl [C18]; · iexact C18
    isplitl [HO]; · iexact HO
    isplitl [A11m]; · iexact A11m
    isplitl [PG12]; · iexact PG12
    iexact r24
  iintro ⟨HO, P18⟩
  ihave A20r := (eqE (accM_ow c _ sh3 (a2 D c) _).symm) $$ A20r
  iapply (ld_full c z2) $$ A20r
  iintro A20r
  ihave A20r := (eqE (accM_ow c _ sh3 (a2 D c) _)) $$ A20r
  iapply (ld_stage D c) $$ Hst
  iintro Hst
  iapply (st_stage D c (nxt c) 0 (off4_1 c) (by show k0_pay110 (flat (a2 D c)) = k0_pay110 (flat (a2 D (prv (nxt c)))); rw [prv_nxt])) $$ Hst
  iintro Hst
  rw [run, wp_ret]; imodintro
  iapply Hret
  isplitl [Hst]; · iexact Hst
  isplitl [HO]; · iexact HO
  isplitl [A20r]; · iexact A20r
  isplitl [P17]; · iexact P17
  iexact P18

theorem p35 (D : Inp F) (K : GSem nD τ sig → ℕ) (c : Dev nD) {Q : (PUnit) → sProp 𝕄} :
    iprop(invs D K ∗ levAts L lv ∗ ow c acc11 sh3 (b1 D c) ∗ stageP D c [(nxt c, 0)] ∗ pend c 15 ∗ OW c [12, 13] ∗ pend c 21 ∗ pend c 16)
      ⊢ iprop(((stageP D c [(prv c, 1), (nxt c, 0)] ∗ OW c [12, 13] ∗ ow c acc11 sh3 (b1 D c) ∗ done c 15 ∗ ow c acc20 sh1 (a2 D c) ∗ done c 21 ∗ ow c agla fullShare (flat (a2 D (prv c))) ∗ done c 16 ∗ ow c acc11 sh1 (b1 D c)) -∗ Q ⟨⟩)
        -∗ run c (k0_part35 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv7 D c) (rv1206 D c)) Q) := by
  iintro ⟨#HI, #HL, A11r, Hst, P15, HO, P21, P16⟩ Hret
  rw [k0_part35_eq_skeleton]; unfold k0_part35_skel
  simp only [semSignalWord, semWaitWord, Prog.lift, Prog.bind_op, Prog.bind_ret, Prog.pure_eq_ret, Prog.bind_assoc, wp_deviceId]
  ihave A11r := (eqE (accM_ow c _ sh3 (b1 D c) _).symm) $$ A11r
  iapply (ld_full c z2) $$ A11r
  iintro A11r
  ihave A11r := (eqE (accM_ow c _ sh3 (b1 D c) _)) $$ A11r
  iapply (ld_stage D c) $$ Hst
  iintro Hst
  iapply (st_stage D c (prv c) 1 (off5_3 c) (by show k0_pay110 (flat (b1 D c)) = k0_pay110 (flat (b1 D (nxt (prv c)))); rw [nxt_prv])) $$ Hst
  iintro Hst
  iapply (step_wait D K c 15 [12, 13] (by decide) (by decide) rfl rfl) $$ [P15 HO]
  · isplitr; · iexact HI
    isplitr; · iexact HL
    isplitl [P15]; · iexact P15
    iexact HO
  iintro ⟨HO, Z15, A20l⟩
  ihave A20l := (eqE (show (payD D c (15 : DmaSem sig).val : sProp 𝕄) = ow c acc20 sh1 (a2 D c) from rfl)) $$ A20l
  iapply (step_wait D K c 21 [12, 13] (by decide) (by decide) rfl rfl) $$ [P21 HO]
  · isplitr; · iexact HI
    isplitr; · iexact HL
    isplitl [P21]; · iexact P21
    iexact HO
  iintro ⟨HO, Z21, G9⟩
  ihave G9 := (eqE (show (payD D c (21 : DmaSem sig).val : sProp 𝕄) = ow c agla fullShare (flat (a2 D (prv c))) from rfl)) $$ G9
  iapply (step_wait D K c 16 [12, 13] (by decide) (by decide) rfl rfl) $$ [P16 HO]
  · isplitr; · iexact HI
    isplitr; · iexact HL
    isplitl [P16]; · iexact P16
    iexact HO
  iintro ⟨HO, Z16, A11l⟩
  ihave A11l := (eqE (show (payD D c (16 : DmaSem sig).val : sProp 𝕄) = ow c acc11 sh1 (b1 D c) from rfl)) $$ A11l
  rw [run, wp_ret]; imodintro
  iapply Hret
  isplitl [Hst]; · iexact Hst
  isplitl [HO]; · iexact HO
  isplitl [A11r]; · iexact A11r
  isplitl [Z15]; · iexact Z15
  isplitl [A20l]; · iexact A20l
  isplitl [Z21]; · iexact Z21
  isplitl [G9]; · iexact G9
  isplitl [Z16]; · iexact Z16
  iexact A11l

theorem p36 (D : Inp F) (K : GSem nD τ sig → ℕ) (c : Dev nD) {Q : (PUnit) → sProp 𝕄} :
    iprop(invs D K ∗ levAts L lv ∗ pend c 22 ∗ OW c [12, 13] ∗ pend c 17 ∗ pend c 23 ∗ pend c 18 ∗ pend c 24)
      ⊢ iprop(((OW c [12, 13] ∗ done c 22 ∗ ow c aglb fullShare (flat (b1 D (prv c))) ∗ done c 17 ∗ ow c acc20 sh2 (a2 D c) ∗ done c 23 ∗ ow c agra fullShare (flat (a2 D (nxt c))) ∗ done c 18 ∗ ow c acc11 sh2 (b1 D c) ∗ done c 24 ∗ ow c agrb fullShare (flat (b1 D (nxt c)))) -∗ Q ⟨⟩)
        -∗ run c (k0_part36 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 (rv5 D c) (rv7 D c)) Q) := by
  iintro ⟨#HI, #HL, P22, HO, P17, P23, P18, P24⟩ Hret
  rw [k0_part36_eq_skeleton]; unfold k0_part36_skel
  simp only [semSignalWord, semWaitWord, Prog.lift, Prog.bind_op, Prog.bind_ret, Prog.pure_eq_ret, Prog.bind_assoc, wp_deviceId]
  iapply (step_wait D K c 22 [12, 13] (by decide) (by decide) rfl rfl) $$ [P22 HO]
  · isplitr; · iexact HI
    isplitr; · iexact HL
    isplitl [P22]; · iexact P22
    iexact HO
  iintro ⟨HO, Z22, G10⟩
  ihave G10 := (eqE (show (payD D c (22 : DmaSem sig).val : sProp 𝕄) = ow c aglb fullShare (flat (b1 D (prv c))) from rfl)) $$ G10
  iapply (step_wait D K c 17 [12, 13] (by decide) (by decide) rfl rfl) $$ [P17 HO]
  · isplitr; · iexact HI
    isplitr; · iexact HL
    isplitl [P17]; · iexact P17
    iexact HO
  iintro ⟨HO, Z17, A20m⟩
  ihave A20m := (eqE (show (payD D c (17 : DmaSem sig).val : sProp 𝕄) = ow c acc20 sh2 (a2 D c) from rfl)) $$ A20m
  iapply (step_wait D K c 23 [12, 13] (by decide) (by decide) rfl rfl) $$ [P23 HO]
  · isplitr; · iexact HI
    isplitr; · iexact HL
    isplitl [P23]; · iexact P23
    iexact HO
  iintro ⟨HO, Z23, G11⟩
  ihave G11 := (eqE (show (payD D c (23 : DmaSem sig).val : sProp 𝕄) = ow c agra fullShare (flat (a2 D (nxt c))) from rfl)) $$ G11
  iapply (step_wait D K c 18 [12, 13] (by decide) (by decide) rfl rfl) $$ [P18 HO]
  · isplitr; · iexact HI
    isplitr; · iexact HL
    isplitl [P18]; · iexact P18
    iexact HO
  iintro ⟨HO, Z18, A11m⟩
  ihave A11m := (eqE (show (payD D c (18 : DmaSem sig).val : sProp 𝕄) = ow c acc11 sh2 (b1 D c) from rfl)) $$ A11m
  iapply (step_wait D K c 24 [12, 13] (by decide) (by decide) rfl rfl) $$ [P24 HO]
  · isplitr; · iexact HI
    isplitr; · iexact HL
    isplitl [P24]; · iexact P24
    iexact HO
  iintro ⟨HO, Z24, G12⟩
  ihave G12 := (eqE (show (payD D c (24 : DmaSem sig).val : sProp 𝕄) = ow c agrb fullShare (flat (b1 D (nxt c))) from rfl)) $$ G12
  rw [run, wp_ret]; imodintro
  iapply Hret
  isplitl [HO]; · iexact HO
  isplitl [Z22]; · iexact Z22
  isplitl [G10]; · iexact G10
  isplitl [Z17]; · iexact Z17
  isplitl [A20m]; · iexact A20m
  isplitl [Z23]; · iexact Z23
  isplitl [G11]; · iexact G11
  isplitl [Z18]; · iexact Z18
  isplitl [A11m]; · iexact A11m
  isplitl [Z24]; · iexact Z24
  iexact G12

abbrev rv1290 (D : Inp F) (c : Dev nD) : FVec F S256x512 .f32 := k0_pay115 (flat (b1 D (prv c)))
theorem p37 (D : Inp F) (K : GSem nD τ sig → ℕ) (c : Dev nD) {Q : (Σ' (v1290 : FVec F S256x512 .f32), Vec F S256x512 .f32) → sProp 𝕄} :
    iprop(invs D K ∗ levAts L lv ∗ ow c agla fullShare (flat (a2 D (prv c))) ∗ chan c 19 (nxt c) 25 ∗ OW c [12, 13] ∗ av (nxt c) dg2a ∗ reached ER (cell (nxt c) 25) 0 ∗ ow c agrb fullShare (flat (b1 D (nxt c))) ∗ chan c 20 (prv c) 26 ∗ av (prv c) dg2b ∗ reached ER (cell (prv c) 26) 0 ∗ stageP D c [(prv c, 1), (nxt c, 0)] ∗ ow c agra fullShare (flat (a2 D (nxt c))) ∗ ow c aglb fullShare (flat (b1 D (prv c))))
      ⊢ iprop((∀ z, (stageP D c [(nxt (nxt c), 0), (c, 1), (c, 0), (prv c, 1), (nxt c, 0)] ∗ OW c [] ∗ ow c aglb fullShare (flat (b1 D (prv c))) ∗ ow c agra fullShare (flat (a2 D (nxt c))) ∗ ow c agla fullShare.right (flat (a2 D (prv c))) ∗ pend c 19 ∗ ow c agrb fullShare.right (flat (b1 D (nxt c))) ∗ pend c 20) -∗ Q ⟨(rv1290 D c), z⟩)
        -∗ run c (k0_part37 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv5 D c)) Q) := by
  iintro ⟨#HI, #HL, G9, C19, HO, PG13, r25, G12, C20, PG14, r26, Hst, G11, G10⟩ Hret
  rw [k0_part37_eq_skeleton]; unfold k0_part37_skel
  simp only [semSignalWord, semWaitWord, Prog.lift, Prog.bind_op, Prog.bind_ret, Prog.pure_eq_ret, Prog.bind_assoc, wp_deviceId]
  icases (ow_share c agla fullShare sh1 fullShare.right (PosShare.mem_left_op_right _) (flat (a2 D (prv c)))) $$ G9 with ⟨G9l, G9r⟩
  iapply (send_dg D K c 19 25 12 [13] (nxt c) (flat (a2 D (prv c))) sh1 (Memref.whole cc0_scratch3) (Memref.whole cc0_scratch7) rfl (by decide) (by decide) (by decide) (by decide) rfl (dev13_eq c) rfl rfl rfl (by show (ow (nxt c) dg2a fullShare (flat (a2 D (prv (prv (nxt c))))) : sProp 𝕄) = _; rw [prv_nxt])) $$ [C19 HO G9l PG13 r25]
  · isplitr; · iexact HI
    isplitl [C19]; · iexact C19
    isplitl [HO]; · iexact HO
    isplitl [G9l]; · iexact G9l
    isplitl [PG13]; · iexact PG13
    iexact r25
  iintro ⟨HO, P19⟩
  icases (ow_share c agrb fullShare sh1 fullShare.right (PosShare.mem_left_op_right _) (flat (b1 D (nxt c)))) $$ G12 with ⟨G12l, G12r⟩
  iapply (send_dg D K c 20 26 13 [] (prv c) (flat (b1 D (nxt c))) sh1 (Memref.whole cc0_scratch6) (Memref.whole cc0_scratch8) rfl (by decide) (by decide) (by decide) (by decide) rfl (dev14_eq c) rfl rfl rfl (by show (ow (prv c) dg2b fullShare (flat (b1 D (nxt (nxt (prv c))))) : sProp 𝕄) = _; rw [nxt_prv])) $$ [C20 HO G12l PG14 r26]
  · isplitr; · iexact HI
    isplitl [C20]; · iexact C20
    isplitl [HO]; · iexact HO
    isplitl [G12l]; · iexact G12l
    isplitl [PG14]; · iexact PG14
    iexact r26
  iintro ⟨HO, P20⟩
  iapply (ld_full (m := Memref.whole cc0_scratch3) c z2) $$ G9r
  iintro G9r
  iapply (ld_stage D c) $$ Hst
  iintro Hst
  iapply (st_stage D c c 0 (off6_eq c) rfl) $$ Hst
  iintro Hst
  iapply (ld_full (m := Memref.whole cc0_scratch6) c z2) $$ G12r
  iintro G12r
  iapply (ld_stage D c) $$ Hst
  iintro Hst
  iapply (st_stage D c c 1 (off7_eq c) rfl) $$ Hst
  iintro Hst
  iapply (ld_full (m := Memref.whole cc0_scratch5) c z2) $$ G11
  iintro G11
  iapply (ld_stage D c) $$ Hst
  iintro Hst
  iapply (st_stage D c (nxt (nxt c)) 0 (off4_2 c) (by show k0_pay110 (flat (a2 D (nxt c))) = k0_pay110 (flat (a2 D (prv (nxt (nxt c))))); rw [prv_nxt])) $$ Hst
  iintro Hst
  iapply (ld_full (m := Memref.whole cc0_scratch4) c z2) $$ G10
  iintro G10
  iapply (ld_stage_any D c) $$ Hst
  iintro %z Hst
  rw [run, wp_ret]; imodintro
  iapply Hret
  isplitl [Hst]; · iexact Hst
  isplitl [HO]; · iexact HO
  isplitl [G10]; · iexact G10
  isplitl [G11]; · iexact G11
  isplitl [G9r]; · iexact G9r
  isplitl [P19]; · iexact P19
  isplitl [G12r]; · iexact G12r
  iexact P20

abbrev rv1320 (D : Inp F) (c : Dev nD) : FVec F S256x512 .f32 := (k0_pay118 (flat (b1 D (nxt (nxt c)))))
theorem p38 (D : Inp F) (K : GSem nD τ sig → ℕ) (c : Dev nD) (z : Vec F S256x512 .f32) {Q : (FVec F S256x512 .f32) → sProp 𝕄} :
    iprop(invs D K ∗ levAts L lv ∗ stageP D c [(nxt (nxt c), 0), (c, 1), (c, 0), (prv c, 1), (nxt c, 0)] ∗ pend c 19 ∗ OW c [] ∗ pend c 25 ∗ pend c 20 ∗ pend c 26)
      ⊢ iprop(((stageP D c [(prv c, 0), (nxt (nxt c), 1), (nxt (nxt c), 0), (c, 1), (c, 0), (prv c, 1), (nxt c, 0)] ∗ OW c [] ∗ done c 19 ∗ ow c agla sh1 (flat (a2 D (prv c))) ∗ done c 25 ∗ ow c dg2a fullShare (flat (a2 D (prv (prv c)))) ∗ done c 20 ∗ ow c agrb sh1 (flat (b1 D (nxt c))) ∗ done c 26 ∗ ow c dg2b fullShare (flat (b1 D (nxt (nxt c))))) -∗ Q (rv1320 D c))
        -∗ run c (k0_part38 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 c (rv2 D c) (rv5 D c) (rv7 D c) (rv1290 D c) z) Q) := by
  iintro ⟨#HI, #HL, Hst, P19, HO, P25, P20, P26⟩ Hret
  rw [k0_part38_eq_skeleton]; unfold k0_part38_skel
  simp only [semSignalWord, semWaitWord, Prog.lift, Prog.bind_op, Prog.bind_ret, Prog.pure_eq_ret, Prog.bind_assoc, wp_deviceId]
  iapply (st_stage D c (nxt (nxt c)) 1 (off5_2 c) (by show k0_pay110 (flat (b1 D (prv c))) = k0_pay110 (flat (b1 D (nxt (nxt (nxt c))))); rw [nxt3])) $$ Hst
  iintro Hst
  iapply (step_wait D K c 19 [] (by decide) (by decide) rfl rfl) $$ [P19 HO]
  · isplitr; · iexact HI
    isplitr; · iexact HL
    isplitl [P19]; · iexact P19
    iexact HO
  iintro ⟨HO, Z19, G9l⟩
  ihave G9l := (eqE (show (payD D c (19 : DmaSem sig).val : sProp 𝕄) = ow c agla sh1 (flat (a2 D (prv c))) from rfl)) $$ G9l
  iapply (step_wait D K c 25 [] (by decide) (by decide) rfl rfl) $$ [P25 HO]
  · isplitr; · iexact HI
    isplitr; · iexact HL
    isplitl [P25]; · iexact P25
    iexact HO
  iintro ⟨HO, Z25, G13⟩
  ihave G13 := (eqE (show (payD D c (25 : DmaSem sig).val : sProp 𝕄) = ow c dg2a fullShare (flat (a2 D (prv (prv c)))) from rfl)) $$ G13
  iapply (step_wait D K c 20 [] (by decide) (by decide) rfl rfl) $$ [P20 HO]
  · isplitr; · iexact HI
    isplitr; · iexact HL
    isplitl [P20]; · iexact P20
    iexact HO
  iintro ⟨HO, Z20, G12l⟩
  ihave G12l := (eqE (show (payD D c (20 : DmaSem sig).val : sProp 𝕄) = ow c agrb sh1 (flat (b1 D (nxt c))) from rfl)) $$ G12l
  iapply (step_wait D K c 26 [] (by decide) (by decide) rfl rfl) $$ [P26 HO]
  · isplitr; · iexact HI
    isplitr; · iexact HL
    isplitl [P26]; · iexact P26
    iexact HO
  iintro ⟨HO, Z26, G14⟩
  ihave G14 := (eqE (show (payD D c (26 : DmaSem sig).val : sProp 𝕄) = ow c dg2b fullShare (flat (b1 D (nxt (nxt c)))) from rfl)) $$ G14
  iapply (ld_full (m := Memref.whole cc0_scratch7) c z2) $$ G13
  iintro G13
  iapply (ld_stage D c) $$ Hst
  iintro Hst
  iapply (st_stage D c (prv c) 0 (off4_3 c) rfl) $$ Hst
  iintro Hst
  iapply (ld_full (m := Memref.whole cc0_scratch8) c z2) $$ G14
  iintro G14
  rw [run, wp_ret]; imodintro
  iapply Hret
  isplitl [Hst]; · iexact Hst
  isplitl [HO]; · iexact HO
  isplitl [Z19]; · iexact Z19
  isplitl [G9l]; · iexact G9l
  isplitl [Z25]; · iexact Z25
  isplitl [G13]; · iexact G13
  isplitl [Z20]; · iexact Z20
  isplitl [G12l]; · iexact G12l
  isplitl [Z26]; · iexact Z26
  iexact G14

end Cert.KernelIdeal.Hand

end
-- ==== Proof.Body.lean ====
/-
  The kernel's run on one device, whole: the pieces in their order.
-/
module

public import proofs.«01_k».proof.Proof.Parts4

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What a device holds when the kernel starts. -/
def bodyPre (D : Inp F) (c : Dev nD) : sProp 𝕄 :=
  iprop(wh c mX (D.x c) ∗ wh c mK (D.k c) ∗ wh c mV (D.v c) ∗ ((wqS c).loc (c : Thread nD τ) ↦[(wqS c).set]{fullShare} D.wq c) ∗ ((woS c).loc (c : Thread nD τ) ↦[(woS c).set]{fullShare} D.wo c) ∗ an c mO ∗ av c (slotV ![0, 0, 0] inb_S4x256x1024_S1x256x1024_0_0_0) ∗ av c (slotV ![1, 0, 0] inb_S4x256x1024_S1x256x1024_1_0_0) ∗ av c (slotV ![2, 0, 0] inb_S4x256x1024_S1x256x1024_2_0_0) ∗ av c (slotV ![3, 0, 0] inb_S4x256x1024_S1x256x1024_3_0_0) ∗ an c mCtx ∗ stageP D c [] ∗ an c mWqf ∗ an c mWof ∗ an c mWqb ∗ an c mWob ∗ chan c 3 (nxt c) 6 ∗ chan c 9 (prv c) 12 ∗ chan c 4 (nxt c) 7 ∗ chan c 10 (prv c) 13 ∗ chan c 5 (nxt c) 8 ∗ chan c 11 (prv c) 14 ∗ chan c 15 (nxt c) 21 ∗ chan c 16 (nxt c) 22 ∗ chan c 17 (prv c) 23 ∗ chan c 18 (prv c) 24 ∗ chan c 19 (nxt c) 25 ∗ chan c 20 (prv c) 26 ∗ lchan c 27 ∗ lchan c 28 ∗ lchan c 29 ∗ pend c 6 ∗ pend c 7 ∗ pend c 8 ∗ pend c 12 ∗ pend c 13 ∗ pend c 14 ∗ pend c 21 ∗ pend c 22 ∗ pend c 23 ∗ pend c 24 ∗ pend c 25 ∗ pend c 26 ∗ OW c [0, 1, 2, 3, 4, 5, 6, 7, 8, 9, 10, 11, 12, 13] ∗ giveR c ∗ giveL c ∗ dutyTok ER (barCell (prv c)) 0 false ∗ dutyTok ER (barCell (nxt c)) 0 true ∗ reached ER (barCell (prv c)) 0 ∗ reached ER (barCell (nxt c)) 0 ∗ (atPos ER (barCell c) 0 ∅ 0 ∗ cred (tallyAt (barCell c) () 2)))
/-- What it holds when the kernel ends. -/
def bodyPost (D : Inp F) (c : Dev nD) : sProp 𝕄 :=
  iprop(wh c mX (D.x c) ∗ wh c mK (D.k c) ∗ wh c mV (D.v c) ∗ wh c mCtx (ctxV D c 3) ∗ wh c mWqb (wqb D c) ∗ wh c mWob (wob D c) ∗ OW c [] ∗ atPos ER (barCell c) (0 + 1) ∅ 0 ∗ done c 28 ∗ wh c mWqf (wqf D c) ∗ ((wqS c).loc (c : Thread nD τ) ↦[(wqS c).set]{fullShare} D.wq c) ∗ done c 29 ∗ wh c mWof (wof D c) ∗ ((woS c).loc (c : Thread nD τ) ↦[(woS c).set]{fullShare} D.wo c) ∗ done c 3 ∗ ow c acc00 fullShare (a0 D c) ∗ done c 6 ∗ ow c rva0 fullShare (a0 D (prv c)) ∗ done c 9 ∗ ow c acc01 fullShare (b0 D c) ∗ done c 12 ∗ ow c rvb0 fullShare (b0 D (nxt c)) ∗ done c 4 ∗ ow c acc10 fullShare (a1 D c) ∗ done c 7 ∗ ow c rva1 fullShare (a1 D (prv c)) ∗ done c 10 ∗ ow c acc21 fullShare (b2 D c) ∗ done c 13 ∗ ow c rvb1 fullShare (b2 D (nxt c)) ∗ done c 5 ∗ ow c acc30 fullShare (a3 D c) ∗ done c 8 ∗ ow c rva2 fullShare (a3 D (prv c)) ∗ done c 11 ∗ ow c acc31 fullShare (b3 D c) ∗ done c 14 ∗ ow c rvb2 fullShare (b3 D (nxt c)) ∗ ow c acc20 sh3 (a2 D c) ∗ ow c acc11 sh3 (b1 D c) ∗ done c 15 ∗ ow c acc20 sh1 (a2 D c) ∗ done c 21 ∗ done c 16 ∗ ow c acc11 sh1 (b1 D c) ∗ done c 22 ∗ ow c aglb fullShare (flat (b1 D (prv c))) ∗ done c 17 ∗ ow c acc20 sh2 (a2 D c) ∗ done c 23 ∗ ow c agra fullShare (flat (a2 D (nxt c))) ∗ done c 18 ∗ ow c acc11 sh2 (b1 D c) ∗ done c 24 ∗ ow c agla fullShare.right (flat (a2 D (prv c))) ∗ ow c agrb fullShare.right (flat (b1 D (nxt c))) ∗ done c 19 ∗ ow c agla sh1 (flat (a2 D (prv c))) ∗ done c 25 ∗ ow c dg2a fullShare (flat (a2 D (prv (prv c)))) ∗ done c 20 ∗ ow c agrb sh1 (flat (b1 D (nxt c))) ∗ done c 26 ∗ ow c dg2b fullShare (flat (b1 D (nxt (nxt c)))) ∗ done c 27 ∗ pt c main_v6 fullShare (outV D) ∗ pt c cc0_scratch10 fullShare (outV D))

set_option maxHeartbeats 4000000
theorem run_bind (c : Dev nD) {α β : Type} (p : Prog (TpuEff nD τ sig (Elt F) Λ₀ .tc) α) (k : α → Prog (TpuEff nD τ sig (Elt F) Λ₀ .tc) β) (Q : β → sProp 𝕄) :
    run c (p >>= k) Q = run c p (fun a => run c (k a) Q) := wp_bind _ _ _ p k Q

/-- The kernel on device `c`: everything it is handed it gives back, the result is written, and it owes nothing. -/
theorem body_run (D : Inp F) (K : GSem nD τ sig → ℕ) (c : Dev nD) {Q : PUnit → sProp 𝕄} :
    iprop(invs D K ∗ levAts L lv ∗ bodyPre D c)
      ⊢ iprop((bodyPost D c -∗ Q ⟨⟩) -∗ run c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22) Q) := by
  unfold bodyPre bodyPost
  iintro ⟨#HI, #HL, Hx, Hk, Hv, Hwq, Hwo, Ho, S0, S1, S2, S3, Hctx, Hst, Hwqf, Hwof, Hwqb, Hwob, C3, C9, C4, C10, C5, C11, C15, C16, C17, C18, C19, C20, C27, C28, C29, P6, P7, P8, P12, P13, P14, P21, P22, P23, P24, P25, P26, HO, GR, GL, TL, TR, RL, RR, BAR⟩ Hret
  rw [cc0_body_eq_skeleton]; unfold cc0_body_skel
  rw [run_bind]
  iapply (p1 D K c) $$ [C28 Hwq Hwqf C29 Hwo Hwof HO TL GL RL TR GR RR BAR]
  · isplitr; · iexact HI
    isplitr; · iexact HL
    isplitl [C28]; · iexact C28
    isplitl [Hwq]; · iexact Hwq
    isplitl [Hwqf]; · iexact Hwqf
    isplitl [C29]; · iexact C29
    isplitl [Hwo]; · iexact Hwo
    isplitl [Hwof]; · iexact Hwof
    isplitl [HO]; · iexact HO
    isplitl [TL]; · iexact TL
    isplitl [GL]; · iexact GL
    isplitl [RL]; · iexact RL
    isplitl [TR]; · iexact TR
    isplitl [GR]; · iexact GR
    isplitl [RR]; · iexact RR
    iexact BAR
  iintro ⟨HO, P29, BZ, RA0, RA1, RA2, PG9, PG10, PG13, r6, r7, r8, r21, r22, r25, RB0, RB1, RB2, PG11, PG12, PG14, r12, r13, r14, r23, r24, r26, Z28, Hwqf, Hwq⟩
  dsimp only
  rw [run_bind]
  iapply (p2 D K c) $$ [Hwqb Hx]
  · isplitl [Hwqb]; · iexact Hwqb
    iexact Hx
  iintro ⟨Hx, Hwqb⟩
  dsimp only
  rw [run_bind]
  iapply (p3 D c)
  dsimp only
  rw [run_bind]
  iapply (p4 D K c) $$ [Hk Hv Hctx]
  · isplitl [Hk]; · iexact Hk
    isplitl [Hv]; · iexact Hv
    iexact Hctx
  iintro ⟨Hk, Hv, Hctx⟩
  dsimp only
  rw [run_bind]
  iapply (p5 D K c) $$ [Hctx Hk Hv]
  · isplitl [Hctx]; · iexact Hctx
    isplitl [Hk]; · iexact Hk
    iexact Hv
  iintro ⟨Hk, Hv, Hctx⟩
  rw [run_bind]
  iapply (p6 D K c) $$ [Hctx Hk Hv]
  · isplitl [Hctx]; · iexact Hctx
    isplitl [Hk]; · iexact Hk
    iexact Hv
  iintro ⟨Hk, Hv, Hctx⟩
  rw [run_bind]
  iapply (p7 D K c) $$ [Hctx Hk Hv]
  · isplitl [Hctx]; · iexact Hctx
    isplitl [Hk]; · iexact Hk
    iexact Hv
  iintro ⟨Hk, Hv, Hctx⟩
  rw [run_bind]
  iapply (p8 D K c) $$ [Hctx P29 HO Hwob S0 C3 RA0 r6]
  · isplitr; · iexact HI
    isplitr; · iexact HL
    isplitl [Hctx]; · iexact Hctx
    isplitl [P29]; · iexact P29
    isplitl [HO]; · iexact HO
    isplitl [Hwob]; · iexact Hwob
    isplitl [S0]; · iexact S0
    isplitl [C3]; · iexact C3
    isplitl [RA0]; · iexact RA0
    iexact r6
  iintro ⟨Hctx, Hwob, HO, Z29, Hwof, Hwo, A01, P3⟩
  rw [run_bind]
  iapply (p9 D K c) $$ [C9 HO A01 RB0 r12 Hx Hwqb]
  · isplitr; · iexact HI
    isplitr; · iexact HL
    isplitl [C9]; · iexact C9
    isplitl [HO]; · iexact HO
    isplitl [A01]; · iexact A01
    isplitl [RB0]; · iexact RB0
    isplitl [r12]; · iexact r12
    isplitl [Hx]; · iexact Hx
    iexact Hwqb
  iintro ⟨Hx, Hwqb, HO, P9⟩
  dsimp only
  rw [run_bind]
  iapply (p10 D K c) $$ [Hk]
  · iexact Hk
  iintro Hk
  dsimp only
  rw [run_bind]
  iapply (p11 D K c) $$ [Hv Hctx Hk]
  · isplitl [Hv]; · iexact Hv
    isplitl [Hctx]; · iexact Hctx
    iexact Hk
  iintro ⟨Hk, Hv, Hctx⟩
  dsimp only
  rw [run_bind]
  iapply (p12 D K c) $$ [Hv Hctx Hk]
  · isplitl [Hv]; · iexact Hv
    isplitl [Hctx]; · iexact Hctx
    iexact Hk
  iintro ⟨Hk, Hv, Hctx⟩
  dsimp only
  rw [run_bind]
  iapply (p13 D K c) $$ [Hv Hctx Hk]
  · isplitl [Hv]; · iexact Hv
    isplitl [Hctx]; · iexact Hctx
    iexact Hk
  iintro ⟨Hk, Hv, Hctx⟩
  dsimp only
  rw [run_bind]
  iapply (p14 D K c) $$ [Hv Hctx Hk Hwob S1]
  · isplitl [Hv]; · iexact Hv
    isplitl [Hctx]; · iexact Hctx
    isplitl [Hk]; · iexact Hk
    isplitl [Hwob]; · iexact Hwob
    iexact S1
  iintro ⟨Hk, Hv, S1, Hctx, Hwob⟩
  rw [run_bind]
  iapply (p15 D K c) $$ [S1 P3 HO P6]
  · isplitr; · iexact HI
    isplitr; · iexact HL
    isplitl [S1]; · iexact S1
    isplitl [P3]; · iexact P3
    isplitl [HO]; · iexact HO
    iexact P6
  iintro ⟨HO, A10, A11, Z3, A00, Z6, V0⟩
  rw [run_bind]
  iapply (p16 D K c) $$ [C4 HO A10 RA1 r7 Hx Hwqb]
  · isplitr; · iexact HI
    isplitr; · iexact HL
    isplitl [C4]; · iexact C4
    isplitl [HO]; · iexact HO
    isplitl [A10]; · iexact A10
    isplitl [RA1]; · iexact RA1
    isplitl [r7]; · iexact r7
    isplitl [Hx]; · iexact Hx
    iexact Hwqb
  iintro ⟨Hx, Hwqb, HO, P4⟩
  dsimp only
  rw [run_bind]
  iapply (p17 D K c) $$ [Hk]
  · iexact Hk
  iintro Hk
  dsimp only
  rw [run_bind]
  iapply (p18 D K c) $$ [Hv Hctx Hk]
  · isplitl [Hv]; · iexact Hv
    isplitl [Hctx]; · iexact Hctx
    iexact Hk
  iintro ⟨Hk, Hv, Hctx⟩
  dsimp only
  rw [run_bind]
  iapply (p19 D K c) $$ [Hv Hctx Hk]
  · isplitl [Hv]; · iexact Hv
    isplitl [Hctx]; · iexact Hctx
    iexact Hk
  iintro ⟨Hk, Hv, Hctx⟩
  dsimp only
  rw [run_bind]
  iapply (p20 D K c) $$ [Hv Hctx Hk]
  · isplitl [Hv]; · iexact Hv
    isplitl [Hctx]; · iexact Hctx
    iexact Hk
  iintro ⟨Hk, Hv, Hctx⟩
  dsimp only
  rw [run_bind]
  iapply (p21 D K c) $$ [Hv Hctx Hk Hwob S2]
  · isplitl [Hv]; · iexact Hv
    isplitl [Hctx]; · iexact Hctx
    isplitl [Hk]; · iexact Hk
    isplitl [Hwob]; · iexact Hwob
    iexact S2
  iintro ⟨Hk, Hv, S2, Hctx, Hwob⟩
  rw [run_bind]
  iapply (p22 D K c) $$ [S2 P9 HO P12]
  · isplitr; · iexact HI
    isplitr; · iexact HL
    isplitl [S2]; · iexact S2
    isplitl [P9]; · iexact P9
    isplitl [HO]; · iexact HO
    iexact P12
  iintro ⟨HO, A20, A21, Z9, A01, Z12, W0⟩
  rw [run_bind]
  iapply (p23 D K c) $$ [C10 HO A21 RB1 r13 Hx Hwqb]
  · isplitr; · iexact HI
    isplitr; · iexact HL
    isplitl [C10]; · iexact C10
    isplitl [HO]; · iexact HO
    isplitl [A21]; · iexact A21
    isplitl [RB1]; · iexact RB1
    isplitl [r13]; · iexact r13
    isplitl [Hx]; · iexact Hx
    iexact Hwqb
  iintro ⟨Hx, Hwqb, HO, P10⟩
  dsimp only
  rw [run_bind]
  iapply (p24 D K c) $$ [Hk]
  · iexact Hk
  iintro Hk
  dsimp only
  rw [run_bind]
  iapply (p25 D K c) $$ [Hv Hctx Hk]
  · isplitl [Hv]; · iexact Hv
    isplitl [Hctx]; · iexact Hctx
    iexact Hk
  iintro ⟨Hk, Hv, Hctx⟩
  dsimp only
  rw [run_bind]
  iapply (p26 D K c) $$ [Hv Hctx Hk]
  · isplitl [Hv]; · iexact Hv
    isplitl [Hctx]; · iexact Hctx
    iexact Hk
  iintro ⟨Hk, Hv, Hctx⟩
  dsimp only
  rw [run_bind]
  iapply (p27 D K c) $$ [Hv Hctx Hk]
  · isplitl [Hv]; · iexact Hv
    isplitl [Hctx]; · iexact Hctx
    iexact Hk
  iintro ⟨Hk, Hv, Hctx⟩
  dsimp only
  rw [run_bind]
  iapply (p28 D K c) $$ [Hv Hctx Hk Hwob S3]
  · isplitl [Hv]; · iexact Hv
    isplitl [Hctx]; · iexact Hctx
    isplitl [Hk]; · iexact Hk
    isplitl [Hwob]; · iexact Hwob
    iexact S3
  iintro ⟨Hk, Hv, S3, Hctx, Hwob⟩
  rw [run_bind]
  iapply (p29 D K c) $$ [S3 P4 HO P7]
  · isplitr; · iexact HI
    isplitr; · iexact HL
    isplitl [S3]; · iexact S3
    isplitl [P4]; · iexact P4
    isplitl [HO]; · iexact HO
    iexact P7
  iintro ⟨HO, A30, A31, Z4, A10, Z7, V1⟩
  rw [run_bind]
  iapply (p30 D K c) $$ [C5 HO A30 RA2 r8 P10 P13 A31]
  · isplitr; · iexact HI
    isplitr; · iexact HL
    isplitl [C5]; · iexact C5
    isplitl [HO]; · iexact HO
    isplitl [A30]; · iexact A30
    isplitl [RA2]; · iexact RA2
    isplitl [r8]; · iexact r8
    isplitl [P10]; · iexact P10
    isplitl [P13]; · iexact P13
    iexact A31
  iintro ⟨HO, A31, P5, Z10, A21, Z13, W1⟩
  rw [run_bind]
  iapply (p31 D K c) $$ [W1 A31 C11 HO RB2 r14 P5]
  · isplitr; · iexact HI
    isplitr; · iexact HL
    isplitl [W1]; · iexact W1
    isplitl [A31]; · iexact A31
    isplitl [C11]; · iexact C11
    isplitl [HO]; · iexact HO
    isplitl [RB2]; · iexact RB2
    isplitl [r14]; · iexact r14
    iexact P5
  iintro ⟨HO, W1, P11, Z5, A30⟩
  rw [run_bind]
  iapply (p32 D K c) $$ [P8 HO A20 P11]
  · isplitr; · iexact HI
    isplitr; · iexact HL
    isplitl [P8]; · iexact P8
    isplitl [HO]; · iexact HO
    isplitl [A20]; · iexact A20
    iexact P11
  iintro ⟨HO, A20, Z8, V2, Z11, A31⟩
  rw [run_bind]
  iapply (p33 D K c) $$ [P14 HO A11 A20 C15 PG9 r21 C16 PG10 r22]
  · isplitr; · iexact HI
    isplitr; · iexact HL
    isplitl [P14]; · iexact P14
    isplitl [HO]; · iexact HO
    isplitl [A11]; · iexact A11
    isplitl [A20]; · iexact A20
    isplitl [C15]; · iexact C15
    isplitl [PG9]; · iexact PG9
    isplitl [r21]; · iexact r21
    isplitl [C16]; · iexact C16
    isplitl [PG10]; · iexact PG10
    iexact r22
  iintro ⟨HO, Z14, W2, A20m, A20r, P15, A11m, A11r, P16⟩
  rw [run_bind]
  iapply (p34 D K c) $$ [C17 HO A20m PG11 r23 C18 A11m PG12 r24 A20r Hst]
  · isplitr; · iexact HI
    isplitr; · iexact HL
    isplitl [C17]; · iexact C17
    isplitl [HO]; · iexact HO
    isplitl [A20m]; · iexact A20m
    isplitl [PG11]; · iexact PG11
    isplitl [r23]; · iexact r23
    isplitl [C18]; · iexact C18
    isplitl [A11m]; · iexact A11m
    isplitl [PG12]; · iexact PG12
    isplitl [r24]; · iexact r24
    isplitl [A20r]; · iexact A20r
    iexact Hst
  iintro ⟨Hst, HO, A20r, P17, P18⟩
  rw [run_bind]
  iapply (p35 D K c) $$ [A11r Hst P15 HO P21 P16]
  · isplitr; · iexact HI
    isplitr; · iexact HL
    isplitl [A11r]; · iexact A11r
    isplitl [Hst]; · iexact Hst
    isplitl [P15]; · iexact P15
    isplitl [HO]; · iexact HO
    isplitl [P21]; · iexact P21
    iexact P16
  iintro ⟨Hst, HO, A11r, Z15, A20l, Z21, G9, Z16, A11l⟩
  rw [run_bind]
  iapply (p36 D K c) $$ [P22 HO P17 P23 P18 P24]
  · isplitr; · iexact HI
    isplitr; · iexact HL
    isplitl [P22]; · iexact P22
    isplitl [HO]; · iexact HO
    isplitl [P17]; · iexact P17
    isplitl [P23]; · iexact P23
    isplitl [P18]; · iexact P18
    iexact P24
  iintro ⟨HO, Z22, G10, Z17, A20m, Z23, G11, Z18, A11m, Z24, G12⟩
  rw [run_bind]
  iapply (p37 D K c) $$ [G9 C19 HO PG13 r25 G12 C20 PG14 r26 Hst G11 G10]
  · isplitr; · iexact HI
    isplitr; · iexact HL
    isplitl [G9]; · iexact G9
    isplitl [C19]; · iexact C19
    isplitl [HO]; · iexact HO
    isplitl [PG13]; · iexact PG13
    isplitl [r25]; · iexact r25
    isplitl [G12]; · iexact G12
    isplitl [C20]; · iexact C20
    isplitl [PG14]; · iexact PG14
    isplitl [r26]; · iexact r26
    isplitl [Hst]; · iexact Hst
    isplitl [G11]; · iexact G11
    iexact G10
  iintro %z ⟨Hst, HO, G10, G11, G9r, P19, G12r, P20⟩
  dsimp only
  rw [run_bind]
  iapply (p38 D K c z) $$ [Hst P19 HO P25 P20 P26]
  · isplitr; · iexact HI
    isplitr; · iexact HL
    isplitl [Hst]; · iexact Hst
    isplitl [P19]; · iexact P19
    isplitl [HO]; · iexact HO
    isplitl [P25]; · iexact P25
    isplitl [P20]; · iexact P20
    iexact P26
  iintro ⟨Hst, HO, Z19, G9l, Z25, G13, Z20, G12l, Z26, G14⟩
  simp only [Prog.lift, Prog.bind_op, Prog.bind_ret, Prog.pure_eq_ret]
  iapply (ld_stage D c) $$ Hst
  iintro Hst
  iapply (st_stage D c (nxt c) 1 (off5_1 c) rfl) $$ Hst
  iintro Hst
  ihave Hst := (stage_end D c _ (by revert c; decide)) $$ Hst
  iapply (copy_out D K c rfl) $$ [C27 Hst Ho]
  · isplitr; · iexact HI
    isplitl [C27]; · iexact C27
    isplitl [Hst]; · iexact Hst
    iexact Ho
  iintro P27
  iapply (step_wait D K c 27 [] (by decide) (by decide) rfl rfl) $$ [P27 HO]
  · isplitr; · iexact HI
    isplitr; · iexact HL
    isplitl [P27]; · iexact P27
    iexact HO
  iintro ⟨HO, Z27, Hp⟩
  ihave Hp := (eqE (show (payD D c (27 : DmaSem sig).val : sProp 𝕄) = iprop(pt c main_v6 fullShare (outV D) ∗ pt c cc0_scratch10 fullShare (outV D)) from rfl)) $$ Hp
  icases Hp with ⟨Ho, Hst⟩
  rw [run, wp_ret]; imodintro
  iapply Hret
  isplitl [Hx]; · iexact Hx
  isplitl [Hk]; · iexact Hk
  isplitl [Hv]; · iexact Hv
  isplitl [Hctx]; · iexact Hctx
  isplitl [Hwqb]; · iexact Hwqb
  isplitl [Hwob]; · iexact Hwob
  isplitl [HO]; · iexact HO
  isplitl [BZ]; · iexact BZ
  isplitl [Z28]; · iexact Z28
  isplitl [Hwqf]; · iexact Hwqf
  isplitl [Hwq]; · iexact Hwq
  isplitl [Z29]; · iexact Z29
  isplitl [Hwof]; · iexact Hwof
  isplitl [Hwo]; · iexact Hwo
  isplitl [Z3]; · iexact Z3
  isplitl [A00]; · iexact A00
  isplitl [Z6]; · iexact Z6
  isplitl [V0]; · iexact V0
  isplitl [Z9]; · iexact Z9
  isplitl [A01]; · iexact A01
  isplitl [Z12]; · iexact Z12
  isplitl [W0]; · iexact W0
  isplitl [Z4]; · iexact Z4
  isplitl [A10]; · iexact A10
  isplitl [Z7]; · iexact Z7
  isplitl [V1]; · iexact V1
  isplitl [Z10]; · iexact Z10
  isplitl [A21]; · iexact A21
  isplitl [Z13]; · iexact Z13
  isplitl [W1]; · iexact W1
  isplitl [Z5]; · iexact Z5
  isplitl [A30]; · iexact A30
  isplitl [Z8]; · iexact Z8
  isplitl [V2]; · iexact V2
  isplitl [Z11]; · iexact Z11
  isplitl [A31]; · iexact A31
  isplitl [Z14]; · iexact Z14
  isplitl [W2]; · iexact W2
  isplitl [A20r]; · iexact A20r
  isplitl [A11r]; · iexact A11r
  isplitl [Z15]; · iexact Z15
  isplitl [A20l]; · iexact A20l
  isplitl [Z21]; · iexact Z21
  isplitl [Z16]; · iexact Z16
  isplitl [A11l]; · iexact A11l
  isplitl [Z22]; · iexact Z22
  isplitl [G10]; · iexact G10
  isplitl [Z17]; · iexact Z17
  isplitl [A20m]; · iexact A20m
  isplitl [Z23]; · iexact Z23
  isplitl [G11]; · iexact G11
  isplitl [Z18]; · iexact Z18
  isplitl [A11m]; · iexact A11m
  isplitl [Z24]; · iexact Z24
  isplitl [G9r]; · iexact G9r
  isplitl [G12r]; · iexact G12r
  isplitl [Z19]; · iexact Z19
  isplitl [G9l]; · iexact G9l
  isplitl [Z25]; · iexact Z25
  isplitl [G13]; · iexact G13
  isplitl [Z20]; · iexact Z20
  isplitl [G12l]; · iexact G12l
  isplitl [Z26]; · iexact Z26
  isplitl [G14]; · iexact G14
  isplitl [Z27]; · iexact Z27
  isplitl [Ho]; · iexact Ho
  iexact Hst

end Cert.KernelIdeal.Hand

end
-- ==== Proof.Ends.lean ====
/-
  The two ends of the kernel's run on one device: from the buffers, positions, tokens and credits the launch deals out to
  what the run starts from, and from what the run ends with back to whole buffers and closed cells.
-/
module

public import proofs.«01_k».proof.Proof.Body

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel's own fifteen buffers, each whole, holding anything. -/
def scratch (c : Dev nD) : sProp 𝕄 :=
  iprop((∃ f, pt c cc0_scratch0 fullShare f) ∗ (∃ f, pt c cc0_scratch1 fullShare f) ∗ (∃ f, pt c cc0_scratch2 fullShare f) ∗ (∃ f, pt c cc0_scratch3 fullShare f) ∗ (∃ f, pt c cc0_scratch4 fullShare f) ∗ (∃ f, pt c cc0_scratch5 fullShare f) ∗ (∃ f, pt c cc0_scratch6 fullShare f) ∗ (∃ f, pt c cc0_scratch7 fullShare f) ∗ (∃ f, pt c cc0_scratch8 fullShare f) ∗ (∃ f, pt c cc0_scratch9 fullShare f) ∗ (∃ f, pt c cc0_scratch10 fullShare f) ∗ (∃ f, pt c cc0_scratch11 fullShare f) ∗ (∃ f, pt c cc0_scratch12 fullShare f) ∗ (∃ f, pt c cc0_scratch13 fullShare f) ∗ (∃ f, pt c cc0_scratch14 fullShare f))
/-- The positions on a device's own cells, which are open. -/
def ats (c : Dev nD) : sProp 𝕄 :=
  iprop((atPos ER (cell c 3) 0 ∅ 0 ∗ reached ER (cell c 3) 0) ∗ (atPos ER (cell c 4) 0 ∅ 0 ∗ reached ER (cell c 4) 0) ∗ (atPos ER (cell c 5) 0 ∅ 0 ∗ reached ER (cell c 5) 0) ∗ (atPos ER (cell c 6) 0 ∅ 0 ∗ reached ER (cell c 6) 0) ∗ (atPos ER (cell c 7) 0 ∅ 0 ∗ reached ER (cell c 7) 0) ∗ (atPos ER (cell c 8) 0 ∅ 0 ∗ reached ER (cell c 8) 0) ∗ (atPos ER (cell c 9) 0 ∅ 0 ∗ reached ER (cell c 9) 0) ∗ (atPos ER (cell c 10) 0 ∅ 0 ∗ reached ER (cell c 10) 0) ∗ (atPos ER (cell c 11) 0 ∅ 0 ∗ reached ER (cell c 11) 0) ∗ (atPos ER (cell c 12) 0 ∅ 0 ∗ reached ER (cell c 12) 0) ∗ (atPos ER (cell c 13) 0 ∅ 0 ∗ reached ER (cell c 13) 0) ∗ (atPos ER (cell c 14) 0 ∅ 0 ∗ reached ER (cell c 14) 0) ∗ (atPos ER (cell c 15) 0 ∅ 0 ∗ reached ER (cell c 15) 0) ∗ (atPos ER (cell c 16) 0 ∅ 0 ∗ reached ER (cell c 16) 0) ∗ (atPos ER (cell c 17) 0 ∅ 0 ∗ reached ER (cell c 17) 0) ∗ (atPos ER (cell c 18) 0 ∅ 0 ∗ reached ER (cell c 18) 0) ∗ (atPos ER (cell c 19) 0 ∅ 0 ∗ reached ER (cell c 19) 0) ∗ (atPos ER (cell c 20) 0 ∅ 0 ∗ reached ER (cell c 20) 0) ∗ (atPos ER (cell c 21) 0 ∅ 0 ∗ reached ER (cell c 21) 0) ∗ (atPos ER (cell c 22) 0 ∅ 0 ∗ reached ER (cell c 22) 0) ∗ (atPos ER (cell c 23) 0 ∅ 0 ∗ reached ER (cell c 23) 0) ∗ (atPos ER (cell c 24) 0 ∅ 0 ∗ reached ER (cell c 24) 0) ∗ (atPos ER (cell c 25) 0 ∅ 0 ∗ reached ER (cell c 25) 0) ∗ (atPos ER (cell c 26) 0 ∅ 0 ∗ reached ER (cell c 26) 0) ∗ (atPos ER (cell c 27) 0 ∅ 0 ∗ reached ER (cell c 27) 0) ∗ (atPos ER (cell c 28) 0 ∅ 0 ∗ reached ER (cell c 28) 0) ∗ (atPos ER (cell c 29) 0 ∅ 0 ∗ reached ER (cell c 29) 0))
/-- The tokens of the payments into device `p`'s cells that its left neighbour makes. -/
def tokA (p : Dev nD) : sProp 𝕄 :=
  iprop(dutyTok ER (barCell p) 0 true ∗ dutyTok ER (cell p 6) 0 false ∗ dutyTok ER (cell p 7) 0 false ∗ dutyTok ER (cell p 8) 0 false ∗ dutyTok ER (cell p 21) 0 false ∗ dutyTok ER (cell p 22) 0 false ∗ dutyTok ER (cell p 25) 0 false)
/-- Those its right neighbour makes. -/
def tokB (p : Dev nD) : sProp 𝕄 :=
  iprop(dutyTok ER (barCell p) 0 false ∗ dutyTok ER (cell p 12) 0 false ∗ dutyTok ER (cell p 13) 0 false ∗ dutyTok ER (cell p 14) 0 false ∗ dutyTok ER (cell p 23) 0 false ∗ dutyTok ER (cell p 24) 0 false ∗ dutyTok ER (cell p 26) 0 false)
/-- Those it makes itself. -/
def tokC (p : Dev nD) : sProp 𝕄 :=
  iprop(dutyTok ER (cell p 3) 0 false ∗ dutyTok ER (cell p 4) 0 false ∗ dutyTok ER (cell p 5) 0 false ∗ dutyTok ER (cell p 9) 0 false ∗ dutyTok ER (cell p 10) 0 false ∗ dutyTok ER (cell p 11) 0 false ∗ dutyTok ER (cell p 15) 0 false ∗ dutyTok ER (cell p 16) 0 false ∗ dutyTok ER (cell p 17) 0 false ∗ dutyTok ER (cell p 18) 0 false ∗ dutyTok ER (cell p 19) 0 false ∗ dutyTok ER (cell p 20) 0 false ∗ dutyTok ER (cell p 27) 0 false ∗ dutyTok ER (cell p 28) 0 false ∗ dutyTok ER (cell p 29) 0 false)
/-- The credit a device waits with. -/
def crs (c : Dev nD) : sProp 𝕄 :=
  iprop(cred (tallyAt (barCell c) () 2) ∗ cred (tallyAt (cell c 6) () (amtD ((6 : DmaSem sig) : Fin 30).val)) ∗ cred (tallyAt (cell c 7) () (amtD ((7 : DmaSem sig) : Fin 30).val)) ∗ cred (tallyAt (cell c 8) () (amtD ((8 : DmaSem sig) : Fin 30).val)) ∗ cred (tallyAt (cell c 12) () (amtD ((12 : DmaSem sig) : Fin 30).val)) ∗ cred (tallyAt (cell c 13) () (amtD ((13 : DmaSem sig) : Fin 30).val)) ∗ cred (tallyAt (cell c 14) () (amtD ((14 : DmaSem sig) : Fin 30).val)) ∗ cred (tallyAt (cell c 21) () (amtD ((21 : DmaSem sig) : Fin 30).val)) ∗ cred (tallyAt (cell c 22) () (amtD ((22 : DmaSem sig) : Fin 30).val)) ∗ cred (tallyAt (cell c 23) () (amtD ((23 : DmaSem sig) : Fin 30).val)) ∗ cred (tallyAt (cell c 24) () (amtD ((24 : DmaSem sig) : Fin 30).val)) ∗ cred (tallyAt (cell c 25) () (amtD ((25 : DmaSem sig) : Fin 30).val)) ∗ cred (tallyAt (cell c 26) () (amtD ((26 : DmaSem sig) : Fin 30).val)))
/-- All of a device's cells past their round. -/
def dones (c : Dev nD) : sProp 𝕄 :=
  iprop(done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ done c 18 ∗ done c 19 ∗ done c 20 ∗ done c 21 ∗ done c 22 ∗ done c 23 ∗ done c 24 ∗ done c 25 ∗ done c 26 ∗ done c 27 ∗ done c 28 ∗ done c 29)
/-- The staged operands. -/
def stagedP (D : Inp F) (c : Dev nD) : sProp 𝕄 :=
  iprop(pt c cc0_stg0_0 fullShare (D.x c) ∗ pt c cc0_stg1_0 fullShare (D.k c) ∗ pt c cc0_stg2_0 fullShare (D.v c))

set_option maxHeartbeats 4000000 in
/-- What the launch deals out is what the run starts from. -/
theorem pre_intro (D : Inp F) (c : Dev nD) :
    iprop(stagedP D c ∗ (((wqS c).loc (c : Thread nD τ) ↦[(wqS c).set]{fullShare} D.wq c) ∗ ((woS c).loc (c : Thread nD τ) ↦[(woS c).set]{fullShare} D.wo c)
        ∗ ∃ f, pt c main_v6 fullShare f) ∗ scratch c ∗ ats c ∗ tokA (nxt c) ∗ tokB (prv c) ∗ tokC c ∗ crs c
        ∗ reached ER (barCell (prv c)) 0 ∗ reached ER (barCell (nxt c)) 0 ∗ atPos ER (barCell c) 0 ∅ 0
        ∗ OW c [0, 1, 2, 3, 4, 5, 6, 7, 8, 9, 10, 11, 12, 13])
      ⊢ (bodyPre D c : sProp 𝕄) := by
  unfold stagedP scratch ats tokA tokB tokC crs
  iintro ⟨⟨Hx, Hk, Hv⟩, ⟨Hwq, Hwo, Ho⟩, ⟨X0, X1, X2, X3, X4, X5, X6, X7, X8, X9, X10, X11, X12, X13, X14⟩, ⟨⟨A3, #R3⟩, ⟨A4, #R4⟩, ⟨A5, #R5⟩, ⟨A6, #R6⟩, ⟨A7, #R7⟩, ⟨A8, #R8⟩, ⟨A9, #R9⟩, ⟨A10, #R10⟩, ⟨A11, #R11⟩, ⟨A12, #R12⟩, ⟨A13, #R13⟩, ⟨A14, #R14⟩, ⟨A15, #R15⟩, ⟨A16, #R16⟩, ⟨A17, #R17⟩, ⟨A18, #R18⟩, ⟨A19, #R19⟩, ⟨A20, #R20⟩, ⟨A21, #R21⟩, ⟨A22, #R22⟩, ⟨A23, #R23⟩, ⟨A24, #R24⟩, ⟨A25, #R25⟩, ⟨A26, #R26⟩, ⟨A27, #R27⟩, ⟨A28, #R28⟩, ⟨A29, #R29⟩⟩, ⟨TR, T6, T7, T8, T21, T22, T25⟩, ⟨TL, T12, T13, T14, T23, T24, T26⟩, ⟨T3, T4, T5, T9, T10, T11, T15, T16, T17, T18, T19, T20, T27, T28, T29⟩, ⟨CB, C6, C7, C8, C12, C13, C14, C21, C22, C23, C24, C25, C26⟩, #RL, #RR, HB, HO⟩
  ihave Hacc := (acc_split (F := F) c) $$ X0
  icases Hacc with ⟨a00, a01, a10, a11, a20, a21, a30, a31⟩
  ihave S0 := (slot_join c 0 rfl rfl rfl inb_S4x256x1024_S1x256x1024_0_0_0 inb_S4x256x1024_S1x256x512_0_0_0 inb_S4x256x1024_S1x256x512_0_0_512) $$ [a00 a01]
  · isplitl [a00]; · iexact a00
    iexact a01
  ihave S1 := (slot_join c 1 rfl rfl rfl inb_S4x256x1024_S1x256x1024_1_0_0 inb_S4x256x1024_S1x256x512_1_0_0 inb_S4x256x1024_S1x256x512_1_0_512) $$ [a10 a11]
  · isplitl [a10]; · iexact a10
    iexact a11
  ihave S2 := (slot_join c 2 rfl rfl rfl inb_S4x256x1024_S1x256x1024_2_0_0 inb_S4x256x1024_S1x256x512_2_0_0 inb_S4x256x1024_S1x256x512_2_0_512) $$ [a20 a21]
  · isplitl [a20]; · iexact a20
    iexact a21
  ihave S3 := (slot_join c 3 rfl rfl rfl inb_S4x256x1024_S1x256x1024_3_0_0 inb_S4x256x1024_S1x256x512_3_0_0 inb_S4x256x1024_S1x256x512_3_0_512) $$ [a30 a31]
  · isplitl [a30]; · iexact a30
    iexact a31
  ihave Hva := (rva_split (F := F) c) $$ X1
  icases Hva with ⟨va0, va1, va2⟩
  ihave Hvb := (rvb_split (F := F) c) $$ X2
  icases Hvb with ⟨vb0, vb1, vb2⟩
  ihave g3 := (eqE (av_whole (F := F) c cc0_scratch3).symm) $$ X3
  ihave g4 := (eqE (av_whole (F := F) c cc0_scratch4).symm) $$ X4
  ihave g5 := (eqE (av_whole (F := F) c cc0_scratch5).symm) $$ X5
  ihave g6 := (eqE (av_whole (F := F) c cc0_scratch6).symm) $$ X6
  ihave g7 := (eqE (av_whole (F := F) c cc0_scratch7).symm) $$ X7
  ihave g8 := (eqE (av_whole (F := F) c cc0_scratch8).symm) $$ X8
  ihave Hctx := (eqE (av_whole (F := F) c cc0_scratch9).symm) $$ X9
  ihave Hst := (stage_start D c) $$ X10
  ihave Hwqf := (eqE (av_whole (F := F) c cc0_scratch11).symm) $$ X11
  ihave Hwof := (eqE (av_whole (F := F) c cc0_scratch12).symm) $$ X12
  ihave Hwqb := (eqE (av_whole (F := F) c cc0_scratch13).symm) $$ X13
  ihave Hwob := (eqE (av_whole (F := F) c cc0_scratch14).symm) $$ X14
  ihave Ho := (eqE (av_whole (F := F) c main_v6).symm) $$ Ho
  ihave Hx := (eqE (ow_whole (F := F) c cc0_stg0_0 fullShare (D.x c)).symm) $$ Hx
  ihave Hk := (eqE (ow_whole (F := F) c cc0_stg1_0 fullShare (D.k c)).symm) $$ Hk
  ihave Hv := (eqE (ow_whole (F := F) c cc0_stg2_0 fullShare (D.v c)).symm) $$ Hv
  unfold bodyPre giveR giveL chan lchan pend
  isplitl [Hx]; · iexact Hx
  isplitl [Hk]; · iexact Hk
  isplitl [Hv]; · iexact Hv
  isplitl [Hwq]; · iexact Hwq
  isplitl [Hwo]; · iexact Hwo
  isplitl [Ho]; · iexact Ho
  isplitl [S0]; · iexact S0
  isplitl [S1]; · iexact S1
  isplitl [S2]; · iexact S2
  isplitl [S3]; · iexact S3
  isplitl [Hctx]; · iexact Hctx
  isplitl [Hst]; · iexact Hst
  isplitl [Hwqf]; · iexact Hwqf
  isplitl [Hwof]; · iexact Hwof
  isplitl [Hwqb]; · iexact Hwqb
  isplitl [Hwob]; · iexact Hwob
  isplitl [A3 T3 T6]
  · isplitl [A3]; · iexact A3
    isplitl [T3]; · iexact T3
    isplitr; · iexact R3
    iexact T6
  isplitl [A9 T9 T12]
  · isplitl [A9]; · iexact A9
    isplitl [T9]; · iexact T9
    isplitr; · iexact R9
    iexact T12
  isplitl [A4 T4 T7]
  · isplitl [A4]; · iexact A4
    isplitl [T4]; · iexact T4
    isplitr; · iexact R4
    iexact T7
  isplitl [A10 T10 T13]
  · isplitl [A10]; · iexact A10
    isplitl [T10]; · iexact T10
    isplitr; · iexact R10
    iexact T13
  isplitl [A5 T5 T8]
  · isplitl [A5]; · iexact A5
    isplitl [T5]; · iexact T5
    isplitr; · iexact R5
    iexact T8
  isplitl [A11 T11 T14]
  · isplitl [A11]; · iexact A11
    isplitl [T11]; · iexact T11
    isplitr; · iexact R11
    iexact T14
  isplitl [A15 T15 T21]
  · isplitl [A15]; · iexact A15
    isplitl [T15]; · iexact T15
    isplitr; · iexact R15
    iexact T21
  isplitl [A16 T16 T22]
  · isplitl [A16]; · iexact A16
    isplitl [T16]; · iexact T16
    isplitr; · iexact R16
    iexact T22
  isplitl [A17 T17 T23]
  · isplitl [A17]; · iexact A17
    isplitl [T17]; · iexact T17
    isplitr; · iexact R17
    iexact T23
  isplitl [A18 T18 T24]
  · isplitl [A18]; · iexact A18
    isplitl [T18]; · iexact T18
    isplitr; · iexact R18
    iexact T24
  isplitl [A19 T19 T25]
  · isplitl [A19]; · iexact A19
    isplitl [T19]; · iexact T19
    isplitr; · iexact R19
    iexact T25
  isplitl [A20 T20 T26]
  · isplitl [A20]; · iexact A20
    isplitl [T20]; · iexact T20
    isplitr; · iexact R20
    iexact T26
  isplitl [A27 T27]
  · isplitl [A27]; · iexact A27
    isplitl [T27]; · iexact T27
    iexact R27
  isplitl [A28 T28]
  · isplitl [A28]; · iexact A28
    isplitl [T28]; · iexact T28
    iexact R28
  isplitl [A29 T29]
  · isplitl [A29]; · iexact A29
    isplitl [T29]; · iexact T29
    iexact R29
  isplitl [A6 C6]
  · isplitl [A6]; · iexact A6
    iexact C6
  isplitl [A7 C7]
  · isplitl [A7]; · iexact A7
    iexact C7
  isplitl [A8 C8]
  · isplitl [A8]; · iexact A8
    iexact C8
  isplitl [A12 C12]
  · isplitl [A12]; · iexact A12
    iexact C12
  isplitl [A13 C13]
  · isplitl [A13]; · iexact A13
    iexact C13
  isplitl [A14 C14]
  · isplitl [A14]; · iexact A14
    iexact C14
  isplitl [A21 C21]
  · isplitl [A21]; · iexact A21
    iexact C21
  isplitl [A22 C22]
  · isplitl [A22]; · iexact A22
    iexact C22
  isplitl [A23 C23]
  · isplitl [A23]; · iexact A23
    iexact C23
  isplitl [A24 C24]
  · isplitl [A24]; · iexact A24
    iexact C24
  isplitl [A25 C25]
  · isplitl [A25]; · iexact A25
    iexact C25
  isplitl [A26 C26]
  · isplitl [A26]; · iexact A26
    iexact C26
  isplitl [HO]; · iexact HO
  isplitl [vb0 vb1 vb2 g5 g6 g8]
  · isplitl [vb0]; · iexact vb0
    isplitl [vb1]; · iexact vb1
    isplitl [vb2]; · iexact vb2
    isplitl [g5]; · iexact g5
    isplitl [g6]; · iexact g6
    isplitl [g8]; · iexact g8
    isplitr; · iexact R12
    isplitr; · iexact R13
    isplitr; · iexact R14
    isplitr; · iexact R23
    isplitr; · iexact R24
    iexact R26
  isplitl [va0 va1 va2 g3 g4 g7]
  · isplitl [va0]; · iexact va0
    isplitl [va1]; · iexact va1
    isplitl [va2]; · iexact va2
    isplitl [g3]; · iexact g3
    isplitl [g4]; · iexact g4
    isplitl [g7]; · iexact g7
    isplitr; · iexact R6
    isplitr; · iexact R7
    isplitr; · iexact R8
    isplitr; · iexact R21
    isplitr; · iexact R22
    iexact R25
  isplitl [TL]; · iexact TL
  isplitl [TR]; · iexact TR
  isplitr; · iexact RL
  isplitr; · iexact RR
  isplitl [HB]; · iexact HB
  iexact CB

set_option maxHeartbeats 4000000 in
/-- What the run ends with is every buffer whole again, the result written, and every cell past its round. -/
theorem post_elim (D : Inp F) (c : Dev nD) :
    bodyPost D c ⊢ (iprop(stagedP D c ∗ (((wqS c).loc (c : Thread nD τ) ↦[(wqS c).set]{fullShare} D.wq c) ∗ ((woS c).loc (c : Thread nD τ) ↦[(woS c).set]{fullShare} D.wo c)
        ∗ pt c main_v6 fullShare (outV D)) ∗ scratch c ∗ dones c ∗ atPos ER (barCell c) (0 + 1) ∅ 0 ∗ OW c []) : sProp 𝕄) := by
  unfold bodyPost
  iintro ⟨Hx, Hk, Hv, Hctx, Hwqb, Hwob, HO, BZ, Z28, Hwqf, Hwq, Z29, Hwof, Hwo, Z3, a00, Z6, va0, Z9, a01, Z12, vb0, Z4, a10, Z7, va1, Z10, a21, Z13, vb1, Z5, a30, Z8, va2, Z11, a31, Z14, vb2, A20r, A11r, Z15, A20l, Z21, Z16, A11l, Z22, g4, Z17, A20m, Z23, g5, Z18, A11m, Z24, G3r, G6r, Z19, G3l, Z25, g7, Z20, G6l, Z26, g8, Z27, Ho, X10⟩
  ihave A20x := (ow_unshare c acc20 fullShare.right sh2 sh3 (PosShare.mem_left_op_right fullShare.right) _) $$ [A20m A20r]
  · isplitl [A20m]; · iexact A20m
    iexact A20r
  ihave A20y := (ow_unshare c acc20 fullShare sh1 fullShare.right (PosShare.mem_left_op_right fullShare) _) $$ [A20l A20x]
  · isplitl [A20l]; · iexact A20l
    iexact A20x
  ihave A11x := (ow_unshare c acc11 fullShare.right sh2 sh3 (PosShare.mem_left_op_right fullShare.right) _) $$ [A11m A11r]
  · isplitl [A11m]; · iexact A11m
    iexact A11r
  ihave A11y := (ow_unshare c acc11 fullShare sh1 fullShare.right (PosShare.mem_left_op_right fullShare) _) $$ [A11l A11x]
  · isplitl [A11l]; · iexact A11l
    iexact A11x
  ihave G3y := (ow_unshare c agla fullShare sh1 fullShare.right (PosShare.mem_left_op_right fullShare) _) $$ [G3l G3r]
  · isplitl [G3l]; · iexact G3l
    iexact G3r
  ihave G6y := (ow_unshare c agrb fullShare sh1 fullShare.right (PosShare.mem_left_op_right fullShare) _) $$ [G6l G6r]
  · isplitl [G6l]; · iexact G6l
    iexact G6r
  ihave a00 := (av_of_ow c acc00 _) $$ a00
  ihave a01 := (av_of_ow c acc01 _) $$ a01
  ihave a10 := (av_of_ow c acc10 _) $$ a10
  ihave a11 := (av_of_ow c acc11 _) $$ A11y
  ihave a20 := (av_of_ow c acc20 _) $$ A20y
  ihave a21 := (av_of_ow c acc21 _) $$ a21
  ihave a30 := (av_of_ow c acc30 _) $$ a30
  ihave a31 := (av_of_ow c acc31 _) $$ a31
  ihave va0 := (av_of_ow c rva0 _) $$ va0
  ihave va1 := (av_of_ow c rva1 _) $$ va1
  ihave va2 := (av_of_ow c rva2 _) $$ va2
  ihave vb0 := (av_of_ow c rvb0 _) $$ vb0
  ihave vb1 := (av_of_ow c rvb1 _) $$ vb1
  ihave vb2 := (av_of_ow c rvb2 _) $$ vb2
  ihave g3 := (av_of_ow c agla _) $$ G3y
  ihave g4 := (av_of_ow c aglb _) $$ g4
  ihave g5 := (av_of_ow c agra _) $$ g5
  ihave g6 := (av_of_ow c agrb _) $$ G6y
  ihave g7 := (av_of_ow c dg2a _) $$ g7
  ihave g8 := (av_of_ow c dg2b _) $$ g8
  ihave X9 := (av_of_ow c (View.whole cc0_scratch9) _) $$ Hctx
  ihave X11 := (av_of_ow c (View.whole cc0_scratch11) _) $$ Hwqf
  ihave X12 := (av_of_ow c (View.whole cc0_scratch12) _) $$ Hwof
  ihave X13 := (av_of_ow c (View.whole cc0_scratch13) _) $$ Hwqb
  ihave X14 := (av_of_ow c (View.whole cc0_scratch14) _) $$ Hwob
  ihave X3 := (eqE (av_whole (F := F) c cc0_scratch3)) $$ g3
  ihave X4 := (eqE (av_whole (F := F) c cc0_scratch4)) $$ g4
  ihave X5 := (eqE (av_whole (F := F) c cc0_scratch5)) $$ g5
  ihave X6 := (eqE (av_whole (F := F) c cc0_scratch6)) $$ g6
  ihave X7 := (eqE (av_whole (F := F) c cc0_scratch7)) $$ g7
  ihave X8 := (eqE (av_whole (F := F) c cc0_scratch8)) $$ g8
  ihave X9 := (eqE (av_whole (F := F) c cc0_scratch9)) $$ X9
  ihave X11 := (eqE (av_whole (F := F) c cc0_scratch11)) $$ X11
  ihave X12 := (eqE (av_whole (F := F) c cc0_scratch12)) $$ X12
  ihave X13 := (eqE (av_whole (F := F) c cc0_scratch13)) $$ X13
  ihave X14 := (eqE (av_whole (F := F) c cc0_scratch14)) $$ X14
  ihave X0 := (acc_join (F := F) c) $$ [a00 a01 a10 a11 a20 a21 a30 a31]
  · isplitl [a00]; · iexact a00
    isplitl [a01]; · iexact a01
    isplitl [a10]; · iexact a10
    isplitl [a11]; · iexact a11
    isplitl [a20]; · iexact a20
    isplitl [a21]; · iexact a21
    isplitl [a30]; · iexact a30
    iexact a31
  ihave X1 := (rva_join (F := F) c) $$ [va0 va1 va2]
  · isplitl [va0]; · iexact va0
    isplitl [va1]; · iexact va1
    iexact va2
  ihave X2 := (rvb_join (F := F) c) $$ [vb0 vb1 vb2]
  · isplitl [vb0]; · iexact vb0
    isplitl [vb1]; · iexact vb1
    iexact vb2
  ihave Hx := (eqE (ow_whole (F := F) c cc0_stg0_0 fullShare (D.x c))) $$ Hx
  ihave Hk := (eqE (ow_whole (F := F) c cc0_stg1_0 fullShare (D.k c))) $$ Hk
  ihave Hv := (eqE (ow_whole (F := F) c cc0_stg2_0 fullShare (D.v c))) $$ Hv
  unfold stagedP scratch dones
  isplitl [Hx Hk Hv]
  · isplitl [Hx]; · iexact Hx
    isplitl [Hk]; · iexact Hk
    iexact Hv
  isplitl [Hwq Hwo Ho]
  · isplitl [Hwq]; · iexact Hwq
    isplitl [Hwo]; · iexact Hwo
    iexact Ho
  isplitl [X0 X1 X2 X3 X4 X5 X6 X7 X8 X9 X10 X11 X12 X13 X14]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexists _; iexact X10
    isplitl [X11]; · iexact X11
    isplitl [X12]; · iexact X12
    isplitl [X13]; · iexact X13
    iexact X14
  isplitl [Z3 Z4 Z5 Z6 Z7 Z8 Z9 Z10 Z11 Z12 Z13 Z14 Z15 Z16 Z17 Z18 Z19 Z20 Z21 Z22 Z23 Z24 Z25 Z26 Z27 Z28 Z29]
  · isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    isplitl [Z27]; · iexact Z27
    isplitl [Z28]; · iexact Z28
    iexact Z29
  isplitl [BZ]; · iexact BZ
  iexact HO

end Cert.KernelIdeal.Hand

end
-- ==== Proof.Cells.lean ====
/-
  The cells at the launch: all the devices' cells opened and closed together, the payments' tokens dealt to the devices that
  pay, and each device's share of the launch credit.
-/
module

public import proofs.«01_k».proof.Proof.Ends

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The twenty-seven cells a device opens. -/
def osem (j : Fin 27) : SemLoc sig := .dma (⟨j.val + 3, by omega⟩ : Fin 30)

/-- Updates of a family are one update of the family. -/
theorem deal_fupd {I : Type} [DecidableEq I] (s : Finset I) (Φ : I → sProp (MT nD τ sig Unit (Elt F) ℕ UU ℕ)) :
    bigSep s (fun i => iprop(|={Set.univ}=> Φ i)) ⊢ (|={Set.univ}=> bigSep s Φ : sProp 𝕄) := by
  induction s using Finset.induction_on with
  | empty =>
    rw [bigSep_empty, bigSep_empty]
    iintro H; imodintro; iexact H
  | insert i s hi ih =>
    rw [bigSep_insert hi, bigSep_insert hi]
    show iprop((|={Set.univ}=> Φ i) ∗ bigSep s fun i => iprop(|={Set.univ}=> Φ i)) ⊢ (iprop(|={Set.univ}=> (Φ i ∗ bigSep s Φ)) : sProp 𝕄)
    iintro ⟨H, Hs⟩
    ihave Hs := ih $$ Hs
    imod H; imod Hs; imodintro
    isplitl [H] <;> iassumption

/-- Two families are one of pairs. -/
theorem fam_pair {I : Type} [Fintype I] [DecidableEq I] {Φ Ψ : I → sProp (MT nD τ sig Unit (Elt F) ℕ UU ℕ)} :
    iprop(bigSep Finset.univ Φ ∗ bigSep Finset.univ Ψ) ⊢ (bigSep Finset.univ fun i => iprop(Φ i ∗ Ψ i) : sProp 𝕄) := by
  rw [bigSep_sep']
theorem fam_unpair {I : Type} [Fintype I] [DecidableEq I] {Φ Ψ : I → sProp (MT nD τ sig Unit (Elt F) ℕ UU ℕ)} :
    (bigSep Finset.univ fun i => iprop(Φ i ∗ Ψ i) : sProp 𝕄) ⊢ iprop(bigSep Finset.univ Φ ∗ bigSep Finset.univ Ψ) := by
  rw [bigSep_sep']

/-- A family over the cells a device opens, one by one. -/
theorem bigSep_27 (Φ : Fin 27 → sProp (MT nD τ sig Unit (Elt F) ℕ UU ℕ)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26) := by
  rw [bigSep_univ_eq_bigSepL [0, 1, 2, 3, 4, 5, 6, 7, 8, 9, 10, 11, 12, 13, 14, 15, 16, 17, 18, 19, 20, 21, 22, 23, 24, 25, 26] (by decide) (by decide)]
  rfl

theorem inv_osem (D : Inp F) (K : GSem nD τ sig → ℕ) (c : Dev nD) (j : Fin 27) :
    invs D K ⊢ (cellInv ER (Rd D) (K ((c : Thread nD τ), osem j)) ((c : Thread nD τ), osem j) : sProp 𝕄) :=
  inv_cell D K c (⟨j.val + 3, by omega⟩ : Fin 30) (by show 3 ≤ j.val + 3; omega)

/-- All the cells of a device opened. -/
theorem open_all (D : Inp F) (K : GSem nD τ sig → ℕ) (c : Dev nD) :
    iprop(invs D K ∗ (bigSep Finset.univ fun j : Fin 27 => openTok ER ((c : Thread nD τ), osem j))
        ∗ bigSep Finset.univ fun j : Fin 27 => semVal ((c : Thread nD τ), osem j) 0)
      ⊢ (|={Set.univ}=> ats c : sProp 𝕄) := by
  have h1 (j : Fin 27) : iprop(invs D K ∗ (openTok ER ((c : Thread nD τ), osem j) ∗ semVal ((c : Thread nD τ), osem j) 0))
      ⊢ (|={Set.univ}=> (atPos ER ((c : Thread nD τ), osem j) 0 ∅ 0 ∗ reached ER ((c : Thread nD τ), osem j) 0) : sProp 𝕄) := by
    iintro ⟨#HI, Ho, Hs⟩
    iapply (Rounds.cell_open ER (Rd D) (g := ((c : Thread nD τ), osem j)) (Set.mem_univ (K ((c : Thread nD τ), osem j))))
    isplitr; · iapply (inv_osem D K c j); iexact HI
    isplitl [Ho] <;> iassumption
  have h2 : bigSep Finset.univ (fun j : Fin 27 => (iprop(atPos ER ((c : Thread nD τ), osem j) 0 ∅ 0 ∗ reached ER ((c : Thread nD τ), osem j) 0) : sProp 𝕄)) = ats c := by
    rw [bigSep_27]; rfl
  rw [← h2]
  refine BIBase.Entails.trans ?_ (deal_fupd _ _)
  iintro ⟨#HI, Ho, Hs⟩
  iapply (bigSep_with_persistent (R := invs D K)
    (Φ := fun j : Fin 27 => iprop(openTok ER ((c : Thread nD τ), osem j) ∗ semVal ((c : Thread nD τ), osem j) 0)) fun j _ => h1 j)
  isplitr; · iexact HI
  iapply fam_pair
  isplitl [Ho] <;> iassumption

/-- All the cells of a device closed. -/
theorem close_all (D : Inp F) (K : GSem nD τ sig → ℕ) (c : Dev nD) :
    iprop(invs D K ∗ dones c ∗ atPos ER (barCell c) (0 + 1) ∅ 0)
      ⊢ (|={Set.univ}=> ((bigSep Finset.univ fun j : Fin 27 => semVal ((c : Thread nD τ), osem j) 0) ∗ semVal (barCell c) 0) : sProp 𝕄) := by
  have h1 (j : Fin 27) : iprop(invs D K ∗ atPos ER ((c : Thread nD τ), osem j) (0 + 1) ∅ 0)
      ⊢ (|={Set.univ}=> semVal ((c : Thread nD τ), osem j) 0 : sProp 𝕄) := by
    iintro ⟨#HI, Ha⟩
    iapply (Rounds.cell_close ER (Rd D) (Set.mem_univ (K ((c : Thread nD τ), osem j))) id (duties_later D ((c : Thread nD τ), osem j)))
    isplitr; · iapply (inv_osem D K c j); iexact HI
    iexact Ha
  have h2 : bigSep Finset.univ (fun j : Fin 27 => (atPos ER ((c : Thread nD τ), osem j) (0 + 1) ∅ 0 : sProp 𝕄)) = dones c := by
    rw [bigSep_27]; rfl
  have h3 : iprop(invs D K ∗ dones c) ⊢ (|={Set.univ}=> bigSep Finset.univ fun j : Fin 27 => semVal ((c : Thread nD τ), osem j) 0 : sProp 𝕄) := by
    rw [← h2]
    refine BIBase.Entails.trans ?_ (deal_fupd _ _)
    exact bigSep_with_persistent (R := invs D K) fun j _ => h1 j
  iintro ⟨#HI, HD, HB⟩
  imod (Rounds.cell_close ER (Rd D) (Set.mem_univ (K (barCell c))) id (duties_later D (barCell c))) $$ [HB] with Hb
  · isplitr; · iapply (inv_bar D K c); iexact HI
    iexact HB
  ihave Hs := h3 $$ [HD]
  · isplitr; · iexact HI
    iexact HD
  imod Hs; imodintro
  isplitl [Hs] <;> iassumption

/-! ## The cells and the tokens as sets -/

theorem osem_inj : Function.Injective osem := by decide
theorem osem_ne_bar : ∀ j : Fin 27, osem j ≠ .reg barrier0 := by decide

def barEmb : Dev nD ↪ GSem nD τ sig := ⟨fun c => barCell c, fun _ _ h => congrArg (fun g : GSem nD τ sig => g.1.1) h⟩
def ownEmb : Dev nD × Fin 27 ↪ GSem nD τ sig :=
  ⟨fun p => ((p.1 : Thread nD τ), osem p.2), fun _ _ h =>
    Prod.ext (congrArg (fun g : GSem nD τ sig => g.1.1) h) (osem_inj (congrArg Prod.snd h))⟩
/-- The barrier cells, and the cells the devices open. -/
abbrev barCells : Finset (GSem nD τ sig) := Finset.univ.map barEmb
abbrev ownCells : Finset (GSem nD τ sig) := Finset.univ.map ownEmb
theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- Where a payment goes on its device, and which of the cell's it is. -/
def payAt (j : Fin 29) : SemLoc sig × Bool := if h : j.val < 27 then (osem ⟨j.val, h⟩, false) else (.reg barrier0, decide (j.val = 28))
theorem payAt_inj : Function.Injective payAt := by decide
/-- Every payment's token. -/
def payToks : Finset (GSem nD τ sig × ℕ × Bool) :=
  Finset.univ.map ⟨fun p : Dev nD × Fin 29 => (((p.1 : Thread nD τ), (payAt p.2).1), 0, (payAt p.2).2), fun _ _ h =>
    Prod.ext (congrArg (fun t : GSem nD τ sig × ℕ × Bool => t.1.1.1) h)
      (payAt_inj (Prod.ext (congrArg (fun t : GSem nD τ sig × ℕ × Bool => t.1.2) h) (congrArg (fun t : GSem nD τ sig × ℕ × Bool => t.2.2) h)))⟩

/-- Every cell's invariant, from the two families. -/
theorem invs_intro (D : Inp F) (κ : GSem nD τ sig → ℕ) :
    (bigSep (barCells ∪ ownCells) fun g => (cellInv ER (Rd D) (κ g) g : sProp 𝕄)) ⊢ invs D κ := by
  have hm (p : Dev nD × Fin 28) : kc p ∈ (barCells ∪ ownCells : Finset (GSem nD τ sig)) := by
    rcases p with ⟨c, j⟩
    by_cases h : j.val < 27
    · refine Finset.mem_union_right _ ?_
      have e : kc (c, j) = ownEmb (c, ⟨j.val, h⟩) := Prod.ext rfl (by show csem j = osem ⟨j.val, h⟩; unfold csem osem; rw [dif_pos h])
      rw [e]; exact Finset.mem_map_of_mem ownEmb (Finset.mem_univ _)
    · refine Finset.mem_union_left _ ?_
      have e : kc (c, j) = barEmb c := Prod.ext rfl (by show csem j = .reg barrier0; unfold csem; rw [dif_neg h])
      rw [e]; exact Finset.mem_map_of_mem barEmb (Finset.mem_univ _)
  unfold invs
  refine BIBase.Entails.trans ?_ (bigSep_with_persistent (R := (bigSep (barCells ∪ ownCells) fun g => (cellInv ER (Rd D) (κ g) g : sProp 𝕄)))
    (Φ := fun _ : Dev nD × Fin 28 => (BI.emp : sProp 𝕄)) fun p _ => ?_)
  · rw [BI.bigSep_emp_const]
    iintro #H
    isplitr; · iexact H
    iempintro
  · iintro ⟨#H, -⟩
    iapply (show (bigSep (barCells ∪ ownCells) fun g => (cellInv ER (Rd D) (κ g) g : sProp 𝕄)) ⊢ (cellInv ER (Rd D) (κ (kc p)) (kc p) : sProp 𝕄) from
      bigSep_elim (Φ := fun g => (cellInv ER (Rd D) (κ g) g : sProp 𝕄)) (hm p)); iexact H

/-- A family over a device's payments, one by one: those from its left, those from its right, its own. -/
theorem bigSep_29 (Φ : Fin 29 → sProp (MT nD τ sig Unit (Elt F) ℕ UU ℕ)) : bigSep Finset.univ Φ
    = iprop(Φ 28 ∗ Φ 3 ∗ Φ 4 ∗ Φ 5 ∗ Φ 18 ∗ Φ 19 ∗ Φ 22 ∗ Φ 27 ∗ Φ 9 ∗ Φ 10 ∗ Φ 11 ∗ Φ 20 ∗ Φ 21 ∗ Φ 23 ∗ Φ 0 ∗ Φ 1 ∗ Φ 2 ∗ Φ 6 ∗ Φ 7 ∗ Φ 8 ∗ Φ 12 ∗ Φ 13 ∗ Φ 14 ∗ Φ 15 ∗ Φ 16 ∗ Φ 17 ∗ Φ 24 ∗ Φ 25 ∗ Φ 26) := by
  rw [bigSep_univ_eq_bigSepL [28, 3, 4, 5, 18, 19, 22, 27, 9, 10, 11, 20, 21, 23, 0, 1, 2, 6, 7, 8, 12, 13, 14, 15, 16, 17, 24, 25, 26] (by decide) (by decide)]
  rfl

theorem bigSep_13 (Φ : Fin 13 → sProp (MT nD τ sig Unit (Elt F) ℕ UU ℕ)) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [bigSep_univ_eq_bigSepL [0, 1, 2, 3, 4, 5, 6, 7, 8, 9, 10, 11, 12] (by decide) (by decide)]
  rfl

theorem toks_dev (p : Dev nD) : (bigSep Finset.univ fun j : Fin 29 => (dutyTok ER ((p : Thread nD τ), (payAt j).1) 0 (payAt j).2 : sProp 𝕄))
    ⊢ iprop(tokA p ∗ tokB p ∗ tokC p) := by
  rw [bigSep_29]
  unfold tokA tokB tokC
  iintro ⟨T28, T3, T4, T5, T18, T19, T22, T27, T9, T10, T11, T20, T21, T23, T0, T1, T2, T6, T7, T8, T12, T13, T14, T15, T16, T17, T24, T25, T26⟩
  isplitl [T28 T3 T4 T5 T18 T19 T22]
  · isplitl [T28]; · iexact T28
    isplitl [T3]; · iexact T3
    isplitl [T4]; · iexact T4
    isplitl [T5]; · iexact T5
    isplitl [T18]; · iexact T18
    isplitl [T19]; · iexact T19
    iexact T22
  isplitl [T27 T9 T10 T11 T20 T21 T23]
  · isplitl [T27]; · iexact T27
    isplitl [T9]; · iexact T9
    isplitl [T10]; · iexact T10
    isplitl [T11]; · iexact T11
    isplitl [T20]; · iexact T20
    isplitl [T21]; · iexact T21
    iexact T23
  isplitl [T0]; · iexact T0
  isplitl [T1]; · iexact T1
  isplitl [T2]; · iexact T2
  isplitl [T6]; · iexact T6
  isplitl [T7]; · iexact T7
  isplitl [T8]; · iexact T8
  isplitl [T12]; · iexact T12
  isplitl [T13]; · iexact T13
  isplitl [T14]; · iexact T14
  isplitl [T15]; · iexact T15
  isplitl [T16]; · iexact T16
  isplitl [T17]; · iexact T17
  isplitl [T24]; · iexact T24
  isplitl [T25]; · iexact T25
  iexact T26

/-- The tokens, at the devices that pay. -/
theorem toks_deal : bigSep payToks (fun x => (dutyTok ER x.1 x.2.1 x.2.2 : sProp 𝕄))
    ⊢ bigSep Finset.univ fun c : Dev nD => iprop(tokA (nxt c) ∗ tokB (prv c) ∗ tokC c) := by
  have h : bigSep payToks (fun x => (dutyTok ER x.1 x.2.1 x.2.2 : sProp 𝕄))
      ⊢ bigSep Finset.univ fun c : Dev nD => iprop(tokA c ∗ tokB c ∗ tokC c) := by
    unfold payToks; rw [bigSep_map, bigSep_univ_prod]
    exact bigSep_mono fun p _ => toks_dev p
  refine h.trans ?_
  rw [bigSep_sep', bigSep_sep', bigSep_sep', bigSep_sep', bigSep_univ_equiv ring (fun c : Dev nD => (tokA c : sProp 𝕄)),
    bigSep_univ_equiv ring.symm (fun c : Dev nD => (tokB c : sProp 𝕄))]
  exact BI.Entails.refl _

/-! ## The launch credit -/

/-- What device `d` owes a cell, counted. -/
theorem owedL_count (d c : Dev nD) (sm : SemLoc sig) : ∀ l : List (Fin 14), owedL d l ((c : Thread nD τ), sm) ()
    = (l.countP fun k => decide (nb d (tgtR k) = c ∧ tgtS k = sm)) * amtS sm
  | [] => by unfold owedL; simp
  | k :: l => by
    unfold owedL
    rw [Pi.add_apply, Finsupp.add_apply, owedL_count d c sm l, tallyAt_apply, List.countP_cons, Nat.add_mul]
    congr 1
    by_cases h : nb d (tgtR k) = c ∧ tgtS k = sm
    · rw [if_pos ⟨Prod.ext (congrArg (fun d : Dev nD => (d : Thread nD τ)) h.1).symm h.2.symm, rfl⟩, if_pos (decide_eq_true h), Nat.one_mul, h.2]
    · rw [if_neg (fun e => h ⟨(congrArg (fun g : GSem nD τ sig => g.1.1) e.1).symm, (congrArg Prod.snd e.1).symm⟩),
        if_neg (by simpa using h), Nat.zero_mul]

theorem credit_count (c : Dev nD) (sm : SemLoc sig) : launchCredit (Pipeline.owing O₀) 0 ((c : Thread nD τ), sm) ()
    = (∑ d : Dev nD, [0, 1, 2, 3, 4, 5, 6, 7, 8, 9, 10, 11, 12, 13].countP fun k => decide (nb d (tgtR k) = c ∧ tgtS k = sm)) * amtS sm := by
  rw [Pipeline.launchCredit_owing, Finset.sum_mul]
  exact Finset.sum_congr rfl fun d _ => owedL_count d c sm _

theorem credit_at (c : Dev nD) (sm : SemLoc sig) (n : ℕ)
    (h : (∑ d : Dev nD, [0, 1, 2, 3, 4, 5, 6, 7, 8, 9, 10, 11, 12, 13].countP fun k => decide (nb d (tgtR k) = c ∧ tgtS k = sm)) = n) :
    tallyOn ((c : Thread nD τ), sm) (launchCredit (Pipeline.owing O₀) 0 ((c : Thread nD τ), sm))
      = (tallyAt ((c : Thread nD τ), sm) () (n * amtS sm) : CellTallies nD τ sig Unit) := by
  unfold tallyAt
  refine congrArg _ (Finsupp.ext fun u => ?_); cases u
  rw [credit_count, Finsupp.single_eq_same, h]

theorem count_bar : ∀ c : Dev nD, (∑ d : Dev nD, [0, 1, 2, 3, 4, 5, 6, 7, 8, 9, 10, 11, 12, 13].countP fun k => decide (nb d (tgtR k) = c ∧ tgtS k = .reg barrier0)) = 2 := by
  decide +kernel
theorem count_recv : ∀ (c : Dev nD) (n : DmaSem sig), n ∈ ([6, 7, 8, 12, 13, 14, 21, 22, 23, 24, 25, 26] : List (DmaSem sig)) →
    (∑ d : Dev nD, [0, 1, 2, 3, 4, 5, 6, 7, 8, 9, 10, 11, 12, 13].countP fun k => decide (nb d (tgtR k) = c ∧ tgtS k = .dma n)) = 1 := by
  decide +kernel

theorem cred_recv (c : Dev nD) (n : DmaSem sig) (h : n ∈ ([6, 7, 8, 12, 13, 14, 21, 22, 23, 24, 25, 26] : List (DmaSem sig))) :
    (cred (tallyOn ((c : Thread nD τ), .dma n) (launchCredit (Pipeline.owing O₀) 0 ((c : Thread nD τ), .dma n))) : sProp 𝕄)
      = cred (tallyAt (cell c n) () (amtD n.val)) := by
  rw [credit_at c (.dma n) 1 (count_recv c n h), Nat.one_mul]; rfl

/-- The cells a device waits on. -/
def waitSem (j : Fin 13) : SemLoc sig := match j with
  | 0 => .reg barrier0
  | 1 => .dma 6
  | 2 => .dma 7
  | 3 => .dma 8
  | 4 => .dma 12
  | 5 => .dma 13
  | 6 => .dma 14
  | 7 => .dma 21
  | 8 => .dma 22
  | 9 => .dma 23
  | 10 => .dma 24
  | 11 => .dma 25
  | 12 => .dma 26
theorem waitSem_inj : Function.Injective waitSem := by decide

theorem credits (c : Dev nD) : (Pipeline.launchCred O₀ c : sProp 𝕄) ⊢ crs c := by
  unfold Pipeline.launchCred
  refine BIBase.Entails.trans (bigSep_subset (Finset.subset_univ (Finset.univ.map ⟨waitSem, waitSem_inj⟩))) ?_
  rw [bigSep_map, bigSep_13]
  unfold crs
  iintro ⟨H0, H6, H7, H8, H12, H13, H14, H21, H22, H23, H24, H25, H26⟩
  isplitl [H0]
  · iapply (eqE (show (cred (tallyOn ((c : Thread nD τ), .reg barrier0) (launchCredit (Pipeline.owing O₀) 0 ((c : Thread nD τ), .reg barrier0))) : sProp 𝕄)
      = cred (tallyAt (barCell c) () 2) by rw [credit_at c (.reg barrier0) 2 (count_bar c)]; rfl)); iexact H0
  isplitl [H6]; · iapply (eqE (cred_recv (F := F) c 6 (by decide))); iexact H6
  isplitl [H7]; · iapply (eqE (cred_recv (F := F) c 7 (by decide))); iexact H7
  isplitl [H8]; · iapply (eqE (cred_recv (F := F) c 8 (by decide))); iexact H8
  isplitl [H12]; · iapply (eqE (cred_recv (F := F) c 12 (by decide))); iexact H12
  isplitl [H13]; · iapply (eqE (cred_recv (F := F) c 13 (by decide))); iexact H13
  isplitl [H14]; · iapply (eqE (cred_recv (F := F) c 14 (by decide))); iexact H14
  isplitl [H21]; · iapply (eqE (cred_recv (F := F) c 21 (by decide))); iexact H21
  isplitl [H22]; · iapply (eqE (cred_recv (F := F) c 22 (by decide))); iexact H22
  isplitl [H23]; · iapply (eqE (cred_recv (F := F) c 23 (by decide))); iexact H23
  isplitl [H24]; · iapply (eqE (cred_recv (F := F) c 24 (by decide))); iexact H24
  isplitl [H25]; · iapply (eqE (cred_recv (F := F) c 25 (by decide))); iexact H25
  iapply (eqE (cred_recv (F := F) c 26 (by decide))); iexact H26

end Cert.KernelIdeal.Hand

end
-- ==== Proof.Point.lean ====
/-
  The kernel as one step of the program: what the host leaves it, what it leaves the host, and the run between.
-/
module

public import proofs.«01_k».proof.Proof.Cells
public import proofs.«01_k».proof.Proof.Gen.KernelIdeal.Launch
public import proofs.«01_k».proof.Proof.Gen.KernelIdeal.Points
public import Idealize.ShloMosaic.Lib.Pipeline.RegionTalk

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat)

variable (m : (ℓ : Loc nD τ sig) → Buf (Elt F) ℓ)

/-! ## The buffers before, at and after the kernel -/

/-- A device's buffers at the start, when the kernel is entered, and when it has ended. -/
def V₀ (c : Dev nD) : Valuation τ sig (Elt F) := fun b => m (c, b)
def V₁ (c : Dev nD) : Valuation τ sig (Elt F) := StableHlo.after hostOps0 (V₀ m c)
/-- What the kernel works on. -/
def inp : Inp F where
  x c := V₁ m c (Proc.devRef .tc main_v1)
  k c := V₁ m c (Proc.devRef .tc main_v3)
  v c := V₁ m c (Proc.devRef .tc main_v5)
  wq c := V₁ m c (Proc.devRef .tc main_arg1)
  wo c := V₁ m c (Proc.devRef .tc main_arg4)
def V₂ (c : Dev nD) : Valuation τ sig (Elt F) := Function.update (V₁ m c) (Proc.devRef .tc main_v6) (outV (inp m))

theorem V₂_out (c : Dev nD) : V₂ m c (Proc.devRef .tc main_v6) = outV (inp m) := Function.update_self ..
theorem V₂_ne (c : Dev nD) (b : DevRef τ sig) (h : b ≠ Proc.devRef .tc main_v6) : V₂ m c b = V₁ m c b := Function.update_of_ne h ..

/-- The buffers the kernel reaches without staging them. -/
def direct : Finset (DevRef τ sig) := {Proc.devRef .tc main_arg1, Proc.devRef .tc main_arg4, Proc.devRef .tc main_v6}
theorem direct_eq (c : Dev nD) (W : Valuation τ sig (Elt F)) : (StableHlo.held (c : Thread nD τ) direct W : sProp 𝕄)
    = iprop(pt c main_arg1 fullShare (W (Proc.devRef .tc main_arg1)) ∗ pt c main_arg4 fullShare (W (Proc.devRef .tc main_arg4))
      ∗ pt c main_v6 fullShare (W (Proc.devRef .tc main_v6))) := by
  unfold StableHlo.held
  rw [bigSep_eq_bigSepL_of_eq [Proc.devRef .tc main_arg1, Proc.devRef .tc main_arg4, Proc.devRef .tc main_v6] (by decide) (by decide)]
  rfl

/-! ## The proof data of the kernel's one point -/

/-- What a device brings to the kernel beside buffers. -/
def Xk (c : Dev nD) : sProp 𝕄 :=
  iprop(∃ K, invs (inp m) K ∗ levAts L lv ∗ ats c ∗ tokA (nxt c) ∗ tokB (prv c) ∗ tokC c ∗ crs c
    ∗ reached ER (barCell (prv c)) 0 ∗ reached ER (barCell (nxt c)) 0 ∗ atPos ER (barCell c) 0 ∅ 0)
def PhiA (c : Dev nD) : sProp 𝕄 :=
  iprop(Pipeline.scopedRest spec0 c ∗ (∃ r, prngReg c r) ∗ StableHlo.held (c : Thread nD τ) direct (V₁ m c) ∗ Xk m c)
def PhiB (c : Dev nD) : sProp 𝕄 :=
  iprop(Pipeline.scopedRest spec0 c ∗ (∃ r, prngReg c r) ∗ StableHlo.held (c : Thread nD τ) direct (V₂ m c) ∗ Pipeline.ownSems0 osem c ∗ semVal (barCell c) 0)

def dats (_ : Fin 1) (c : Dev nD) : Dat τ (Elt F) Unit ℕ UU ℕ cfg0 c where
  A w := V₁ m c (Proc.devRef .tc (Pipeline.arrRef spec0 w))
  after w _ := match w with
    | ⟨0, _⟩ => (inp m).x c
    | ⟨1, _⟩ => (inp m).k c
    | ⟨2, _⟩ => (inp m).v c
  Φ t := match t with
    | ⟨0, _⟩ => PhiA m c
    | ⟨_ + 1, _⟩ => PhiB m c
  q _ := fullShare
  owed t := match t with
    | ⟨0, _⟩ => O₀ c
    | ⟨_ + 1, _⟩ => 0

set_option maxHeartbeats 4000000 in
/-- The kernel's run, from what the program brings to it to what the program takes on. -/
theorem point_run (c : Dev nD) :
    iprop(stagedP (inp m) c ∗ PhiA m c ∗ OW c [0, 1, 2, 3, 4, 5, 6, 7, 8, 9, 10, 11, 12, 13])
      ⊢ run c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22) (fun _ => iprop(stagedP (inp m) c ∗ PhiB m c ∗ OW c [])) := by
  refine BIBase.Entails.trans ?_ (wp_fupd (Fr := frame) (wpE := wpE (defs₀ (F := F)) 𝒱₀ (c : Thread nD τ) none) _ _ _)
  have hs : (Pipeline.scopedRest spec0 c : sProp 𝕄) = scratch c := scopedRest0_eq c
  unfold PhiA PhiB Xk Pipeline.ownSems0
  rw [hs, direct_eq, direct_eq, V₂_out, V₂_ne m c _ (StableHlo.devRef_ne_of_ne (by decide)), V₂_ne m c _ (StableHlo.devRef_ne_of_ne (by decide))]
  iintro ⟨HS, ⟨Hscr, Hp, ⟨Hq, Ho, H6⟩, ⟨%K, #HI, #HL, Ha, HA, HB, HC, Hc, Hr1, Hr2, Hb⟩⟩, HO⟩
  ihave Hq := (show (pt c main_arg1 fullShare (V₁ m c (Proc.devRef .tc main_arg1)) : sProp 𝕄)
      ⊢ iprop(((wqS c).loc (c : Thread nD τ) ↦[(wqS c).set]{fullShare} (inp m).wq c) ∗ ((wqS c).loc (c : Thread nD τ) ↦[Finset.univ \ (wqS c).set]{fullShare} (inp m).wq c))
      from (pointsTo_split_subset (Finset.subset_univ _)).1) $$ Hq
  ihave Ho := (show (pt c main_arg4 fullShare (V₁ m c (Proc.devRef .tc main_arg4)) : sProp 𝕄)
      ⊢ iprop(((woS c).loc (c : Thread nD τ) ↦[(woS c).set]{fullShare} (inp m).wo c) ∗ ((woS c).loc (c : Thread nD τ) ↦[Finset.univ \ (woS c).set]{fullShare} (inp m).wo c))
      from (pointsTo_split_subset (Finset.subset_univ _)).1) $$ Ho
  icases Hq with ⟨Hq, Hq'⟩
  icases Ho with ⟨Ho, Ho'⟩
  iapply (body_run (inp m) K c) $$ [HS Hscr Hq Ho H6 Ha HA HB HC Hc Hr1 Hr2 Hb HO]
  · isplitr; · iexact HI
    isplitr; · iexact HL
    iapply (pre_intro (inp m) c)
    isplitl [HS]; · iexact HS
    isplitl [Hq Ho H6]
    · isplitl [Hq]; · iexact Hq
      isplitl [Ho]; · iexact Ho
      iexists _; iexact H6
    isplitl [Hscr]; · iexact Hscr
    isplitl [Ha]; · iexact Ha
    isplitl [HA]; · iexact HA
    isplitl [HB]; · iexact HB
    isplitl [HC]; · iexact HC
    isplitl [Hc]; · iexact Hc
    isplitl [Hr1]; · iexact Hr1
    isplitl [Hr2]; · iexact Hr2
    isplitl [Hb]; · iexact Hb
    iexact HO
  iintro HP
  ihave HP := (post_elim (inp m) c) $$ HP
  icases HP with ⟨HS, ⟨Hq, Ho, H6⟩, Hscr, Hd, Hb, HO⟩
  imod (close_all (inp m) K c) $$ [Hd Hb] with ⟨Hs, Hbz⟩
  · isplitr; · iexact HI
    isplitl [Hd] <;> iassumption
  imodintro
  isplitl [HS]; · iexact HS
  isplitr [HO]
  · isplitl [Hscr]; · iexact Hscr
    isplitl [Hp]; · iexact Hp
    isplitl [Hq Hq' Ho Ho' H6]
    · isplitl [Hq Hq']
      · iapply (show iprop(((wqS c).loc (c : Thread nD τ) ↦[(wqS c).set]{fullShare} (inp m).wq c) ∗ ((wqS c).loc (c : Thread nD τ) ↦[Finset.univ \ (wqS c).set]{fullShare} (inp m).wq c))
          ⊢ (pt c main_arg1 fullShare (V₁ m c (Proc.devRef .tc main_arg1)) : sProp 𝕄)
          from (pointsTo_split_subset (Finset.subset_univ _)).2)
        isplitl [Hq] <;> iassumption
      isplitl [Ho Ho']
      · iapply (show iprop(((woS c).loc (c : Thread nD τ) ↦[(woS c).set]{fullShare} (inp m).wo c) ∗ ((woS c).loc (c : Thread nD τ) ↦[Finset.univ \ (woS c).set]{fullShare} (inp m).wo c))
          ⊢ (pt c main_arg4 fullShare (V₁ m c (Proc.devRef .tc main_arg4)) : sProp 𝕄)
          from (pointsTo_split_subset (Finset.subset_univ _)).2)
        isplitl [Ho] <;> iassumption
      iexact H6
    isplitl [Hs]; · iexact Hs
    iexact Hbz
  iexact HO

/-! ## The library's body obligation -/

theorem owes_in (c : Dev nD) (t : Fin (cfg0.N + 1)) (h : (dats m 0 c).owed t = owedL c []) :
    (OW c [] : sProp 𝕄) ⊢ (dats m 0 c).owesAt () t := by
  unfold OW Dat.owesAt Pipeline.owesWithin Dat.bound
  rw [h]
  iintro ⟨%W, HO⟩
  iexists W; isplitr; · ipureintro; exact fun _ _ => Or.inl trivial
  iexact HO
theorem owes_out (c : Dev nD) (t : Fin (cfg0.N + 1)) (h : (dats m 0 c).owed t = O₀ c) :
    ((dats m 0 c).owesAt () t : sProp 𝕄) ⊢ OW c [0, 1, 2, 3, 4, 5, 6, 7, 8, 9, 10, 11, 12, 13] := by
  unfold OW Dat.owesAt Pipeline.owesWithin Dat.bound
  rw [h]
  iintro ⟨%W, %hW, HO⟩
  iexists W; iexact HO

theorem before_0 (c : Dev nD) (d) : (dats m 0 c).before (0 : Fin 3) t0_0 d = (inp m).x c := by
  unfold Dat.before; rw [if_pos (fetch0_0 t0_0)]
  have h : (dats m 0 c).fetched (0 : Fin 3) t0_0 d = (win0_0.blk t0_0).view.read (Elt F) (V₁ m c (Proc.devRef .tc main_v1)) := by
    unfold Dat.fetched Dat.blockOf; dsimp only [dats]; rfl
  rw [h]
  funext j
  rw [View.read_apply]
  show V₁ m c (Proc.devRef .tc main_v1) _ = V₁ m c (Proc.devRef .tc main_v1) j
  congr 1
  funext a
  refine Fin.ext ?_
  fin_cases a <;> exact (Nat.zero_add _).trans (Nat.one_mul _)
theorem before_1 (c : Dev nD) (d) : (dats m 0 c).before (1 : Fin 3) t0_0 d = (inp m).k c := by
  unfold Dat.before; rw [if_pos (fetch0_1 t0_0)]
  have h : (dats m 0 c).fetched (1 : Fin 3) t0_0 d = (win0_1.blk t0_0).view.read (Elt F) (V₁ m c (Proc.devRef .tc main_v3)) := by
    unfold Dat.fetched Dat.blockOf; dsimp only [dats]; rfl
  rw [h]
  funext j
  rw [View.read_apply]
  show V₁ m c (Proc.devRef .tc main_v3) _ = V₁ m c (Proc.devRef .tc main_v3) j
  congr 1
  funext a
  refine Fin.ext ?_
  fin_cases a <;> exact (Nat.zero_add _).trans (Nat.one_mul _)
theorem before_2 (c : Dev nD) (d) : (dats m 0 c).before (2 : Fin 3) t0_0 d = (inp m).v c := by
  unfold Dat.before; rw [if_pos (fetch0_2 t0_0)]
  have h : (dats m 0 c).fetched (2 : Fin 3) t0_0 d = (win0_2.blk t0_0).view.read (Elt F) (V₁ m c (Proc.devRef .tc main_v5)) := by
    unfold Dat.fetched Dat.blockOf; dsimp only [dats]; rfl
  rw [h]
  funext j
  rw [View.read_apply]
  show V₁ m c (Proc.devRef .tc main_v5) _ = V₁ m c (Proc.devRef .tc main_v5) j
  congr 1
  funext a
  refine Fin.ext ?_
  fin_cases a <;> exact (Nat.zero_add _).trans (Nat.one_mul _)
set_option maxRecDepth 100000 in
theorem body_obligation (c : Dev nD) : Pipeline.BodyObligation (dats m 0 c) (defs₀ (F := F)) 𝒱₀ () Set.univ := fun t => by
  obtain rfl := fin_N0 t
  rw [bigSep_W0, bigSep_W0]
  show iprop(PhiA m c ∗ (dats m 0 c).owesAt () t0_0.castSucc
      ∗ ((∃ d, owns (c : Thread nD τ) (Memref.whole cc0_stg0_0) fullShare ((dats m 0 c).before (0 : Fin 3) t0_0 d))
        ∗ (∃ d, owns (c : Thread nD τ) (Memref.whole cc0_stg1_0) fullShare ((dats m 0 c).before (1 : Fin 3) t0_0 d))
        ∗ (∃ d, owns (c : Thread nD τ) (Memref.whole cc0_stg2_0) fullShare ((dats m 0 c).before (2 : Fin 3) t0_0 d))))
    ⊢ run c (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole main_v6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22) (fun _ => iprop(PhiB m c ∗ (dats m 0 c).owesAt () t0_0.succ
      ∗ (owns (c : Thread nD τ) (Memref.whole cc0_stg0_0) fullShare ((inp m).x c)
        ∗ owns (c : Thread nD τ) (Memref.whole cc0_stg1_0) fullShare ((inp m).k c)
        ∗ owns (c : Thread nD τ) (Memref.whole cc0_stg2_0) fullShare ((inp m).v c))))
  simp only [before_0, before_1, before_2, owns_whole]
  iintro ⟨HΦ, HO, ⟨%d0, H0⟩, ⟨%d1, H1⟩, ⟨%d2, H2⟩⟩
  ihave HO := (owes_out m c t0_0.castSucc rfl) $$ HO
  iapply (wp_wand (Fr := frame) (wpE := wpE (defs₀ (F := F)) 𝒱₀ (c : Thread nD τ) none)) $$ [HΦ HO H0 H1 H2]
  · iapply (point_run m c)
    unfold stagedP
    isplitl [H0 H1 H2]
    · isplitl [H0]; · iexact H0
      isplitl [H1]; · iexact H1
      iexact H2
    isplitl [HΦ] <;> iassumption
  unfold stagedP
  iintro %u ⟨⟨H0, H1, H2⟩, HΦ, HO⟩
  isplitl [HΦ]; · iexact HΦ
  isplitl [HO]; · iapply (owes_in m c t0_0.succ rfl); iexact HO
  isplitl [H0]; · iexact H0
  isplitl [H1]; · iexact H1
  iexact H2

end Cert.KernelIdeal.Hand

end
-- ==== Proof.Launch.lean ====
/-
  The launch: the ghost state of the kernel's cells made and dealt to the devices, and the whole program's run.
-/
module

public import proofs.«01_k».proof.Proof.Point
public import proofs.«01_k».proof.Proof.Gen.KernelIdeal.Frame

@[expose] public section

noncomputable section

namespace Cert.KernelIdeal.Hand

open Idealize.ShloMosaic Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-- No pipeline of the program has anything to admit. -/
abbrev adm : (p : Fin 1) → (pcfgs (F := F) p).Adm := fun p => (cfgs p).toPCfg_adm

/-! ## The kernel as a segment of the program -/

/-- What a device brings from the launch: the cells' ghost state, with its own cells still closed. -/
def Tk (c : Dev nD) : sProp 𝕄 :=
  iprop(∃ K, invs (inp m) K ∗ (bigSep Finset.univ fun j : Fin 27 => openTok ER ((c : Thread nD τ), osem j))
    ∗ tokA (nxt c) ∗ tokB (prv c) ∗ tokC c ∗ crs c
    ∗ reached ER (barCell (prv c)) 0 ∗ reached ER (barCell (nxt c)) 0 ∗ atPos ER (barCell c) 0 ∅ 0)
/-- What it takes on: the barrier counter, at zero again. -/
def Yk (c : Dev nD) : sProp 𝕄 := semVal (barCell c) 0

/-- On entry a device opens its own cells. -/
theorem hopen (c : Dev nD) : iprop(Tk m c ∗ Pipeline.ownSems0 osem c ∗ levAts L lv) ⊢ (|={Set.univ}=> Xk m c : sProp 𝕄) := by
  unfold Tk Xk Pipeline.ownSems0
  iintro ⟨⟨%K, #HI, Ho, HA, HB, HC, Hc, Hr1, Hr2, Hb⟩, Hs, #HL⟩
  imod (open_all (inp m) K c) $$ [Ho Hs] with Ha
  · isplitr; · iexact HI
    isplitl [Ho] <;> iassumption
  imodintro
  iexists K
  isplitr; · iexact HI
  isplitr; · iexact HL
  isplitl [Ha]; · iexact Ha
  isplitl [HA]; · iexact HA
  isplitl [HB]; · iexact HB
  isplitl [HC]; · iexact HC
  isplitl [Hc]; · iexact Hc
  isplitl [Hr1]; · iexact Hr1
  isplitl [Hr2]; · iexact Hr2
  iexact Hb

/-- Nothing owed lies at level zero. -/
theorem owed_pos (c : Dev nD) (t : Fin (cfg0.N + 1)) (g : GSem nD τ sig) (i : Unit) (h : 0 < (dats m 0 c).owed t g i) :
    i ∈ L g ∧ (0 : ℕ) < lv g i := by
  have e : (dats m 0 c).owed t = if t.val = 0 then O₀ c else 0 := by
    obtain ⟨n, hn⟩ := t; cases n <;> rfl
  rw [e] at h
  split at h
  · obtain ⟨k, -, rfl⟩ := owedL_pos c h
    exact ⟨by rw [show L (tgt c k) = Finset.univ from L_tc _ _]; exact Finset.mem_univ _, (by decide : ∀ k, 0 < lvS (tgtS k)) k⟩
  · exact absurd h (Nat.lt_irrefl 0)

/-- The buffers the kernel does not stage. -/
abbrev beside : Finset (DevRef τ sig) := Pipeline.ucRefs τ sig \ Pipeline.arrRefs (τ := τ) spec0

/-- The staging semaphores lie at level zero, and the result is no staged array. -/
theorem staged_level (w : Fin 3) (s : Fin (spec0 w).nbuf) : lvS (.dma ((spec0 w).sem s)) ≤ 0 := by
  revert s; revert w; decide
theorem arr_ne_out (w : Fin 3) : Pipeline.arrRef spec0 w ≠ main_v6 := by revert w; decide

set_option backward.isDefEq.respectTransparency.types false in
/-- The kernel's segment. -/
def reg0 : Pipeline.RegionSeg (Name := ℕ) (U := UU) (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    direct beside (by decide) launch0.toP rfl (fun c => (body_obligation m c).loose)
    (fun _ => 0) O₀ (fun c => (zero_add (O₀ c)).symm) (fun c => rfl) (fun _ => rfl) (fun c w => by unfold Dat.share; split <;> rfl)
    (V₁ m) (V₂ m) (fun c b hb => V₂_ne m c b (fun e => (Finset.mem_sdiff.mp hb).2 (e ▸ by decide)))
    (Tk m) Yk (Xk m) Yk (hopen m) (fun c => BI.Entails.refl _) (fun c => BI.Entails.refl _)
    (fun c => by iintro H; imodintro; iexact H)
    (fun _ => 0)
    ⟨fun c w s => by rw [L_tc]; exact Finset.mem_univ _, fun c w s => staged_level w s, fun c t g i h => owed_pos m c t g i h⟩
    (fun _ => iprop(emp))
    (fun c w => rfl) (fun c w => by
      rw [Dat.arrAt_in _ _ (by fin_cases w <;> rfl)]
      exact (V₂_ne m c _ (StableHlo.devRef_ne_of_ne (arr_ne_out w))).symm)

/-! ## The program as its three segments -/

/-- What crosses the host's first lines beside buffers, and its last. -/
def R₀ (c : Dev nD) : sProp 𝕄 := iprop((∃ r, prngReg c r) ∗ Tk m c ∗ ∃ W, owes (c : Thread nD τ) (O₀ c) W)
def R₁ (c : Dev nD) : sProp 𝕄 := iprop(semVal (barCell c) 0 ∗ ∃ W, owes (c : Thread nD τ) (0 : CellTallies nD τ sig Unit) W)

theorem host_sub (ops : List (HloOp τ sig (Elt F))) (h : ops.Forall fun op => op.bufs ⊆ StableHlo.tcRefs τ sig) :
    ∀ op ∈ ops, op.bufs ⊆ Pipeline.ucRefs τ sig :=
  fun op ho => Pipeline.sub_ucRefs op (List.forall_iff_forall_mem.mp h op ho)

local notation "ℍ" => Pipeline.HostSeg (Ix := Unit) (Name := ℕ) (U := UU) (Lvl := ℕ) (pcfgs (F := F)) defs₀ 𝒱₀ L lv

/-- The host's lines before the kernel, and after it. -/
def host0 : ℍ := Pipeline.HostSeg.ofOps _ _ _ _ _ (Pipeline.ucRefs τ sig) hostOps0 (host_sub _ hostOps0_sub)
  (List.forall_iff_forall_mem.mp hostOps0_fresh) (V₀ m) (R₀ m)
def host1 : ℍ := Pipeline.HostSeg.ofOps _ _ _ _ _ (Pipeline.ucRefs τ sig) hostOps1 (host_sub _ hostOps1_sub)
  (List.forall_iff_forall_mem.mp hostOps1_fresh) (V₂ m) R₁

/-- The buffers when the program ends. -/
def V₃ (c : Dev nD) : Valuation τ sig (Elt F) := StableHlo.after hostOps1 (V₂ m c)

theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) beside W) :=
  StableHlo.held_sub_split _ (by decide) W

theorem enter (c : Dev nD) : (host0 m).post c ⊢ (reg0 m).pre c := by
  show iprop(StableHlo.held (c : Thread nD τ) (Pipeline.ucRefs τ sig) (V₁ m c) ∗ R₀ m c)
    ⊢ iprop(StableHlo.held (c : Thread nD τ) (Pipeline.arrRefs (τ := τ) spec0) (V₁ m c) ∗ (∃ r, prngReg c r)
      ∗ (StableHlo.held (c : Thread nD τ) beside (V₁ m c) ∗ emp) ∗ Tk m c ∗ ∃ Wd, owes (c : Thread nD τ) (0 + O₀ c) Wd)
  rw [held_split, zero_add]
  unfold R₀
  iintro ⟨⟨Ha, Hb⟩, Hp, HT, HO⟩
  isplitl [Ha]; · iexact Ha
  isplitl [Hp]; · iexact Hp
  isplitl [Hb]
  · isplitl [Hb]; · iexact Hb
    iempintro
  isplitl [HT]; · iexact HT
  iexact HO

theorem leave (c : Dev nD) : (reg0 m).post c ⊢ (host1 m).pre c := by
  show iprop(StableHlo.held (c : Thread nD τ) (Pipeline.arrRefs (τ := τ) spec0) (V₂ m c) ∗ (∃ r, prngReg c r)
      ∗ (StableHlo.held (c : Thread nD τ) beside (V₂ m c) ∗ emp) ∗ Yk c ∗ ∃ Wd, owes (c : Thread nD τ) (0 : CellTallies nD τ sig Unit) Wd)
    ⊢ iprop(StableHlo.held (c : Thread nD τ) (Pipeline.ucRefs τ sig) (V₂ m c) ∗ R₁ c)
  rw [held_split]
  unfold R₁ Yk
  iintro ⟨Ha, -, ⟨Hb, -⟩, HY, HO⟩
  isplitl [Ha Hb]
  · isplitl [Ha] <;> iassumption
  isplitl [HY]; · iexact HY
  iexact HO

def segs : List (Pipeline.Seg (pcfgs (F := F)) adm (dats m) () defs₀ 𝒱₀ L lv) :=
  [.host (host0 m), .region (reg0 m), .host (host1 m)]

theorem main_eq (c : Dev nD) : main (F := F) c = Pipeline.Seg.run (segs m) :=
  main_segs adm (dats m) () 𝒱₀ L lv (host0 m) (host1 m) (reg0 m) rfl rfl c

/-! ## The launch -/

/-- The launch's ghost element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells ownCells payToks)

/-- A resource given to the first device alone, and the same resource back from the family. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells ownCells payToks)))

/-- What every device may consult: all the invariants, and that every barrier cell's first round is reached. -/
def records (κ : GSem nD τ sig → ℕ) : sProp 𝕄 := iprop(invs (inp m) κ ∗ bigSep barCells fun g => reached ER g 0)
instance records_persistent (κ : GSem nD τ sig → ℕ) : BI.Persistent (records m κ) := by unfold records; infer_instance

theorem bar_reached (c : Dev nD) : (bigSep barCells fun g => (reached ER g 0 : sProp 𝕄)) ⊢ reached ER (barCell c) 0 :=
  bigSep_elim (Finset.mem_map_of_mem barEmb (Finset.mem_univ c))

/-- What stays with one device. -/
def mine (c : Dev nD) : sProp 𝕄 :=
  iprop((StableHlo.held (c : Thread nD τ) (Pipeline.ucRefs τ sig) (V₀ m c) ∗ crs c ∗ owes (c : Thread nD τ) (O₀ c) ∅ ∗ ∃ r, prngReg c r)
    ∗ atPos ER (barCell c) 0 ∅ 0 ∗ (bigSep Finset.univ fun j : Fin 27 => openTok ER ((c : Thread nD τ), osem j))
    ∗ tokA (nxt c) ∗ tokB (prv c) ∗ tokC c)

abbrev T₀ (c : Dev nD) : sProp 𝕄 := iprop(StableHlo.held (c : Thread nD τ) (Pipeline.ucRefs τ sig) (V₀ m c) ∗ R₀ m c)
abbrev Tₙ (c : Dev nD) : sProp 𝕄 := iprop(StableHlo.held (c : Thread nD τ) (Pipeline.ucRefs τ sig) (V₃ m c) ∗ semVal (barCell c) 0)

theorem T₀_intro (κ : GSem nD τ sig → ℕ) (c : Dev nD) : iprop(records m κ ∗ mine m c) ⊢ T₀ m c := by
  unfold records mine T₀ R₀ Tk
  iintro ⟨⟨#HI, #HR⟩, ⟨Hh, Hc, HO, Hp⟩, Hb, Ho, HA, HB, HC⟩
  isplitl [Hh]; · iexact Hh
  isplitl [Hp]; · iexact Hp
  isplitr [HO]
  · iexists κ
    isplitr; · iexact HI
    isplitl [Ho]; · iexact Ho
    isplitl [HA]; · iexact HA
    isplitl [HB]; · iexact HB
    isplitl [HC]; · iexact HC
    isplitl [Hc]; · iexact Hc
    isplitr; · iapply (bar_reached (F := F) (prv c)); iexact HR
    isplitr; · iapply (bar_reached (F := F) (nxt c)); iexact HR
    iexact Hb
  · iexists ∅; iexact HO

theorem barrier_sem (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_sem : ∀ sm : SemLoc sig, sm.isScoped .tc = false → sm = .reg barrier0 := by decide

/-- The launch's holdings of all devices become what every device starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V₀ m c) ∗ crs c ∗ owes (c : Thread nD τ) (O₀ c) ∅ ∗ ∃ r, prngReg c r)
        ∗ (semVal (barCell c) 0 ∗ G c)) : sProp 𝕄) := by
    rw [show unscopedBufs c (fun b => m ((c : Thread nD τ).loc b)) = StableHlo.held (c : Thread nD τ) (Pipeline.ucRefs τ sig) (V₀ m c)
      from Pipeline.unscopedBufs_held c (V₀ m c), barrier_sem]
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ (fun c : Dev nD => (bigSep Finset.univ fun j : Fin 27 => openTok ER ((c : Thread nD τ), osem j) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((StableHlo.held (c : Thread nD τ) (Pipeline.ucRefs τ sig) (V₀ m c) ∗ crs c ∗ owes (c : Thread nD τ) (O₀ c) ∅ ∗ ∃ r, prngReg c r)
        ∗ (semVal (barCell c) 0 ∗ G c)) : sProp 𝕄) from bigSep_mono fun c _ => hcore c) $$ H
  ihave H2 := fam_unpair $$ H'; icases H2 with ⟨HB, H3⟩
  ihave H4 := fam_unpair $$ H3; icases H4 with ⟨Hv, HG⟩
  ihave Hu := (show bigSep Finset.univ (G (F := F)) ⊢ BI.own (ER (launchOf barCells ownCells payToks)) from
    Entails.of_eq (onFirst_all (F := F) (BI.own (ER (launchOf barCells ownCells payToks))))) $$ HG
  imod (Rounds.fund_launch ER (Rd (inp m)) cells_disjoint (fun g _ h => h) payToks) $$ [Hv Hu] with ⟨%κ, -, Hinv, #Hr, Hat, Hopen, Htok⟩
  · isplitl [Hv]
    · iapply hv $$ Hv
    · iexact Hu
  ihave #HI := (invs_intro (inp m) κ) $$ Hinv
  imodintro
  iapply (bigSep_with_persistent (R := records m κ) (Φ := mine m) fun c _ => T₀_intro m κ c)
  isplitr
  · unfold records
    isplitr; · iexact HI
    iexact Hr
  unfold mine
  iapply fam_pair; isplitl [HB]; · iexact HB
  iapply fam_pair; isplitl [Hat]; · iapply hat $$ Hat
  iapply fam_pair; isplitl [Hopen]; · iapply ho $$ Hopen
  iapply (toks_deal (F := F)) $$ Htok

/-! ## The program's run -/

/-- The buffers a claim reads at the end: the five arguments and the result. -/
def seen : Finset (DevRef τ sig) :=
  {Proc.devRef .tc main_arg0, Proc.devRef .tc main_arg1, Proc.devRef .tc main_arg2, Proc.devRef .tc main_arg3, Proc.devRef .tc main_arg4, Proc.devRef .tc main_v7}
theorem seen_eq (c : Dev nD) (W : Valuation τ sig (Elt F)) : (StableHlo.held (c : Thread nD τ) seen W : sProp 𝕄)
    = iprop(pt c main_arg0 fullShare (W (Proc.devRef .tc main_arg0)) ∗ pt c main_arg1 fullShare (W (Proc.devRef .tc main_arg1))
      ∗ pt c main_arg2 fullShare (W (Proc.devRef .tc main_arg2)) ∗ pt c main_arg3 fullShare (W (Proc.devRef .tc main_arg3))
      ∗ pt c main_arg4 fullShare (W (Proc.devRef .tc main_arg4)) ∗ pt c main_v7 fullShare (W (Proc.devRef .tc main_v7))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v7] (by decide) (by decide)]
  rfl

set_option backward.isDefEq.respectTransparency.types false in
/-- From any memory with zero counters the program ends on every device, with the six buffers at the values named and every
    counter at zero. -/
theorem run_all [∀ e, Nonempty (Elt F e)] : θ_run defs (onTc (τ := τ) (main (F := F))) ⟨m, fun _ => 0, ρ⟩
    (fun r => (∀ c : Dev nD, r.2.mem ((c : Thread nD τ).loc main_arg0) = V₃ m c (Proc.devRef .tc main_arg0)
        ∧ r.2.mem ((c : Thread nD τ).loc main_arg1) = V₃ m c (Proc.devRef .tc main_arg1)
        ∧ r.2.mem ((c : Thread nD τ).loc main_arg2) = V₃ m c (Proc.devRef .tc main_arg2)
        ∧ r.2.mem ((c : Thread nD τ).loc main_arg3) = V₃ m c (Proc.devRef .tc main_arg3)
        ∧ r.2.mem ((c : Thread nD τ).loc main_arg4) = V₃ m c (Proc.devRef .tc main_arg4)
        ∧ r.2.mem ((c : Thread nD τ).loc main_v7) = V₃ m c (Proc.devRef .tc main_v7)) ∧ r.2.sem = fun _ => 0) :=
  Pipeline.θ_run_regions_kit_sems (pcfgs (F := F)) adm (dats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onFirst_all]; iexact HX)
    (T₀ := T₀ m) (Tₙ := Tₙ m)
    (hch := by
      refine ⟨fun c => .rfl, fun c => enter m c, fun c => leave m c, fun c => ?_⟩
      show iprop(StableHlo.held (c : Thread nD τ) (Pipeline.ucRefs τ sig) (V₃ m c) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_arg3) = V₃ m c (Proc.devRef .tc main_arg3)
        ∧ s.mem ((c : Thread nD τ).loc main_arg4) = V₃ m c (Proc.devRef .tc main_arg4)
        ∧ s.mem ((c : Thread nD τ).loc main_v7) = V₃ m c (Proc.devRef .tc main_v7))
      ∧ s.sem (barCell c) = 0)
    (hfin := fun c s' => by
      dsimp only [Tₙ]
      rw [StableHlo.held_sub_split (T := seen) _ (by decide) (V₃ m c), seen_eq]
      iintro ⟨⟨⟨⟨H0, H1, H2, H3, H4, H7⟩, -⟩, Hb⟩, HSI⟩
      icombine HSI H0 gives %h0
      icombine HSI H1 gives %h1
      icombine HSI H2 gives %h2
      icombine HSI H3 gives %h3
      icombine HSI H4 gives %h4
      icombine HSI H7 gives %h7
      icombine HSI Hb gives %hb
      imodintro
      isplitr
      · ipureintro
        exact ⟨⟨Buf.eq_of_forall_mem_univ h0, Buf.eq_of_forall_mem_univ h1, Buf.eq_of_forall_mem_univ h2,
          Buf.eq_of_forall_mem_univ h3, Buf.eq_of_forall_mem_univ h4, Buf.eq_of_forall_mem_univ h7⟩, by simpa using hb⟩
      iexact HSI)
    (hQ := fun s h hs => ⟨fun c => (h c).1, sem_eq_zero hs fun c sm hsm => by
        obtain rfl := unscoped_sem sm hsm
        exact (h c).2⟩)

end Cert.KernelIdeal.Hand

end
-- ==== Proof.Result.lean ====
/-
  The program's run, with the values at its end: the arguments as they were, the result the kernel's own.
-/
module

public import proofs.«01_k».proof.Proof.Launch

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- A buffer no line of the host and no part of the kernel writes ends as it was. -/
theorem V₃_keep (c : Dev nD) (b : Ref sig .tc) (h0 : ∀ op ∈ (hostOps0 : List (HloOp τ sig (Elt F))), (Proc.devRef .tc b : DevRef τ sig) ∉ op.writes)
    (h1 : ∀ op ∈ (hostOps1 : List (HloOp τ sig (Elt F))), (Proc.devRef .tc b : DevRef τ sig) ∉ op.writes) (h : b ≠ main_v6) :
    V₃ m c (Proc.devRef .tc b) = m ((c : Thread nD τ).loc b) := by
  unfold V₃
  rw [StableHlo.after_of_forall_not_mem _ _ h1, V₂_ne m c _ (StableHlo.devRef_ne_of_ne h)]
  unfold V₁
  rw [StableHlo.after_of_forall_not_mem _ _ h0]
  rfl

theorem V₃_arg0 (c : Dev nD) : V₃ m c (Proc.devRef .tc main_arg0) = m ((c : Thread nD τ).loc main_arg0) :=
  V₃_keep m c main_arg0
    (List.forall_iff_forall_mem.mp (by
      simp only [hostOps0, List.Forall, StableHlo.unary_writes, StableHlo.reshape_writes, Finset.mem_singleton]
      repeat' apply And.intro
      all_goals exact StableHlo.devRef_ne_of_ne (by decide)))
    (List.forall_iff_forall_mem.mp (by
      simp only [hostOps1, List.Forall, StableHlo.reshape_writes, Finset.mem_singleton]
      exact StableHlo.devRef_ne_of_ne (by decide))) (by decide)
theorem V₃_arg1 (c : Dev nD) : V₃ m c (Proc.devRef .tc main_arg1) = m ((c : Thread nD τ).loc main_arg1) :=
  V₃_keep m c main_arg1
    (List.forall_iff_forall_mem.mp (by
      simp only [hostOps0, List.Forall, StableHlo.unary_writes, StableHlo.reshape_writes, Finset.mem_singleton]
      repeat' apply And.intro
      all_goals exact StableHlo.devRef_ne_of_ne (by decide)))
    (List.forall_iff_forall_mem.mp (by
      simp only [hostOps1, List.Forall, StableHlo.reshape_writes, Finset.mem_singleton]
      exact StableHlo.devRef_ne_of_ne (by decide))) (by decide)
theorem V₃_arg2 (c : Dev nD) : V₃ m c (Proc.devRef .tc main_arg2) = m ((c : Thread nD τ).loc main_arg2) :=
  V₃_keep m c main_arg2
    (List.forall_iff_forall_mem.mp (by
      simp only [hostOps0, List.Forall, StableHlo.unary_writes, StableHlo.reshape_writes, Finset.mem_singleton]
      repeat' apply And.intro
      all_goals exact StableHlo.devRef_ne_of_ne (by decide)))
    (List.forall_iff_forall_mem.mp (by
      simp only [hostOps1, List.Forall, StableHlo.reshape_writes, Finset.mem_singleton]
      exact StableHlo.devRef_ne_of_ne (by decide))) (by decide)
theorem V₃_arg3 (c : Dev nD) : V₃ m c (Proc.devRef .tc main_arg3) = m ((c : Thread nD τ).loc main_arg3) :=
  V₃_keep m c main_arg3
    (List.forall_iff_forall_mem.mp (by
      simp only [hostOps0, List.Forall, StableHlo.unary_writes, StableHlo.reshape_writes, Finset.mem_singleton]
      repeat' apply And.intro
      all_goals exact StableHlo.devRef_ne_of_ne (by decide)))
    (List.forall_iff_forall_mem.mp (by
      simp only [hostOps1, List.Forall, StableHlo.reshape_writes, Finset.mem_singleton]
      exact StableHlo.devRef_ne_of_ne (by decide))) (by decide)
theorem V₃_arg4 (c : Dev nD) : V₃ m c (Proc.devRef .tc main_arg4) = m ((c : Thread nD τ).loc main_arg4) :=
  V₃_keep m c main_arg4
    (List.forall_iff_forall_mem.mp (by
      simp only [hostOps0, List.Forall, StableHlo.unary_writes, StableHlo.reshape_writes, Finset.mem_singleton]
      repeat' apply And.intro
      all_goals exact StableHlo.devRef_ne_of_ne (by decide)))
    (List.forall_iff_forall_mem.mp (by
      simp only [hostOps1, List.Forall, StableHlo.reshape_writes, Finset.mem_singleton]
      exact StableHlo.devRef_ne_of_ne (by decide))) (by decide)

/-- The result: the kernel's, with a leading axis of one. -/
theorem V₃_out (c : Dev nD) : V₃ m c (Proc.devRef .tc main_v7)
    = (shapeCast S1x1024x1024 (outV (inp m)) shapeCasts_S1024x1024_S1x1024x1024 : S1x1024x1024.Idx → F .f32) := by
  unfold V₃
  simp only [hostOps1, StableHlo.after_cons, StableHlo.after_nil]
  rw [StableHlo.reshape_result, V₂_out]
  rfl

/-- The run of the program, from any memory with zero counters. -/
theorem run_main [∀ e, Nonempty (Elt F e)] : θ_run defs (onTc (τ := τ) (main (F := F))) ⟨m, fun _ => 0, ρ⟩
    (fun r => (∀ c : Dev nD, r.2.mem ((c : Thread nD τ).loc main_v7)
          = (shapeCast S1x1024x1024 (outV (inp m)) shapeCasts_S1024x1024_S1x1024x1024 : S1x1024x1024.Idx → F .f32)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun r h => ⟨fun c => by
    obtain ⟨h0, h1, h2, h3, h4, h7⟩ := h.1 c
    exact ⟨h7.trans (V₃_out m c), h0.trans (V₃_arg0 m c), h1.trans (V₃_arg1 m c), h2.trans (V₃_arg2 m c), h3.trans (V₃_arg3 m c), h4.trans (V₃_arg4 m c)⟩, h.2⟩) (run_all m ρ)

end Cert.KernelIdeal.Hand

end
-- ==== Proof.Attn.lean ====
/-
  Attention on one row over the extended reals. Subtracting the row's maximum before the exponentials changes nothing
  while the scores are real: dividing the weighted values by the sum of the exponentials is weighting the values by the
  quotients. The values themselves may be infinite.
-/
module

public import Idealize.ShloMosaic.Lib.Pointwise

@[expose] public section

noncomputable section

namespace Cert.Attn

open Idealize.ShloMosaic

/-- Whether row `i` attends to key `j`: same block of 64, the first block of keys, or block numbers adding up to a multiple of three. -/
def att (i j : ℕ) : Bool := decide (i / 64 = j / 64) || decide (j / 64 = 0) || decide ((i / 64 + j / 64) % 3 = 0)

/-- The scale of the scores and the score of a key left out, as both programs write them. -/
def SC : EReal := Ideal.ofBits .f32 0x3DB504F3#32
def NEG : EReal := Ideal.ofBits .f32 0xCE6E6B28#32

/-- Being a real number. -/
def IsReal (a : EReal) : Prop := ∃ r : ℝ, a = (r : EReal)

theorem IsReal.coe (r : ℝ) : IsReal (r : EReal) := ⟨r, rfl⟩

theorem isReal_SC : IsReal SC := by
  unfold SC IsReal Ideal.ofBits Ideal.ieee
  simp only [show ((0x3DB504F3#32 : BitVec 32).extractLsb' 23 8).toNat = 123 by decide]
  norm_num

theorem isReal_NEG : IsReal NEG := by
  unfold NEG IsReal Ideal.ofBits Ideal.ieee
  simp only [show ((0xCE6E6B28#32 : BitVec 32).extractLsb' 23 8).toNat = 156 by decide]
  norm_num

/-- The start of a maximum is below everything. -/
theorem ofBits_bot : Ideal.ofBits .f32 0xFF800000#32 = ⊥ := by
  unfold Ideal.ofBits Ideal.ieee
  simp only [show ((0xFF800000#32 : BitVec 32).extractLsb' 23 8).toNat = 255 by decide,
    show ((0xFF800000#32 : BitVec 32).extractLsb' 0 23).toNat = 0 by decide,
    show ((0xFF800000#32 : BitVec 32).extractLsb' (8 + 23) 1 == 1#1) = true by decide]
  norm_num

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A positive real factor goes into a sum of extended reals. -/
theorem sum_mul_real {n : ℕ} (f : Fin n → EReal) (c : ℝ) (hc : 0 ≤ c) : (∑ i, f i) * (c : EReal) = ∑ i, f i * (c : EReal) := by
  induction n with
  | zero => simp
  | succ n ih =>
    rw [Fin.sum_univ_succ, Fin.sum_univ_succ, EReal.right_distrib_of_nonneg_of_ne_top (by exact_mod_cast hc) (EReal.coe_ne_top c), ih]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sum {n : ℕ} {f : Fin n → EReal} (hf : ∀ i, IsReal (f i)) : IsReal (∑ i, f i) := by
  choose g hg using hf
  exact ⟨∑ i, g i, by rw [coe_sum]; exact Finset.sum_congr rfl fun i _ => hg i⟩

/-- Scaling the queries is scaling the scores. -/
theorem scale_out (q k : Fin 128 → EReal) (hq : ∀ d, IsReal (q d)) (hk : ∀ d, IsReal (k d)) :
    ∑ d, (q d * SC) * k d = (∑ d, q d * k d) * SC := by
  choose q' hq using hq
  choose k' hk using hk
  obtain ⟨c, hc⟩ := isReal_SC
  simp only [hq, hk, hc, ← EReal.coe_mul]
  rw [← coe_sum, ← coe_sum, ← EReal.coe_mul, Finset.sum_mul]
  exact congrArg _ (Finset.sum_congr rfl fun d _ => by ring)

/-- The maximum of finitely many reals, one at least, is a real. -/
theorem isReal_max {n : ℕ} (t : Fin (n + 1) → EReal) (ht : ∀ j, IsReal (t j)) :
    IsReal (Finset.fold max (Ideal.ofBits .f32 0xFF800000#32) t Finset.univ) := by
  rw [ofBits_bot]
  obtain ⟨j, _, hj⟩ := Finset.exists_mem_eq_sup (Finset.univ : Finset (Fin (n + 1))) Finset.univ_nonempty t
  have : Finset.fold max ⊥ t Finset.univ = t j := hj
  rw [this]; exact ht j

/-- The shift by any real drops out of the quotients. -/
theorem softmax_shift {n : ℕ} (t : Fin (n + 1) → EReal) (ht : ∀ j, IsReal (t j)) (M : EReal) (hM : IsReal M) (v : Fin (n + 1) → EReal) :
    Ideal.div (∑ j, Ideal.exp (t j) * v j) (∑ j, Ideal.exp (t j))
      = ∑ j, v j * Ideal.div (Ideal.exp (t j - M)) (∑ j', Ideal.exp (t j' - M)) := by
  choose t' ht using ht
  obtain ⟨M', rfl⟩ := hM
  have e1 : ∀ j, Ideal.exp (t j) = ((Real.exp (t' j) : ℝ) : EReal) := fun j => by rw [ht j]; rfl
  have e2 : ∀ j, Ideal.exp (t j - (M' : EReal)) = ((Real.exp (t' j - M') : ℝ) : EReal) := fun j => by rw [ht j, ← EReal.coe_sub]; rfl
  have hD : 0 < ∑ j, Real.exp (t' j) := Finset.sum_pos (fun j _ => Real.exp_pos _) Finset.univ_nonempty
  have hE : 0 < ∑ j, Real.exp (t' j - M') := Finset.sum_pos (fun j _ => Real.exp_pos _) Finset.univ_nonempty
  simp only [e1, e2, ← coe_sum]
  rw [Ideal.div_coe hD.ne', sum_mul_real _ _ (by positivity)]
  refine Finset.sum_congr rfl fun j _ => ?_
  rw [Ideal.div_coe hE.ne', mul_comm ((Real.exp (t' j) : ℝ) : EReal), mul_assoc, ← EReal.coe_mul, ← EReal.coe_mul]
  congr 2
  have hs : ∑ j, Real.exp (t' j - M') = (∑ j, Real.exp (t' j)) * Real.exp (-M') := by
    rw [Finset.sum_mul]; exact Finset.sum_congr rfl fun j _ => by rw [sub_eq_add_neg, Real.exp_add]
  rw [hs, sub_eq_add_neg, Real.exp_add]
  have := (Real.exp_pos (-M')).ne'
  field_simp

/-- A masked score. -/
def msk (b : Bool) (a : EReal) : EReal := Scalar.select (BitVec.ofBool b) a NEG

theorem msk_real (b : Bool) (a : EReal) (ha : IsReal a) : IsReal (msk b a) := by
  cases b
  · exact isReal_NEG
  · exact ha

/-- One row of one head as the kernel takes it: exponentials of the masked scores, the quotient last. -/
def kerHead (b : Fin 1024 → Bool) (q : Fin 128 → EReal) (k : Fin 1024 → Fin 128 → EReal) (v : Fin 1024 → EReal) : EReal :=
  Ideal.div (∑ j, Ideal.exp (msk (b j) (∑ d, (q d * SC) * k j d)) * v j) (∑ j, Ideal.exp (msk (b j) (∑ d, (q d * SC) * k j d)))

/-- The reference's masked scores of one row of one head. -/
def refScore (b : Fin 1024 → Bool) (q : Fin 128 → EReal) (k : Fin 1024 → Fin 128 → EReal) (j : Fin 1024) : EReal :=
  msk (b j) ((∑ d, q d * k j d) * SC)
/-- Their exponentials, less the maximum. -/
def refExp (b : Fin 1024 → Bool) (q : Fin 128 → EReal) (k : Fin 1024 → Fin 128 → EReal) (j : Fin 1024) : EReal :=
  Ideal.exp (refScore b q k j - Finset.fold max (Ideal.ofBits .f32 0xFF800000#32) (refScore b q k) Finset.univ)
/-- One row of one head as the reference takes it: the quotient first. -/
def refHead (b : Fin 1024 → Bool) (q : Fin 128 → EReal) (k : Fin 1024 → Fin 128 → EReal) (v : Fin 1024 → EReal) : EReal :=
  ∑ j, v j * Ideal.div (refExp b q k j) (∑ j', refExp b q k j')

/-- The two agree on real queries and keys. -/
theorem kerHead_eq (b : Fin 1024 → Bool) (q : Fin 128 → EReal) (k : Fin 1024 → Fin 128 → EReal) (v : Fin 1024 → EReal)
    (hq : ∀ d, IsReal (q d)) (hk : ∀ j d, IsReal (k j d)) : kerHead b q k v = refHead b q k v := by
  have hs : ∀ j, IsReal (refScore b q k j) := fun j =>
    msk_real _ _ ((IsReal.sum fun d => (hq d).mul (hk j d)).mul isReal_SC)
  have he : ∀ j, msk (b j) (∑ d, (q d * SC) * k j d) = refScore b q k j := fun j => by
    rw [scale_out q (k j) hq (hk j)]; rfl
  unfold kerHead
  simp only [he]
  exact softmax_shift (n := 1023) (refScore b q k) hs _ (isReal_max (n := 1023) _ hs) v

end Cert.Attn

end
-- ==== Proof.KerVal.lean ====
/-
  The kernel's result at an index, over the extended reals: the mask is the condition on block numbers, each column of a
  context is one row of one head, and the sums that go round the ring are sums over the devices.
-/
module

public import proofs.«01_k».proof.Proof.Values
public import proofs.«01_k».proof.Proof.Attn

@[expose] public section

set_option maxRecDepth 16384

noncomputable section

namespace Cert.KernelIdeal.Hand

open Cert.KernelIdeal Cert.KernelIdeal.Gen Idealize.ShloMosaic Cert.Attn

/-! ## The mask -/

/-- The block number of key `j`. -/
theorem pay4_apply (r : Fin 256) (j : Fin 1024) : k0_pay4 (ix2 r j) = BitVec.ofNat 32 (j.val / 64) := by
  pointwise [k0_pay4]
  revert j; decide +kernel

/-- The block number of row `r` of a chunk. -/
theorem pay7_apply (c : Dev nD) (s : Fin 4) (r : Fin 256) (j : Fin 1024) :
    k0_pay7 rowIota (rowBase c (slotWord s)) (ix2 r j) = BitVec.ofNat 32 ((256 * (chunk c s).val + r.val) / 64) := by
  pointwise [k0_pay7, rowIota, rowBase]
  revert c s r; decide +kernel

/-- The remainder by three of the sum of two block numbers, compared with zero. -/
theorem pay9_apply (a b c : IVec S256x1024 32) (r : Fin 256) (j : Fin 1024) (p q : Fin 16)
    (hp : k0_pay7 b c (ix2 r j) = BitVec.ofNat 32 p.val) (hq : a (ix2 r j) = BitVec.ofNat 32 q.val) :
    IntOp.cmpi .eq (k0_pay9 a b c (ix2 r j)) 0#32 = BitVec.ofBool (decide ((p.val + q.val) % 3 = 0)) := by
  pointwise [k0_pay9]
  rw [hp, hq]
  clear hp hq; revert p q; decide +kernel

/-- The comparisons of block numbers, joined. -/
theorem join_bits (p q : Fin 16) :
    IntOp.ori (IntOp.ori (IntOp.cmpi .eq (BitVec.ofNat 32 p.val) (BitVec.ofNat 32 q.val)) (IntOp.cmpi .eq (BitVec.ofNat 32 q.val) 0#32))
        (BitVec.ofBool (decide ((p.val + q.val) % 3 = 0)))
      = BitVec.ofBool (decide (p.val = q.val) || decide (q.val = 0) || decide ((p.val + q.val) % 3 = 0)) := by
  revert p q; decide +kernel

theorem chunk_row_lt (q : Dev nD) (r : Fin 256) : 256 * q.val + r.val < 1024 := by
  have := q.isLt; change q.val < 4 at this; omega

/-- The mask of a chunk. -/
theorem maskV_apply (c : Dev nD) (s : Fin 4) (r : Fin 256) (j : Fin 1024) :
    maskV c s (ix2 r j) = BitVec.ofBool (att (256 * (chunk c s).val + r.val) j.val) := by
  have hr := chunk_row_lt (chunk c s) r
  have h7 := pay7_apply c s r j
  have h4 := pay4_apply r j
  have h9 := pay9_apply k0_pay4 rowIota (rowBase c (slotWord s)) r j ⟨(256 * (chunk c s).val + r.val) / 64, by omega⟩ ⟨j.val / 64, by omega⟩ h7 h4
  have hj := join_bits ⟨(256 * (chunk c s).val + r.val) / 64, by omega⟩ ⟨j.val / 64, by omega⟩
  pointwise [maskV, k0_pay10, k0_pay8]
  rw [h9, h7, h4]
  exact hj

/-! ## One head -/

/-- One head at an index. -/
theorem headV_apply (q : FVec Ideal S256x128 .bf16) (mk : IVec S256x1024 1) (k v : Vec Ideal S1024x128 .bf16) (r : Fin 256) (d : Fin 128)
    (b : Fin 1024 → Bool) (q' : Fin 128 → EReal) (hb : ∀ j, mk (ix2 r j) = BitVec.ofBool (b j)) (hq : ∀ e, q (ix2 r e) = q' e * SC) :
    headV q mk k v (ix2 r d) = kerHead b q' (fun j e => k (ix2 j e)) (fun j => v (ix2 j d)) := by
  pointwise [headV]
  simp only [hb, hq]
  rfl

/-! ## Blocks at an index -/

/-- A block of a two-axis array, at an index. -/
theorem emb2 {a b m n : ℕ} (off : Fin 2 → ℕ) (o p : ℕ) (ho : off = ![o, p])
    (inb : ∀ x, off x + (![m, n] : Fin 2 → ℕ) x ≤ (⟨2, ![a, b]⟩ : Shape).size x)
    (r : Fin m) (l : Fin n) (hr : o + r.val < a) (hl : p + l.val < b) :
    (Rect.unit (s := ⟨2, ![a, b]⟩) off ![m, n] inb).emb (ix2 r l) = ix2 ⟨o + r.val, hr⟩ ⟨p + l.val, hl⟩ := by
  subst ho
  funext x
  apply Fin.ext
  rw [Rect.emb_apply]
  match x with
  | 0 => exact congrArg (o + ·) (Nat.one_mul _)
  | 1 => exact congrArg (p + ·) (Nat.one_mul _)

theorem colOf_apply {α : Type} (h : Fin 8) (Y : S1024x1024.Idx → α) (j : Fin 1024) (e : Fin 128) :
    colOf h Y (ix2 j e) = Y (ix2 j ⟨128 * h.val + e.val, by omega⟩) := by
  unfold colOf
  refine congrArg Y ((emb2 _ 0 (128 * h.val) rfl (inb_col h) j e (by omega) (by omega)).trans ?_)
  congr 1
  exact Fin.ext (Nat.zero_add _)

theorem half_apply (h : Fin 2) (W : S1x256x1024.Idx → Ideal .bf16) (r : Fin 256) (n : Fin 512) :
    half h W (ix3 0 r n) = W (ix3 0 r ⟨512 * h.val + n.val, by omega⟩) := by
  unfold half
  refine congrArg W ?_
  funext x
  apply Fin.ext
  rw [Rect.emb_apply]
  match x with
  | 0 => rfl
  | 1 => exact (Nat.zero_add _).trans (Nat.one_mul _)
  | 2 => exact congrArg (512 * h.val + ·) (Nat.one_mul _)

theorem qh_apply (h : Fin 8) (qc : FVec Ideal S256x1024 .bf16) (r : Fin 256) (e : Fin 128) :
    qh h qc (ix2 r e) = qc (ix2 r ⟨128 * h.val + e.val, by omega⟩) := by
  pointwise [qh]

/-! ## The devices' contents against whole arrays -/

/-- The devices hold blocks of whole arrays: everything but the keys and values whole, of these eight heads each. -/
structure Holds (D : Inp Ideal) (X : Fin 1024 → Fin 1024 → EReal) (WQ : Fin 1024 → Fin 4096 → EReal)
    (K V : Fin 1024 → Fin 32 → Fin 128 → EReal) (WO : Fin 4096 → Fin 1024 → EReal) : Prop where
  x : ∀ c (i l : Fin 1024), D.x c (ix2 i l) = X i l
  wq : ∀ c (l : Fin 1024) (n : Fin 4096), D.wq c (ix2 l n) = WQ l n
  k : ∀ (c : Dev nD) (j n : Fin 1024), D.k c (ix2 j n) = K j ⟨8 * c.val + n.val / 128, by have := c.isLt; change c.val < 4 at this; omega⟩ ⟨n.val % 128, by omega⟩
  v : ∀ (c : Dev nD) (j n : Fin 1024), D.v c (ix2 j n) = V j ⟨8 * c.val + n.val / 128, by have := c.isLt; change c.val < 4 at this; omega⟩ ⟨n.val % 128, by omega⟩
  wo : ∀ c (m : Fin 4096) (n : Fin 1024), D.wo c (ix2 m n) = WO m n

/-- Row `i` of column `n` of the context over all heads, as the kernel takes it. -/
def ctxK (X : Fin 1024 → Fin 1024 → EReal) (WQ : Fin 1024 → Fin 4096 → EReal) (K V : Fin 1024 → Fin 32 → Fin 128 → EReal)
    (i : Fin 1024) (n : Fin 4096) : EReal :=
  kerHead (fun j => att i.val j.val) (fun d => ∑ l : Fin 1024, X i l * WQ l ⟨n.val / 128 * 128 + d.val, by omega⟩)
    (fun j d => K j ⟨n.val / 128, by omega⟩ d) (fun j => V j ⟨n.val / 128, by omega⟩ ⟨n.val % 128, by omega⟩)

theorem dev_lt (c : Dev nD) : c.val < 4 := c.isLt

section
variable {D : Inp Ideal} {X : Fin 1024 → Fin 1024 → EReal} {WQ : Fin 1024 → Fin 4096 → EReal}
  {K V : Fin 1024 → Fin 32 → Fin 128 → EReal} {WO : Fin 4096 → Fin 1024 → EReal}

theorem rowsOf_apply (c : Dev nD) (s : Fin 4) (Y : S1024x1024.Idx → EReal) (r : Fin 256) (l : Fin 1024) :
    rowsOf c s Y (ix2 r l) = Y (ix2 ⟨256 * (chunk c s).val + r.val, chunk_row_lt _ r⟩ l) := by
  unfold rowsOf
  refine congrArg Y ((emb2 _ _ _ (off3_eq c s) (inb_row c s) r l (chunk_row_lt _ r) (by omega)).trans ?_)
  congr 1
  exact Fin.ext (Nat.zero_add _)

theorem wqf_apply (c : Dev nD) (l n : Fin 1024) :
    wqf D c (ix2 l n) = D.wq c (ix2 l ⟨1024 * c.val + n.val, by have := dev_lt c; omega⟩) := by
  unfold wqf
  refine congrArg (D.wq c) ((emb2 _ _ _ (off1_eq c) (k0_off1_inb c) l n (by omega) (by have := dev_lt c; omega)).trans ?_)
  congr 1
  exact Fin.ext (Nat.zero_add _)

theorem wof_apply (c : Dev nD) (m n : Fin 1024) :
    wof D c (ix2 m n) = D.wo c (ix2 ⟨1024 * c.val + m.val, by have := dev_lt c; omega⟩ n) := by
  unfold wof
  refine congrArg (D.wo c) ((emb2 _ _ _ (off2_eq c) (k0_off2_inb c) m n (by have := dev_lt c; omega) (by omega)).trans ?_)
  congr 1
  exact Fin.ext (Nat.zero_add _)

/-- The scaled queries at an index. -/
theorem qcV_apply (H : Holds D X WQ K V WO) (c : Dev nD) (s : Fin 4) (r : Fin 256) (n : Fin 1024) :
    qcV D c s (ix2 r n)
      = (∑ l : Fin 1024, X ⟨256 * (chunk c s).val + r.val, chunk_row_lt _ r⟩ l * WQ l ⟨1024 * c.val + n.val, by have := dev_lt c; omega⟩) * SC := by
  have hx := fun l => (rowsOf_apply c s (D.x c) r l).trans (H.x c _ l)
  have hw := fun l => (wqf_apply (D := D) c l n).trans (H.wq c l _)
  unfold qcV
  generalize rowsOf c s (D.x c) = xs at hx
  unfold wqb
  generalize wqf D c = w at hw
  pointwise [k0_pay5, k0_pay3, k0_pay2]
  simp only [hx, hw]
  rfl

/-- The context of a device's eight heads at an index: columns `1024 c` and on of the context over all heads. -/
theorem ctxV_apply (H : Holds D X WQ K V WO) (c : Dev nD) (s : Fin 4) (r : Fin 256) (n : Fin 1024) :
    ctxV D c s (ix2 r n)
      = ctxK X WQ K V ⟨256 * (chunk c s).val + r.val, chunk_row_lt _ r⟩ ⟨1024 * c.val + n.val, by have := dev_lt c; omega⟩ := by
  have hc := dev_lt c
  have hi : inHead (ix2 r n) = ix2 r (⟨n.val % 128, by omega⟩ : Fin 128) := by
    funext a; match a with
    | 0 => rfl
    | 1 => rfl
  have hh : headOf (ix2 r n) = ⟨n.val / 128, by omega⟩ := rfl
  show hd D c s (headOf (ix2 r n)) (inHead (ix2 r n)) = _
  rw [hi, hh]
  unfold hd
  rw [headV_apply _ _ _ _ r _ _ _ (fun j => maskV_apply c s r j) (fun e => (qh_apply _ _ r e).trans (qcV_apply H c s r _))]
  unfold ctxK
  congr 1
  · funext d
    refine Finset.sum_congr rfl fun l _ => ?_
    congr 2
    apply Fin.ext
    show 1024 * c.val + (128 * (n.val / 128) + d.val) = (1024 * c.val + n.val) / 128 * 128 + d.val
    omega
  · funext j d
    rw [colOf_apply, H.k]
    congr 1 <;> apply Fin.ext
    · show 8 * c.val + (128 * (n.val / 128) + d.val) / 128 = (1024 * c.val + n.val) / 128
      omega
    · show (128 * (n.val / 128) + d.val) % 128 = d.val
      omega
  · funext j
    rw [colOf_apply, H.v]
    congr 1 <;> apply Fin.ext
    · show 8 * c.val + (128 * (n.val / 128) + n.val % 128) / 128 = (1024 * c.val + n.val) / 128
      omega
    · show (128 * (n.val / 128) + n.val % 128) % 128 = (1024 * c.val + n.val) % 128
      omega

/-- Device `c`'s share of an element of the result. -/
def share (X : Fin 1024 → Fin 1024 → EReal) (WQ : Fin 1024 → Fin 4096 → EReal) (K V : Fin 1024 → Fin 32 → Fin 128 → EReal)
    (WO : Fin 4096 → Fin 1024 → EReal) (i n : Fin 1024) (c : Fin 4) : EReal :=
  ∑ m : Fin 1024, ctxK X WQ K V i ⟨1024 * c.val + m.val, by omega⟩ * WO ⟨1024 * c.val + m.val, by omega⟩ n

/-- A device's partial product at an index. -/
theorem partV_apply (H : Holds D X WQ K V WO) (c : Dev nD) (s : Fin 4) (r : Fin 256) (n : Fin 1024) :
    partV D c s (ix3 0 r n) = share X WQ K V WO ⟨256 * (chunk c s).val + r.val, chunk_row_lt _ r⟩ n c := by
  have hx := fun m => ctxV_apply H c s r m
  have hw := fun m => (wof_apply (D := D) c m n).trans (H.wo c _ n)
  unfold partV wob
  generalize ctxV D c s = C at hx
  generalize wof D c = w at hw
  pointwise [k0_pay24, k0_pay23]
  simp only [hx, hw]
  rfl

/-- The kernel's sum of two halves at an index. -/
theorem addV_apply (a b : Vec Ideal S1x256x512 .bf16) (r : Fin 256) (n : Fin 512) :
    addV a b (ix3 0 r n) = a (ix3 0 r n) + b (ix3 0 r n) := by
  pointwise [k0_pay51]

/-- What is written to the result, at an index. -/
theorem pay110_apply (Y : S1x256x512.Idx → Ideal .bf16) (r : Fin 256) (n : Fin 512) :
    k0_pay110 (flat Y) (ix2 r n) = Y (ix3 0 r n) := by
  pointwise [k0_pay110, flat]

/-- Half of a partial product, at an index. -/
theorem halfPart (H : Holds D X WQ K V WO) (h : Fin 2) (c : Dev nD) (s : Fin 4) (q : Dev nD) (hq : chunk c s = q) (r : Fin 256) (n : Fin 512) :
    half h (partV D c s) (ix3 0 r n) = share X WQ K V WO ⟨256 * q.val + r.val, chunk_row_lt _ r⟩ ⟨512 * h.val + n.val, by omega⟩ c := by
  subst hq
  rw [half_apply, partV_apply H]

/-- The left half of a chunk, summed over the devices as it went round. -/
theorem outL_apply (H : Holds D X WQ K V WO) (q : Dev nD) (r : Fin 256) (n : Fin 512) :
    outL D q (ix2 r n) = ∑ c : Fin 4, share X WQ K V WO ⟨256 * q.val + r.val, chunk_row_lt _ r⟩ ⟨n.val, by omega⟩ c := by
  have h0 : (⟨512 * (0 : Fin 2).val + n.val, by omega⟩ : Fin 1024) = ⟨n.val, by omega⟩ := Fin.ext (by simp)
  unfold outL
  rw [pay110_apply]
  unfold a2 a3 a1 a0
  rw [addV_apply, addV_apply, addV_apply,
    halfPart H 0 _ 2 q (by revert q; decide), halfPart H 0 _ 3 q (by revert q; decide), halfPart H 0 _ 1 q (by revert q; decide),
    halfPart H 0 _ 0 q (by revert q; decide), h0]
  generalize share X WQ K V WO ⟨256 * q.val + r.val, chunk_row_lt _ r⟩ ⟨n.val, by omega⟩ = f
  rw [Fin.sum_univ_four]
  match q with
  | 0 => show f 3 + (f 2 + (f 1 + f 0)) = _; ac_rfl
  | 1 => show f 0 + (f 3 + (f 2 + f 1)) = _; ac_rfl
  | 2 => show f 1 + (f 0 + (f 3 + f 2)) = _; ac_rfl
  | 3 => show f 2 + (f 1 + (f 0 + f 3)) = _; ac_rfl

/-- The right half of a chunk, summed over the devices as it went round the other way. -/
theorem outR_apply (H : Holds D X WQ K V WO) (q : Dev nD) (r : Fin 256) (n : Fin 512) :
    outR D q (ix2 r n) = ∑ c : Fin 4, share X WQ K V WO ⟨256 * q.val + r.val, chunk_row_lt _ r⟩ ⟨512 + n.val, by omega⟩ c := by
  have h0 : (⟨512 * (1 : Fin 2).val + n.val, by omega⟩ : Fin 1024) = ⟨512 + n.val, by omega⟩ := Fin.ext (by simp)
  unfold outR
  rw [pay110_apply]
  unfold b1 b3 b2 b0
  rw [addV_apply, addV_apply, addV_apply,
    halfPart H 1 _ 1 q (by revert q; decide), halfPart H 1 _ 3 q (by revert q; decide), halfPart H 1 _ 2 q (by revert q; decide),
    halfPart H 1 _ 0 q (by revert q; decide), h0]
  generalize share X WQ K V WO ⟨256 * q.val + r.val, chunk_row_lt _ r⟩ ⟨512 + n.val, by omega⟩ = f
  rw [Fin.sum_univ_four]
  match q with
  | 0 => show f 1 + (f 2 + (f 3 + f 0)) = _; ac_rfl
  | 1 => show f 2 + (f 3 + (f 0 + f 1)) = _; ac_rfl
  | 2 => show f 3 + (f 0 + (f 1 + f 2)) = _; ac_rfl
  | 3 => show f 0 + (f 1 + (f 2 + f 3)) = _; ac_rfl

/-- Four sums over 1024 places are one over 4096. -/
theorem sum_blocks (f : Fin 4096 → EReal) : ∑ c : Fin 4, ∑ m : Fin 1024, f ⟨1024 * c.val + m.val, by omega⟩ = ∑ m : Fin 4096, f m := by
  refine (Fintype.sum_prod_type' (fun (c : Fin 4) (m : Fin 1024) => f ⟨1024 * c.val + m.val, by omega⟩)).symm.trans ?_
  refine Fintype.sum_equiv (finProdFinEquiv (m := 4) (n := 1024)) _ _ fun p => ?_
  refine congrArg f (Fin.ext ?_)
  show 1024 * p.1.val + p.2.val = p.2.val + 1024 * p.1.val
  omega

/-- The kernel's result at an index. -/
theorem outV_apply (H : Holds D X WQ K V WO) (i n : Fin 1024) :
    outV D (ix2 i n) = ∑ m : Fin 4096, ctxK X WQ K V i m * WO m n := by
  rw [← sum_blocks fun m => ctxK X WQ K V i m * WO m n]
  have hb : inBlk (ix2 i n) = ix2 (⟨i.val % 256, by omega⟩ : Fin 256) (⟨n.val % 512, by omega⟩ : Fin 512) := by
    funext a; match a with
    | 0 => rfl
    | 1 => rfl
  have hi : (⟨256 * (rowBlk (ix2 i n)).val + i.val % 256, chunk_row_lt _ ⟨i.val % 256, by omega⟩⟩ : Fin 1024) = i :=
    Fin.ext (show 256 * (i.val / 256) + i.val % 256 = i.val by omega)
  show (if n.val < 512 then outL D (rowBlk (ix2 i n)) (inBlk (ix2 i n)) else outR D (rowBlk (ix2 i n)) (inBlk (ix2 i n))) = _
  rw [hb]
  split
  · rename_i hn
    have hn' : (⟨n.val % 512, by omega⟩ : Fin 1024) = n := Fin.ext (show n.val % 512 = n.val by omega)
    rw [outL_apply H]
    show ∑ c : Fin 4, share X WQ K V WO ⟨256 * (rowBlk (ix2 i n)).val + i.val % 256, _⟩ ⟨n.val % 512, _⟩ c = _
    rw [hi, hn']
    rfl
  · rename_i hn
    have hn' : (⟨512 + n.val % 512, by omega⟩ : Fin 1024) = n := Fin.ext (show 512 + n.val % 512 = n.val by omega)
    rw [outR_apply H]
    show ∑ c : Fin 4, share X WQ K V WO ⟨256 * (rowBlk (ix2 i n)).val + i.val % 256, _⟩ ⟨512 + n.val % 512, _⟩ c = _
    rw [hi, hn']
    rfl

end

end Cert.KernelIdeal.Hand

end
-- ==== Proof.Ref.lean ====
/-
  The reference's result in named stages: block numbers, the mask, the scores, the weights, the context, the product
  with the output weights. The run of the reference ends with their composition.
-/
module

public import proofs.«01_k».proof.Proof.Gen.ReferenceIdeal.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The block number of each of 1024 positions: the position floor-divided by 64. -/
def blocks : IVec S1024 32 :=
  have x : IVec S1024 32 := iotaInDim S1024 32 0
  have d : IVec S_ 32 := id (constantI S_ 32 64#32)
  have q : IVec S1024 32 := Host.divsi x (broadcastInDim S1024 ![] bcast_S_S1024 d)
  select (andi (cmpi .ne (signi x) (broadcastInDim S1024 ![] bcast_S_S1024 (signi d)))
      (cmpi .ne (Host.remsi x (broadcastInDim S1024 ![] bcast_S_S1024 d)) (broadcastInDim S1024 ![] bcast_S_S1024 (constantI S_ 32 0#32))))
    (subi q (broadcastInDim S1024 ![] bcast_S_S1024 (constantI S_ 32 1#32))) q

/-- The rows' and the keys' block numbers, spread over all pairs. -/
def keyBlk : IVec S1x1024 32 := broadcastInDim S1x1024 ![1] bcast_S1024_S1x1024_1 blocks
def rowBlks : IVec S1024x1024 32 := broadcastInDim S1024x1024 ![0, 1] bcast_S1024x1_S1024x1024_0_1 (broadcastInDim S1024x1 ![0] bcast_S1024_S1024x1_0 blocks)
def keyBlks : IVec S1024x1024 32 := broadcastInDim S1024x1024 ![0, 1] bcast_S1x1024_S1024x1024_0_1 keyBlk

/-- The remainder by three, of the sign of the divisor. -/
def modThree (n : IVec S1024x1024 32) : IVec S1024x1024 32 :=
  have d3 : IVec S_ 32 := id (constantI S_ 32 3#32)
  have d : IVec S_ 32 := select (cmpi .eq d3 (constantI S_ 32 0#32)) (constantI S_ 32 1#32) d3
  have r : IVec S1024x1024 32 := Host.remsi n (broadcastInDim S1024x1024 ![] bcast_S_S1024x1024 d)
  select (andi (cmpi .ne (cmpi .slt r (broadcastInDim S1024x1024 ![] bcast_S_S1024x1024 (constantI S_ 32 0#32)))
        (broadcastInDim S1024x1024 ![] bcast_S_S1024x1024 (cmpi .slt d (constantI S_ 32 0#32))))
      (cmpi .ne r (broadcastInDim S1024x1024 ![] bcast_S_S1024x1024 (constantI S_ 32 0#32))))
    (addi r (broadcastInDim S1024x1024 ![] bcast_S_S1024x1024 d)) r

/-- Which keys each row attends to. -/
def maskR : IVec S1024x1024 1 :=
  ori (ori (cmpi .eq rowBlks keyBlks)
      (broadcastInDim S1024x1024 ![0, 1] bcast_S1x1024_S1024x1024_0_1
        (cmpi .eq keyBlk (broadcastInDim S1x1024 ![] bcast_S_S1x1024 (constantI S_ 32 0#32)))))
    (cmpi .eq (modThree (addi rowBlks keyBlks)) (broadcastInDim S1024x1024 ![] bcast_S_S1024x1024 (constantI S_ 32 0#32)))

/-- The queries, by heads. -/
def queries (x : FVec F S1x1024x1024 .f32) (wq : FVec F S1024x4096 .f32) : FVec F S1x1024x32x128 .f32 :=
  shapeCast S1x1024x32x128 (Host.dotGeneral dot_S1x1024x1024_S1024x4096_S1x1024x4096_2_0_01_1_n_n none x wq) shapeCasts_S1x1024x4096_S1x1024x32x128

/-- The scaled scores, masked. -/
def scores (mk : IVec S1024x1024 1) (q k : FVec F S1x1024x32x128 .f32) : FVec F S1x32x1024x1024 .f32 :=
  select (broadcastInDim S1x32x1024x1024 ![0, 1, 2, 3] bcast_S1x1x1024x1024_S1x32x1024x1024_0_1_2_3
      (broadcastInDim S1x1x1024x1024 ![2, 3] bcast_S1024x1024_S1x1x1024x1024_2_3 mk))
    (mulf (Host.dotGeneral dot_S1x1024x32x128_S1x1024x32x128_S1x32x1024x1024_3_3_1_1_02_02 none q k)
      (broadcastInDim S1x32x1024x1024 ![] bcast_S_S1x32x1024x1024 (constant S_ .f32 0x3DB504F3#32)))
    (broadcastInDim S1x32x1024x1024 ![] bcast_S_S1x32x1024x1024 (id (constant S_ .f32 0xCE6E6B28#32)))

/-- The exponentials of the scores less their row's maximum. -/
def expo (s : FVec F S1x32x1024x1024 .f32) : FVec F S1x32x1024x1024 .f32 :=
  Host.exp (subf s (broadcastInDim S1x32x1024x1024 ![0, 1, 2, 3] bcast_S1x32x1024x1_S1x32x1024x1024_0_1_2_3
    (broadcastInDim S1x32x1024x1 ![0, 1, 2] bcast_S1x32x1024_S1x32x1024x1_0_1_2
      (Host.reduce FloatOps.maximumf s (constant S_ .f32 0xFF800000#32) reducesTo_S1x32x1024x1024_S1x32x1024_d3 h_S_))))

/-- Whether a row attends to any key. -/
def keep (mk : IVec S1024x1024 1) : IVec S1x1x1024x1 1 :=
  broadcastInDim S1x1x1024x1 ![2] bcast_S1024_S1x1x1024x1_2
    (Host.reduce IntOp.ori mk (constantI S_ 1 0#1) reducesTo_S1024x1024_S1024_d1 h_S_)

/-- The attention weights. -/
def weights (mk : IVec S1024x1024 1) (e : FVec F S1x32x1024x1024 .f32) : FVec F S1x32x1024x1024 .f32 :=
  select (broadcastInDim S1x32x1024x1024 ![0, 1, 2, 3] bcast_S1x1x1024x1_S1x32x1024x1024_0_1_2_3 (keep mk))
    (Host.divf e (broadcastInDim S1x32x1024x1024 ![0, 1, 2, 3] bcast_S1x32x1024x1_S1x32x1024x1024_0_1_2_3
      (select (broadcastInDim S1x32x1024x1 ![0, 1, 2, 3] bcast_S1x1x1024x1_S1x32x1024x1_0_1_2_3 (keep mk))
        (broadcastInDim S1x32x1024x1 ![0, 1, 2] bcast_S1x32x1024_S1x32x1024x1_0_1_2
          (Host.reduceAdd e (constant S_ .f32 0x00000000#32) reducesTo_S1x32x1024x1024_S1x32x1024_d3 h_S_))
        (broadcastInDim S1x32x1024x1 ![] bcast_S_S1x32x1024x1 (id (constant S_ .f32 0x3F800000#32))))))
    (broadcastInDim S1x32x1024x1024 ![] bcast_S_S1x32x1024x1024 (id (constant S_ .f32 0x00000000#32)))

/-- The context: the weighted values, the heads side by side. -/
def context (w : FVec F S1x32x1024x1024 .f32) (v : FVec F S1x1024x32x128 .f32) : FVec F S1x1024x4096 .f32 :=
  shapeCast S1x1024x4096
    (transpose S1x1024x32x128 [0, 3, 1, 2] (Host.dotGeneral dot_S1x1024x32x128_S1x32x1024x1024_S1x32x128x1024_1_3_3_2_02_01 none v w)
      transposes_S1x32x128x1024_S1x1024x32x128_0_3_1_2)
    shapeCasts_S1x1024x32x128_S1x1024x4096

/-- The reference's result. -/
def refOut (x : FVec F S1x1024x1024 .f32) (wq : FVec F S1024x4096 .f32) (k v : FVec F S1x1024x32x128 .f32) (wo : FVec F S4096x1024 .f32) :
    FVec F S1x1024x1024 .f32 :=
  Host.dotGeneral dot_S1x1024x4096_S4096x1024_S1x1024x1024_2_0_01_1_n_n none
    (context (weights maskR (expo (scores maskR (queries x wq) k))) v) wo

set_option maxRecDepth 100000 in
/-- The run's composed term is the stages' composition. -/
theorem res_eq (m : (ℓ : Loc nD τ sig) → Buf (Elt F) ℓ) (c : Dev nD) :
    Value.res_main_v44 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.ReferenceIdeal.Hand

end
-- ==== Proof.RefVal.lean ====
/-
  The reference at an index, over the extended reals: its mask is the condition on block numbers, every row attends to
  some key, and its context is one row of one head.
-/
module

public import proofs.«01_k».proof.Proof.Ref
public import proofs.«01_k».proof.Proof.Attn
public import Idealize.ShloMosaic.Lib.Routing.OpsOrder

@[expose] public section

set_option maxRecDepth 16384

noncomputable section

namespace Cert.ReferenceIdeal.Hand

open Cert.ReferenceIdeal Cert.ReferenceIdeal.Gen Idealize.ShloMosaic Cert.Attn

/-- The block number of position `i` is `i / 64`. -/
theorem blocks_apply (i : Fin 1024) : blocks (ix1 i) = BitVec.ofNat 32 (i.val / 64) := by
  pointwise [blocks]
  revert i; decide +kernel

/-- The remainder by three of a sum of two block numbers, compared with zero. -/
theorem mod_apply (n : IVec S1024x1024 32) (i j : Fin 1024) (p q : Fin 16) (hn : n (ix2 i j) = BitVec.ofNat 32 p.val + BitVec.ofNat 32 q.val) :
    IntOp.cmpi .eq (modThree n (ix2 i j)) 0#32 = BitVec.ofBool (decide ((p.val + q.val) % 3 = 0)) := by
  pointwise [modThree]
  rw [hn]
  clear hn; revert p q; decide +kernel

/-- The comparisons of block numbers, joined. -/
theorem join_bits (p q : Fin 16) :
    IntOp.ori (IntOp.ori (IntOp.cmpi .eq (BitVec.ofNat 32 p.val) (BitVec.ofNat 32 q.val)) (IntOp.cmpi .eq (BitVec.ofNat 32 q.val) 0#32))
        (BitVec.ofBool (decide ((p.val + q.val) % 3 = 0)))
      = BitVec.ofBool (decide (p.val = q.val) || decide (q.val = 0) || decide ((p.val + q.val) % 3 = 0)) := by
  revert p q; decide +kernel

/-- The mask. -/
theorem maskR_apply (i j : Fin 1024) : maskR (ix2 i j) = BitVec.ofBool (att i.val j.val) := by
  have hn : addi rowBlks keyBlks (ix2 i j) = BitVec.ofNat 32 (⟨i.val / 64, by omega⟩ : Fin 16).val + BitVec.ofNat 32 (⟨j.val / 64, by omega⟩ : Fin 16).val := by
    pointwise [rowBlks, keyBlks, keyBlk]
    rw [blocks_apply, blocks_apply]; rfl
  have hm := mod_apply (addi rowBlks keyBlks) i j _ _ hn
  have hj := join_bits ⟨i.val / 64, by omega⟩ ⟨j.val / 64, by omega⟩
  generalize hN : addi rowBlks keyBlks = N at hm
  unfold maskR
  rw [hN]
  pointwise [rowBlks, keyBlks, keyBlk]
  rw [hm, blocks_apply, blocks_apply]
  exact hj

/-- The queries, at an index. -/
theorem queries_apply (x : FVec Ideal S1x1024x1024 .f32) (wq : FVec Ideal S1024x4096 .f32) (i : Fin 1024) (h : Fin 32) (d : Fin 128) :
    queries x wq (ix4 0 i h d) = ∑ k : Fin 1024, x (ix3 0 i k) * wq (ix2 k ⟨h.val * 128 + d.val, by omega⟩) := by
  pointwise [queries]

/-- The masked scores, at an index. -/
theorem scores_apply (q k : FVec Ideal S1x1024x32x128 .f32) (h : Fin 32) (i j : Fin 1024) :
    scores maskR q k (ix4 0 h i j)
      = refScore (fun j => att i.val j.val) (fun d => q (ix4 0 i h d)) (fun j d => k (ix4 0 j h d)) j := by
  pointwise [scores]
  rw [maskR_apply]
  rfl

/-- The exponentials, at an index. -/
theorem expo_apply (q k : FVec Ideal S1x1024x32x128 .f32) (h : Fin 32) (i j : Fin 1024) :
    expo (scores maskR q k) (ix4 0 h i j)
      = refExp (fun j => att i.val j.val) (fun d => q (ix4 0 i h d)) (fun j d => k (ix4 0 j h d)) j := by
  have hs := scores_apply q k h i
  generalize scores maskR q k = s at hs
  pointwise [expo]
  simp only [hs]
  rfl

/-- Every row attends to some key: the first. -/
theorem keep_apply (i : Fin 1024) : keep maskR (ix4 0 0 i 0) = 1#1 := by
  have h := maskR_apply i 0
  generalize maskR = mk at h
  pointwise [keep]
  rw [Routing.fold_ori]
  exact ⟨0, Finset.mem_univ _, by rw [h]; simp [att]⟩

/-- The weights, at an index. -/
theorem weights_apply (e : FVec Ideal S1x32x1024x1024 .f32) (h : Fin 32) (i j : Fin 1024) :
    weights maskR e (ix4 0 h i j) = Ideal.div (e (ix4 0 h i j)) (∑ x, e (ix4 0 h i x)) := by
  have hk := keep_apply i
  generalize maskR = mk at hk
  pointwise [weights]
  rw [hk]
  rfl

/-- The context, at an index: one row of one head. -/
theorem context_apply (x : FVec Ideal S1x1024x1024 .f32) (wq : FVec Ideal S1024x4096 .f32) (k v : FVec Ideal S1x1024x32x128 .f32)
    (i : Fin 1024) (n : Fin 4096) :
    context (weights maskR (expo (scores maskR (queries x wq) k))) v (ix3 0 i n)
      = refHead (fun j => att i.val j.val)
          (fun d => ∑ l : Fin 1024, x (ix3 0 i l) * wq (ix2 l ⟨n.val / 128 * 128 + d.val, by omega⟩))
          (fun j d => k (ix4 0 j ⟨n.val / 128, by omega⟩ d))
          (fun j => v (ix4 0 j ⟨n.val / 128, by omega⟩ ⟨n.val % 128, by omega⟩)) := by
  have hw := fun h j => weights_apply (expo (scores maskR (queries x wq) k)) h i j
  have he := fun h j => expo_apply (queries x wq) k h i j
  have hq := fun h d => queries_apply x wq i h d
  generalize expo (scores maskR (queries x wq) k) = e at hw he
  generalize weights maskR e = w at hw
  generalize queries x wq = q at he hq
  pointwise [context]
  simp only [hw, he, hq]
  rfl

/-- The reference's result, at an index. -/
theorem refOut_apply (x : FVec Ideal S1x1024x1024 .f32) (wq : FVec Ideal S1024x4096 .f32) (k v : FVec Ideal S1x1024x32x128 .f32)
    (wo : FVec Ideal S4096x1024 .f32) (i n : Fin 1024) :
    refOut x wq k v wo (ix3 0 i n)
      = ∑ c : Fin 4096, refHead (fun j => att i.val j.val)
          (fun d => ∑ l : Fin 1024, x (ix3 0 i l) * wq (ix2 l ⟨c.val / 128 * 128 + d.val, by omega⟩))
          (fun j d => k (ix4 0 j ⟨c.val / 128, by omega⟩ d))
          (fun j => v (ix4 0 j ⟨c.val / 128, by omega⟩ ⟨c.val % 128, by omega⟩)) * wo (ix2 c n) := by
  have hc := context_apply x wq k v i
  unfold refOut
  generalize context (weights maskR (expo (scores maskR (queries x wq) k))) v = C at hc
  pointwise
  simp only [hc]

end Cert.ReferenceIdeal.Hand

end
-- ==== Proof.Value.lean ====
/-
  The claim about values: on devices that hold blocks of finite arrays, the kernel's result is the reference's.
-/
module

public import proofs.«01_k».proof.Proof.Result
public import proofs.«01_k».proof.Proof.KerVal
public import proofs.«01_k».proof.Proof.RefVal
public import proofs.«01_k».proof.Proof.Gen.Pre_finite_KernelIdeal
public import Idealize.ShloMosaic.Lib.ReduceAll
public import Idealize.ShloMosaic.Lib.Layout

@[expose] public section

set_option maxRecDepth 16384

noncomputable section

namespace Cert.Attn

open Idealize.ShloMosaic

/-- A number whose magnitude compares below infinity is real. -/
theorem isReal_of_lt (a : EReal) (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  have hl : max a (-a) < ⊤ := by
    by_contra hn
    simp [Ideal.cmp, hn] at h
  induction a using EReal.rec with
  | bot => simp at hl
  | top => simp at hl
  | coe r => exact .coe r

end Cert.Attn

namespace Cert.Pre_finite_KernelIdeal.Hand

open Idealize.ShloMosaic Cert.Attn

instance : Subsingleton S_.Idx := ⟨fun a b => funext fun i => i.elim0⟩

/-- The precondition read back: every element of the three arrays is real. -/
theorem real_of_pre (a0 : FVec Ideal S1x1024x1024 .f32) (a1 : FVec Ideal S1024x4096 .f32) (a2 a3 : FVec Ideal S1x1024x8x128 .f32)
    (a4 : FVec Ideal S4096x1024 .f32) (h : fn (F := Ideal) a0 a1 a2 a3 a4 = fun _ => 1#1) :
    (∀ i, IsReal (a0 i)) ∧ (∀ i, IsReal (a1 i)) ∧ ∀ i, IsReal (a2 i) := by
  have h0 := congrFun h ix0
  obtain ⟨h01, h2⟩ := IntOp.andi_eq_one.1 h0
  obtain ⟨h0, h1⟩ := IntOp.andi_eq_one.1 h01
  exact ⟨fun i => isReal_of_lt _ (Host.reduce_andi_all _ _ _ _ _ h0 i), fun i => isReal_of_lt _ (Host.reduce_andi_all _ _ _ _ _ h1 i),
    fun i => isReal_of_lt _ (Host.reduce_andi_all _ _ _ _ _ h2 i)⟩

end Cert.Pre_finite_KernelIdeal.Hand

namespace Cert.KernelIdeal.Hand

open Cert.KernelIdeal Cert.KernelIdeal.Gen Idealize.ShloMosaic Cert.Attn

variable (m : (ℓ : Loc nD τ sig) → Buf (Elt Ideal) ℓ)

/-- What the kernel works on, from the program's arguments: its first input without the batch axis; -/
theorem inp_x (c : Dev nD) : (inp m).x c = shapeCast S1024x1024 (m ((c.tc : Thread nD τ).loc main_arg0)) shapeCasts_S1x1024x1024_S1024x1024 := by
  show V₁ m c (Proc.devRef .tc main_v1) = _
  unfold V₁ hostOps0
  after_results_simp
  rfl

/-- the keys, the heads side by side; -/
theorem inp_k (c : Dev nD) : (inp m).k c
    = truncf (F := Ideal) .bf16 (shapeCast S1024x1024 (m ((c.tc : Thread nD τ).loc main_arg2)) shapeCasts_S1x1024x8x128_S1024x1024 : FVec Ideal S1024x1024 .f32) bitsLt_bf16_f32 := by
  show V₁ m c (Proc.devRef .tc main_v3) = _
  unfold V₁ hostOps0
  after_results_simp
  rfl

/-- the values likewise; -/
theorem inp_v (c : Dev nD) : (inp m).v c
    = truncf (F := Ideal) .bf16 (shapeCast S1024x1024 (m ((c.tc : Thread nD τ).loc main_arg3)) shapeCasts_S1x1024x8x128_S1024x1024 : FVec Ideal S1024x1024 .f32) bitsLt_bf16_f32 := by
  show V₁ m c (Proc.devRef .tc main_v5) = _
  unfold V₁ hostOps0
  after_results_simp
  rfl

/-- and the two weights as they are. -/
theorem inp_wq (c : Dev nD) : (inp m).wq c = m ((c.tc : Thread nD τ).loc main_arg1) := by
  show V₁ m c (Proc.devRef .tc main_arg1) = _
  unfold V₁ hostOps0
  after_results_simp
  rfl

theorem inp_wo (c : Dev nD) : (inp m).wo c = m ((c.tc : Thread nD τ).loc main_arg4) := by
  show V₁ m c (Proc.devRef .tc main_arg4) = _
  unfold V₁ hostOps0
  after_results_simp
  rfl

/-- An array without its batch axis, at an index. -/
theorem cast_x (a : FVec Ideal S1x1024x1024 .f32) (i l : Fin 1024) :
    shapeCast S1024x1024 a shapeCasts_S1x1024x1024_S1024x1024 (ix2 i l) = a (ix3 0 i l) := by
  pointwise

/-- The batch axis put back, at an index. -/
theorem cast_out (a : FVec Ideal S1024x1024 .f32) (i l : Fin 1024) :
    shapeCast S1x1024x1024 a shapeCasts_S1024x1024_S1x1024x1024 (ix3 0 i l) = a (ix2 i l) := by
  pointwise

/-- Eight heads side by side, at an index. -/
theorem cast_k (a : FVec Ideal S1x1024x8x128 .f32) (j n : Fin 1024) :
    truncf (F := Ideal) .bf16 (shapeCast S1024x1024 a shapeCasts_S1x1024x8x128_S1024x1024) bitsLt_bf16_f32 (ix2 j n)
      = a (ix4 0 j ⟨n.val / 128, by omega⟩ ⟨n.val % 128, by omega⟩) := by
  pointwise

/-- Device `c`'s heads of an array over all heads. -/
theorem block_heads (c : Fin 4) (a : FVec Ideal ⟨4, ![1, 1024, 32, 128]⟩ .f32) (j : Fin 1024) (g : Fin 8) (d : Fin 128) :
    Layout.block ⟨4, ![1, 1024, 8, 128]⟩ ⟨4, ![1, 1024, 32, 128]⟩ 2 4 c a (by decide) (ix4 0 j g d)
      = a (ix4 0 j ⟨8 * c.val + g.val, by omega⟩ d) := by
  rw [Layout.block_apply]
  refine congrArg a (funext fun b => Fin.ext ?_)
  rw [Layout.Tiles.idx_val]
  match b with
  | 0 => rfl
  | 1 => rfl
  | 2 => show c.val * 8 + g.val = 8 * c.val + g.val; omega
  | 3 => rfl

/-- The devices' arguments are blocks of the five whole arrays. -/
structure Given (x : FVec Ideal S1x1024x1024 .f32) (wq : FVec Ideal S1024x4096 .f32) (k v : FVec Ideal ⟨4, ![1, 1024, 32, 128]⟩ .f32)
    (wo : FVec Ideal S4096x1024 .f32) : Prop where
  x : ∀ c : Dev nD, m ((c.tc : Thread nD τ).loc main_arg0) = x
  wq : ∀ c : Dev nD, m ((c.tc : Thread nD τ).loc main_arg1) = wq
  k : ∀ c : Dev nD, m ((c.tc : Thread nD τ).loc main_arg2) = Layout.block ⟨4, ![1, 1024, 8, 128]⟩ ⟨4, ![1, 1024, 32, 128]⟩ 2 4 c k (by decide)
  v : ∀ c : Dev nD, m ((c.tc : Thread nD τ).loc main_arg3) = Layout.block ⟨4, ![1, 1024, 8, 128]⟩ ⟨4, ![1, 1024, 32, 128]⟩ 2 4 c v (by decide)
  wo : ∀ c : Dev nD, m ((c.tc : Thread nD τ).loc main_arg4) = wo

section
variable {m : (ℓ : Loc nD τ sig) → Buf (Elt Ideal) ℓ} {x : FVec Ideal S1x1024x1024 .f32} {wq : FVec Ideal S1024x4096 .f32}
  {k v : FVec Ideal ⟨4, ![1, 1024, 32, 128]⟩ .f32} {wo : FVec Ideal S4096x1024 .f32}

/-- Then the kernel works on blocks of those arrays. -/
theorem holds_inp (G : Given m x wq k v wo) : Holds (inp m) (fun i l => x (ix3 0 i l)) (fun l n => wq (ix2 l n))
    (fun j h d => k (ix4 0 j h d)) (fun j h d => v (ix4 0 j h d)) (fun n o => wo (ix2 n o)) where
  x c i l := by rw [inp_x, G.x]; exact cast_x x i l
  wq c l n := by rw [inp_wq, G.wq]
  k c j n := by rw [inp_k, G.k]; exact (cast_k _ j n).trans (block_heads c k j _ _)
  v c j n := by rw [inp_v, G.v]; exact (cast_k _ j n).trans (block_heads c v j _ _)
  wo c n o := by rw [inp_wo, G.wo]

/-- If every device's arguments satisfy the precondition, the whole arrays are real: a head of the keys is on one of the
    devices. -/
theorem real_given (G : Given m x wq k v wo)
    (P : ∀ c : Dev nD, Cert.Pre_finite_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    (∀ i, IsReal (x i)) ∧ (∀ i, IsReal (wq i)) ∧ ∀ (j : Fin 1024) (h : Fin 32) (d : Fin 128), IsReal (k (ix4 0 j h d)) := by
  have R := fun c => Cert.Pre_finite_KernelIdeal.Hand.real_of_pre _ _ _ _ _ (P c)
  refine ⟨fun i => ?_, fun i => ?_, fun j h d => ?_⟩
  · have := (R 0).1 i; rwa [G.x] at this
  · have := (R 0).2.1 i; rwa [G.wq] at this
  · have := (R ⟨h.val / 8, by show h.val / 8 < 4; omega⟩).2.2 (ix4 0 j ⟨h.val % 8, by omega⟩ d)
    rw [G.k] at this
    erw [block_heads] at this
    have e : (⟨8 * (h.val / 8) + h.val % 8, by omega⟩ : Fin 32) = h := Fin.ext (Nat.div_add_mod _ _)
    rwa [e] at this

/-- The kernel's result is the reference's. -/
theorem out_eq (G : Given m x wq k v wo) (hx : ∀ i, IsReal (x i)) (hwq : ∀ i, IsReal (wq i))
    (hk : ∀ (j : Fin 1024) (h : Fin 32) (d : Fin 128), IsReal (k (ix4 0 j h d))) :
    (shapeCast S1x1024x1024 (outV (inp m)) shapeCasts_S1024x1024_S1x1024x1024 : S1x1024x1024.Idx → EReal)
      = Cert.ReferenceIdeal.Hand.refOut x wq k v wo := by
  have key : ∀ i n : Fin 1024, (shapeCast S1x1024x1024 (outV (inp m)) shapeCasts_S1024x1024_S1x1024x1024 : S1x1024x1024.Idx → EReal) (ix3 0 i n)
      = Cert.ReferenceIdeal.Hand.refOut x wq k v wo (ix3 0 i n) := fun i n => by
    refine (cast_out (outV (inp m)) i n).trans ((outV_apply (holds_inp G) i n).trans ?_)
    rw [Cert.ReferenceIdeal.Hand.refOut_apply]
    refine Finset.sum_congr rfl fun c _ => congrArg (· * wo (ix2 c n)) ?_
    exact kerHead_eq _ _ _ _ (fun d => IsReal.sum fun l => (hx _).mul (hwq _)) fun j d => hk _ _ _
  funext i
  have e : i = ix3 (n0 := 1) 0 (i 1) (i 2) := by
    funext b
    match b with
    | 0 => exact Fin.ext (by have := (i 0).isLt; change (i 0).val < 1 at this; show (i 0).val = 0; omega)
    | 1 => rfl
    | 2 => rfl
  rw [e]
  exact key _ _

end

end Cert.KernelIdeal.Hand

end
-- ==== Proof.lean ====
/-
  The certificate: the kernel over machine floats and over extended reals, and the reference, run from any memory, end with
  every counter at zero and leave their arguments; and over extended reals the kernel's result on every device is the
  reference's, when the input, the query weights and the keys are finite.
-/
module

public import proofs.«01_k».proof.Defs
public import proofs.«01_k».proof.Proof.Gen.Kernel
public import proofs.«01_k».proof.Proof.Value
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel runs over any float values, ends quiescent and leaves its arguments. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Hand.run_main m ρ)

set_option backward.isDefEq.respectTransparency.types false in
/-- The two printings of the kernel have one body. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => exact rfl
  | ⟨_ + 1, h⟩, _ => exact absurd h (Nat.not_lt.2 (Nat.le_add_left _ _))
/-- And so the same definitions. -/
theorem defs_eq : Cert.Kernel.defs (F := Bits) = Cert.KernelIdeal.defs (F := Bits) :=
  congrArg (Pipeline.defs (Cert.Kernel.pcfgs (F := Bits))) bodies_eq

/-- At machine floats. -/
theorem frame_kernel : Cert.quiescent_Kernel (hKernel := Cert.Kernel.Gen.facts) := fun m ρ _ => by
  rw [defs_eq]
  exact frame_any (F := Bits) m ρ

/-- Over extended reals. -/
theorem frame_ideal : Cert.quiescent_KernelIdeal (hKernelIdeal := Cert.KernelIdeal.Gen.facts) := fun m ρ _ => frame_any (F := Ideal) m ρ

/-- The reference runs, ends quiescent and leaves its arguments. -/
theorem frame_reference : Cert.quiescent_ReferenceIdeal (hReferenceIdeal := Cert.ReferenceIdeal.Gen.facts) := fun m ρ _ =>
  (θ_run Cert.ReferenceIdeal.defs _ _).mono (fun _ h => ⟨fun c => (h c).2, funext fun g =>
      absurd (Finset.mem_univ g.2) (by rw [show (Finset.univ : Finset (SemLoc Cert.ReferenceIdeal.sig)) = ∅ from by decide]; exact Finset.notMem_empty _)⟩)
    (Cert.ReferenceIdeal.Value.run (F := Ideal) m ρ)

/-- From blocks of the same arrays, finite where the precondition says so, every device of the kernel ends with the
    reference's result. -/
theorem same_value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := fun m g m' g' P H => by
  have G : Cert.KernelIdeal.Hand.Given m _ _ _ _ _ :=
    ⟨fun c => (H c).1, fun c => (H c).2.1, fun c => (H c).2.2.1, fun c => (H c).2.2.2.1, fun c => (H c).2.2.2.2⟩
  obtain ⟨hx, hwq, hk⟩ := Cert.KernelIdeal.Hand.real_given G P
  have e := (Cert.KernelIdeal.Hand.out_eq G hx hwq hk).trans (Cert.ReferenceIdeal.Hand.res_eq m' 0).symm
  exact ⟨Cert.ReferenceIdeal.Value.res_main_v44 m' 0,
    (θ_run Cert.KernelIdeal.defs _ _).mono (fun _ h c => ⟨(h.1 c).1.trans e, (h.1 c).2⟩) (Cert.KernelIdeal.Hand.run_main (F := Ideal) m g),
    (θ_run Cert.ReferenceIdeal.defs _ _).mono (fun _ h => h 0) (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, same_value⟩

end Cert.Proof

end
